-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  IdealRules.named_const.Statement Cert.KernelIdeal.κ "score_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "score_scale" .f32 0x3E38AA3B#32 (((8 * (Real.log 2))⁻¹ : ℝ) : EReal)

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v61) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "score_scale" .f32 0x3E38AA3B#32 (((8 * (Real.log 2))⁻¹ : ℝ) : EReal)

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
-- ==== Pre_finite.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4x4352x1024 : S_.BroadcastsInDim S4x4352x1024 (![] : Fin 0 → Fin S4x4352x1024.rank)
  reducesTo_S4x4352x1024_S_d0_1_2 : S4x4352x1024.ReducesTo [0, 1, 2] S_

variable [Facts]

def fn_part1 {F : FTy → Type} [FloatOps F] (main_v13 : IVec S_ 1) (main_v16 : IVec S4x4352x1024 1) : IVec S_ 1 :=
  let main_c_5 : IVec S_ 1 := constantI S_ 1 1#1
  let main_v17 : IVec S_ 1 := (fun x v => Host.reduce IntOp.andi x v reducesTo_S4x4352x1024_S_d0_1_2 h_S_) main_v16 main_c_5
  let main_v18 : IVec S_ 1 := andi main_v13 main_v17
  main_v18

def fn {F : FTy → Type} [FloatOps F] (main_arg0 : FVec F S64 .f32) (main_arg1 : FVec F S64 .f32) (main_arg2 : FVec F S4x64 .f32) (main_arg3 : FVec F S4x4352x1024 .f32) (main_arg4 : FVec F S4x4352x1024 .f32) (main_arg5 : FVec F S4x4352x1024 .f32) (main_arg6 : FVec F S128 .f32) : IVec S_ 1 :=
  let main_v0 : FVec F S4x64 .f32 := Host.absf main_arg2
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S4x4352x1024 .f32 := Host.absf main_arg3
  let main_cst_0 : FVec F S_ .f32 := constant S_ .f32 0x7F800000#32
  let main_v5 : FVec F S4x4352x1024 .f32 := broadcastInDim S4x4352x1024 ![] bcast_S_S4x4352x1024 main_cst_0
  let main_v6 : IVec S4x4352x1024 1 := cmpf .olt main_v4 main_v5
  let main_c_1 : IVec S_ 1 := constantI S_ 1 1#1
  let main_v7 : IVec S_ 1 := (fun x v => Host.reduce IntOp.andi x v reducesTo_S4x4352x1024_S_d0_1_2 h_S_) main_v6 main_c_1
  let main_v8 : IVec S_ 1 := andi main_v3 main_v7
  let main_v9 : FVec F S4x4352x1024 .f32 := Host.absf main_arg4
  let main_cst_2 : FVec F S_ .f32 := constant S_ .f32 0x7F800000#32
  let main_v10 : FVec F S4x4352x1024 .f32 := broadcastInDim S4x4352x1024 ![] bcast_S_S4x4352x1024 main_cst_2
  let main_v11 : IVec S4x4352x1024 1 := cmpf .olt main_v9 main_v10
  let main_c_3 : IVec S_ 1 := constantI S_ 1 1#1
  let main_v12 : IVec S_ 1 := (fun x v => Host.reduce IntOp.andi x v reducesTo_S4x4352x1024_S_d0_1_2 h_S_) main_v11 main_c_3
  let main_v13 : IVec S_ 1 := andi main_v8 main_v12
  let main_v14 : FVec F S4x4352x1024 .f32 := Host.absf main_arg5
  let main_cst_4 : FVec F S_ .f32 := constant S_ .f32 0x7F800000#32
  let main_v15 : FVec F S4x4352x1024 .f32 := broadcastInDim S4x4352x1024 ![] bcast_S_S4x4352x1024 main_cst_4
  let main_v16 : IVec S4x4352x1024 1 := cmpf .olt main_v14 main_v15
  fn_part1 (F := F) main_v13 main_v16
-- ==== Kernel.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S4x1024x4352 : Shape := ⟨3, ![4, 1024, 4352]⟩
abbrev S_ : Shape := ⟨0, ![]⟩
abbrev S1 : Shape := ⟨1, ![1]⟩
abbrev S128x1 : Shape := ⟨2, ![128, 1]⟩
abbrev S4x4096x1024 : Shape := ⟨3, ![4, 4096, 1024]⟩
abbrev S1x256x128 : Shape := ⟨3, ![1, 256, 128]⟩
abbrev S1x4352x128 : Shape := ⟨3, ![1, 4352, 128]⟩
abbrev S1x128x4352 : Shape := ⟨3, ![1, 128, 4352]⟩
abbrev S1x1024x128 : Shape := ⟨3, ![1, 1024, 128]⟩
abbrev S1x64 : Shape := ⟨2, ![1, 64]⟩
abbrev S1x1x64 : Shape := ⟨3, ![1, 1, 64]⟩
abbrev S1x1x1 : Shape := ⟨3, ![1, 1, 1]⟩
abbrev S1x1 : Shape := ⟨2, ![1, 1]⟩
abbrev S256x128 : Shape := ⟨2, ![256, 128]⟩
abbrev S1024x128 : Shape := ⟨2, ![1024, 128]⟩
abbrev S1x128 : Shape := ⟨2, ![1, 128]⟩
abbrev S2048x128 : Shape := ⟨2, ![2048, 128]⟩
abbrev S1x2048 : Shape := ⟨2, ![1, 2048]⟩
abbrev S128x2048 : Shape := ⟨2, ![128, 2048]⟩
abbrev S1024x2048 : Shape := ⟨2, ![1024, 2048]⟩
abbrev S2048 : Shape := ⟨1, ![2048]⟩
abbrev S1x128x1024 : Shape := ⟨3, ![1, 128, 1024]⟩
abbrev S128x1024 : Shape := ⟨2, ![128, 1024]⟩
abbrev S256x2048 : Shape := ⟨2, ![256, 2048]⟩
abbrev S1x128x256 : Shape := ⟨3, ![1, 128, 256]⟩
abbrev S128x256 : Shape := ⟨2, ![128, 256]⟩
abbrev S1024 : Shape := ⟨1, ![1024]⟩
abbrev S1x1024 : Shape := ⟨2, ![1, 1024]⟩

abbrev nBuf : Space → Nat
  | .hbm => 24
  | .vmem => 16
  | .smem => 1
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S4x1024x4352, .f32⟩
  | .hbm, ⟨8, _⟩ => ⟨S4x1024x4352, .bf16⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .i32⟩
  | .hbm, ⟨21, _⟩ => ⟨S4x4352x1024, .bf16⟩
  | .hbm, ⟨22, _⟩ => ⟨S128x1, .f32⟩
  | .hbm, ⟨23, _⟩ => ⟨S4x4096x1024, .bf16⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x4352x128, .bf16⟩
  | .local _ .vmem, ⟨10, _⟩ => ⟨S1x4352x128, .bf16⟩
  | .local _ .vmem, ⟨11, _⟩ => ⟨S1x128x4352, .bf16⟩
  | .local _ .vmem, ⟨12, _⟩ => ⟨S1x128x4352, .bf16⟩
  | .local _ .vmem, ⟨13, _⟩ => ⟨S128x1, .f32⟩
  | .local _ .vmem, ⟨14, _⟩ => ⟨S1x1024x128, .bf16⟩
  | .local _ .vmem, ⟨15, _⟩ => ⟨S1x1024x128, .bf16⟩
  | .local _ .smem, ⟨0, _⟩ => ⟨S1, .i32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 4], ![false, false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_cond1 (v46 : BitVec 32) : BitVec 1 :=
  let c1_i32 : BitVec 32 := 1#32
  let v47 : BitVec 1 := Scalar.cmpi .eq v46 c1_i32
  let v48 : BitVec 32 := Scalar.extui v47
  let c0_i32 : BitVec 32 := 0#32
  let v49 : BitVec 1 := Scalar.cmpi .ne v48 c0_i32
  v49

def k0_cond2 (v50 : BitVec 32) : BitVec 1 :=
  let c1_i32_20 : BitVec 32 := 1#32
  let v51 : BitVec 1 := Scalar.cmpi .ne v50 c1_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c2_i32 : BitVec 32 := 2#32
  let v2 : BitVec 32 := Scalar.addi v1 c2_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c3_i32 : BitVec 32 := 3#32
  let v2 : BitVec 32 := Scalar.addi v1 c3_i32
  let c0_i32 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "score_scale" => some (((8 * (Real.log 2))⁻¹ : ℝ) : EReal)
  | _ => none
-- ==== ReferenceIdeal.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S1x64 : Shape := ⟨2, ![1, 64]⟩
abbrev S_ : Shape := ⟨0, ![]⟩
abbrev S4x4096x1024 : Shape := ⟨3, ![4, 4096, 1024]⟩
abbrev S4x4096x8x2x64 : Shape := ⟨5, ![4, 4096, 8, 2, 64]⟩
abbrev S4x4352x8x2x64 : Shape := ⟨5, ![4, 4352, 8, 2, 64]⟩
abbrev S4x4352x8x128 : Shape := ⟨4, ![4, 4352, 8, 128]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x128x4096 : Shape := ⟨4, ![4, 8, 128, 4096]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4096x1024, .f32⟩
  | .hbm, ⟨27, _⟩ => ⟨S4x4096x8x2x64, .f32⟩
  | .hbm, ⟨28, _⟩ => ⟨S4x4352x8x2x64, .f32⟩
  | .hbm, ⟨29, _⟩ => ⟨S4x4352x8x128, .f32⟩
  | .hbm, ⟨30, _⟩ => ⟨S4x8x2x4096x4352, .f32⟩
  | .hbm, ⟨31, _⟩ => ⟨S_, .f32⟩
  | .hbm, ⟨32, _⟩ => ⟨S4x8x2x4096x4352, .f32⟩
  | .hbm, ⟨33, _⟩ => ⟨S4x8x2x4096x4352, .f32⟩
  | .hbm, ⟨34, _⟩ => ⟨S_, .f32⟩
  | .hbm, ⟨35, _⟩ => ⟨S4x8x2x4096, .f32⟩
  | .hbm, ⟨36, _⟩ => ⟨S_, .f32⟩
  | .hbm, ⟨37, _⟩ => ⟨S4x8x2x4096, .f32⟩
  | .hbm, ⟨38, _⟩ => ⟨S4x8x2x4096, .f32⟩
  | .hbm, ⟨39, _⟩ => ⟨S4x8x2x4096x1, .f32⟩
  | .hbm, ⟨40, _⟩ => ⟨S4x8x2x4096x4352, .f32⟩
  | .hbm, ⟨41, _⟩ => ⟨S4x8x2x4096x4352, .f32⟩
  | .hbm, ⟨42, _⟩ => ⟨S4x8x2x4096x4352, .f32⟩
  | .hbm, ⟨43, _⟩ => ⟨S_, .f32⟩
  | .hbm, ⟨44, _⟩ => ⟨S4x8x2x4096, .f32⟩
  | .hbm, ⟨45, _⟩ => ⟨S4x8x2x4096x1, .f32⟩
  | .hbm, ⟨46, _⟩ => ⟨S4x8x2x4096x4352, .f32⟩
  | .hbm, ⟨47, _⟩ => ⟨S4x8x2x4096x4352, .f32⟩
  | .hbm, ⟨48, _⟩ => ⟨S4x8x1x4096x4352, .f32⟩
  | .hbm, ⟨49, _⟩ => ⟨S4x8x4096x4352, .f32⟩
  | .hbm, ⟨50, _⟩ => ⟨S4x8x1x4096x4352, .f32⟩
  | .hbm, ⟨51, _⟩ => ⟨S4x8x4096x4352, .f32⟩
  | .hbm, ⟨52, _⟩ => ⟨S4x8x4096x4352, .f32⟩
  | .hbm, ⟨53, _⟩ => ⟨S4x8x4096x4352, .f32⟩
  | .hbm, ⟨54, _⟩ => ⟨S4x8x4096x4352, .f32⟩
  | .hbm, ⟨55, _⟩ => ⟨S4x8x128x4096, .f32⟩
  | .hbm, ⟨56, _⟩ => ⟨S4x4096x8x128, .f32⟩
  | .hbm, ⟨57, _⟩ => ⟨S4x4096x8x128, .f32⟩
  | .hbm, ⟨58, _⟩ => ⟨S_, .f32⟩
  | .hbm, ⟨59, _⟩ => ⟨S4x4096x8, .f32⟩
  | .hbm, ⟨60, _⟩ => ⟨S4x4096x8x1, .f32⟩
  | .hbm, ⟨61, _⟩ => ⟨S_, .f32⟩
  | .hbm, ⟨62, _⟩ => ⟨S4x4096x8x1, .f32⟩
  | .hbm, ⟨63, _⟩ => ⟨S4x4096x8x1, .f32⟩
  | .hbm, ⟨64, _⟩ => ⟨S_, .f32⟩
  | .hbm, ⟨65, _⟩ => ⟨S4x4096x8x1, .f32⟩
  | .hbm, ⟨66, _⟩ => ⟨S4x4096x8x1, .f32⟩
  | .hbm, ⟨67, _⟩ => ⟨S4x4096x8x1, .f32⟩
  | .hbm, ⟨68, _⟩ => ⟨S4x4096x8x128, .f32⟩
  | .hbm, ⟨69, _⟩ => ⟨S4x4096x8x128, .f32⟩
  | .hbm, ⟨70, _⟩ => ⟨S1x1x1x128, .f32⟩
  | .hbm, ⟨71, _⟩ => ⟨S4x4096x8x128, .f32⟩
  | .hbm, ⟨72, _⟩ => ⟨S4x4096x8x128, .f32⟩
  | .hbm, ⟨73, _⟩ => ⟨S_, .f32⟩
  | .hbm, ⟨74, _⟩ => ⟨S4x4096x8x128, .f32⟩
  | .hbm, ⟨75, _⟩ => ⟨S4x4096x8x128, .f32⟩
  | .hbm, ⟨76, _⟩ => ⟨S4x4096x1024, .f32⟩
  | .hbm, ⟨77, _⟩ => ⟨S4x4096x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel2.lean ====
abbrev S17408x1024 : Shape := ⟨2, ![17408, 1024]⟩
abbrev S1024x11808 : Shape := ⟨2, ![1024, 11808]⟩
abbrev S1024x3072 : Shape := ⟨2, ![1024, 3072]⟩
abbrev S1024x2592 : Shape := ⟨2, ![1024, 2592]⟩
abbrev S_ : Shape := ⟨0, ![]⟩
abbrev S1024x480 : Shape := ⟨2, ![1024, 480]⟩
abbrev S1024x12288 : Shape := ⟨2, ![1024, 12288]⟩
abbrev S17408x12288 : Shape := ⟨2, ![17408, 12288]⟩
abbrev S2176x1024 : Shape := ⟨2, ![2176, 1024]⟩
abbrev S1024x2048 : Shape := ⟨2, ![1024, 2048]⟩
abbrev S2176x2048 : Shape := ⟨2, ![2176, 2048]⟩

abbrev nBuf : Space → Nat
  | .hbm => 12
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S1024x11808, .f32⟩
  | .hbm, ⟨2, _⟩ => ⟨S17408x1024, .bf16⟩
  | .hbm, ⟨3, _⟩ => ⟨S1024x11808, .bf16⟩
  | .hbm, ⟨4, _⟩ => ⟨S1024x3072, .bf16⟩
  | .hbm, ⟨5, _⟩ => ⟨S1024x3072, .bf16⟩
  | .hbm, ⟨6, _⟩ => ⟨S1024x3072, .bf16⟩
  | .hbm, ⟨7, _⟩ => ⟨S1024x2592, .bf16⟩
  | .hbm, ⟨8, _⟩ => ⟨S_, .bf16⟩
  | .hbm, ⟨9, _⟩ => ⟨S1024x480, .bf16⟩
  | .hbm, ⟨10, _⟩ => ⟨S1024x12288, .bf16⟩
  | .hbm, ⟨11, _⟩ => ⟨S17408x12288, .bf16⟩
  | .local _ .vmem, ⟨0, _⟩ => ⟨S2176x1024, .bf16⟩
  | .local _ .vmem, ⟨1, _⟩ => ⟨S2176x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2176x2048, .bf16⟩
  | .local _ .vmem, ⟨5, _⟩ => ⟨S2176x2048, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S17408x1024 : Shape := ⟨2, ![17408, 1024]⟩
abbrev S1024x11808 : Shape := ⟨2, ![1024, 11808]⟩
abbrev S17408x11808 : Shape := ⟨2, ![17408, 11808]⟩
abbrev S17408x3072 : Shape := ⟨2, ![17408, 3072]⟩
abbrev S17408x2592 : Shape := ⟨2, ![17408, 2592]⟩
abbrev S_ : Shape := ⟨0, ![]⟩
abbrev S17408x480 : Shape := ⟨2, ![17408, 480]⟩
abbrev S17408x12288 : Shape := ⟨2, ![17408, 12288]⟩

abbrev nBuf : Space → Nat
  | .hbm => 11
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024x11808, .f32⟩
  | .hbm, ⟨2, _⟩ => ⟨S17408x11808, .f32⟩
  | .hbm, ⟨3, _⟩ => ⟨S17408x3072, .f32⟩
  | .hbm, ⟨4, _⟩ => ⟨S17408x2592, .f32⟩
  | .hbm, ⟨5, _⟩ => ⟨S17408x3072, .f32⟩
  | .hbm, ⟨6, _⟩ => ⟨S17408x3072, .f32⟩
  | .hbm, ⟨7, _⟩ => ⟨S_, .f32⟩
  | .hbm, ⟨8, _⟩ => ⟨S17408x480, .f32⟩
  | .hbm, ⟨9, _⟩ => ⟨S17408x12288, .f32⟩
  | .hbm, ⟨10, _⟩ => ⟨S17408x12288, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S17408x1024 : Shape := ⟨2, ![17408, 1024]⟩
abbrev S1024x4096 : Shape := ⟨2, ![1024, 4096]⟩
abbrev S4096x1024 : Shape := ⟨2, ![4096, 1024]⟩
abbrev S8x6144 : Shape := ⟨2, ![8, 6144]⟩
abbrev S48x1x1024 : Shape := ⟨3, ![48, 1, 1024]⟩
abbrev S1088x1024 : Shape := ⟨2, ![1088, 1024]⟩
abbrev S1024x1024 : Shape := ⟨2, ![1024, 1024]⟩
abbrev S1x1x1024 : Shape := ⟨3, ![1, 1, 1024]⟩
abbrev S1088x1 : Shape := ⟨2, ![1088, 1]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S17408x1024, .f32⟩
  | .hbm, ⟨5, _⟩ => ⟨S8x6144, .f32⟩
  | .hbm, ⟨6, _⟩ => ⟨S48x1x1024, .f32⟩
  | .hbm, ⟨7, _⟩ => ⟨S17408x1024, .bf16⟩
  | .hbm, ⟨8, _⟩ => ⟨S1024x4096, .bf16⟩
  | .hbm, ⟨9, _⟩ => ⟨S1024x4096, .bf16⟩
  | .hbm, ⟨10, _⟩ => ⟨S4096x1024, .bf16⟩
  | .hbm, ⟨11, _⟩ => ⟨S17408x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1088x1024, .f32⟩
  | .local _ .vmem, ⟨9, _⟩ => ⟨S1088x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1088x1024, .f32⟩
  | .local _ .vmem, ⟨14, _⟩ => ⟨S1088x1024, .f32⟩
  | .local _ .vmem, ⟨15, _⟩ => ⟨S1088x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c5_i32 : BitVec 32 := 5#32
  let v19 : BitVec 32 := Scalar.addi v18 c5_i32
  let c0_i32_5 : BitVec 32 := 0#32
  let c0_i32_6 : BitVec 32 := 0#32
  let c0_i32_7 : BitVec 32 := 0#32
  ![v19.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S17408x1024 : Shape := ⟨2, ![17408, 1024]⟩
abbrev S1024x4096 : Shape := ⟨2, ![1024, 4096]⟩
abbrev S4096x1024 : Shape := ⟨2, ![4096, 1024]⟩
abbrev S8x6144 : Shape := ⟨2, ![8, 6144]⟩
abbrev S1x6144 : Shape := ⟨2, ![1, 6144]⟩
abbrev S6144 : Shape := ⟨1, ![6144]⟩
abbrev S1024 : Shape := ⟨1, ![1024]⟩
abbrev S4x6144 : Shape := ⟨2, ![4, 6144]⟩
abbrev S4x1x6144 : Shape := ⟨3, ![4, 1, 6144]⟩
abbrev S4x1x1024 : Shape := ⟨3, ![4, 1, 1024]⟩
abbrev S17408x4096 : Shape := ⟨2, ![17408, 4096]⟩
abbrev S_ : Shape := ⟨0, ![]⟩
abbrev S4x4352x1024 : Shape := ⟨3, ![4, 4352, 1024]⟩
abbrev S4x256x1024 : Shape := ⟨3, ![4, 256, 1024]⟩
abbrev S1x1x1024 : Shape := ⟨3, ![1, 1, 1024]⟩
abbrev S4x4096x1024 : Shape := ⟨3, ![4, 4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S17408x1024, .f32⟩
  | .hbm, ⟨5, _⟩ => ⟨S8x6144, .f32⟩
  | .hbm, ⟨6, _⟩ => ⟨S1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S4x6144, .f32⟩
  | .hbm, ⟨15, _⟩ => ⟨S4x1x6144, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S17408x4096, .f32⟩
  | .hbm, ⟨23, _⟩ => ⟨S17408x4096, .f32⟩
  | .hbm, ⟨24, _⟩ => ⟨S17408x4096, .f32⟩
  | .hbm, ⟨25, _⟩ => ⟨S_, .f32⟩
  | .hbm, ⟨26, _⟩ => ⟨S17408x4096, .f32⟩
  | .hbm, ⟨27, _⟩ => ⟨S17408x4096, .f32⟩
  | .hbm, ⟨28, _⟩ => ⟨S_, .f32⟩
  | .hbm, ⟨29, _⟩ => ⟨S17408x4096, .f32⟩
  | .hbm, ⟨30, _⟩ => ⟨S17408x4096, .f32⟩
  | .hbm, ⟨31, _⟩ => ⟨S17408x4096, .f32⟩
  | .hbm, ⟨32, _⟩ => ⟨S17408x4096, .f32⟩
  | .hbm, ⟨33, _⟩ => ⟨S17408x4096, .f32⟩
  | .hbm, ⟨34, _⟩ => ⟨S17408x1024, .f32⟩
  | .hbm, ⟨35, _⟩ => ⟨S4x4352x1024, .f32⟩
  | .hbm, ⟨36, _⟩ => ⟨S4x4352x1024, .f32⟩
  | .hbm, ⟨37, _⟩ => ⟨S4x256x1024, .f32⟩
  | .hbm, ⟨38, _⟩ => ⟨S4x256x1024, .f32⟩
  | .hbm, ⟨39, _⟩ => ⟨S1x1x1024, .f32⟩
  | .hbm, ⟨40, _⟩ => ⟨S4x256x1024, .f32⟩
  | .hbm, ⟨41, _⟩ => ⟨S4x256x1024, .f32⟩
  | .hbm, ⟨42, _⟩ => ⟨S4x256x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4352x1024, .f32⟩
  | .hbm, ⟨49, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel4.lean ====
abbrev S17408x1024 : Shape := ⟨2, ![17408, 1024]⟩
abbrev S16384x1024 : Shape := ⟨2, ![16384, 1024]⟩
abbrev S1024x1024 : Shape := ⟨2, ![1024, 1024]⟩
abbrev S17408x12288 : Shape := ⟨2, ![17408, 12288]⟩
abbrev S3x1024x1024 : Shape := ⟨3, ![3, 1024, 1024]⟩
abbrev S8x6144 : Shape := ⟨2, ![8, 6144]⟩
abbrev S1024 : Shape := ⟨1, ![1024]⟩
abbrev S48x1x1024 : Shape := ⟨3, ![48, 1, 1024]⟩
abbrev S1x1024 : Shape := ⟨2, ![1, 1024]⟩
abbrev S256x1024 : Shape := ⟨2, ![256, 1024]⟩
abbrev S1x1x1024 : Shape := ⟨3, ![1, 1, 1024]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 21
  | .vmem => 29
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S16384x1024, .f32⟩
  | .hbm, ⟨3, _⟩ => ⟨S1024x1024, .f32⟩
  | .hbm, ⟨4, _⟩ => ⟨S17408x12288, .f32⟩
  | .hbm, ⟨5, _⟩ => ⟨S17408x1024, .f32⟩
  | .hbm, ⟨6, _⟩ => ⟨S3x1024x1024, .f32⟩
  | .hbm, ⟨7, _⟩ => ⟨S1024x1024, .f32⟩
  | .hbm, ⟨8, _⟩ => ⟨S8x6144, .f32⟩
  | .hbm, ⟨9, _⟩ => ⟨S1024, .f32⟩
  | .hbm, ⟨10, _⟩ => ⟨S48x1x1024, .f32⟩
  | .hbm, ⟨11, _⟩ => ⟨S3x1024x1024, .bf16⟩
  | .hbm, ⟨12, _⟩ => ⟨S1024x1024, .bf16⟩
  | .hbm, ⟨13, _⟩ => ⟨S17408x1024, .bf16⟩
  | .hbm, ⟨14, _⟩ => ⟨S17408x1024, .bf16⟩
  | .hbm, ⟨15, _⟩ => ⟨S16384x1024, .bf16⟩
  | .hbm, ⟨16, _⟩ => ⟨S1024x1024, .bf16⟩
  | .hbm, ⟨17, _⟩ => ⟨S17408x12288, .bf16⟩
  | .hbm, ⟨18, _⟩ => ⟨S1x1024, .f32⟩
  | .hbm, ⟨19, _⟩ => ⟨S17408x1024, .f32⟩
  | .hbm, ⟨20, _⟩ => ⟨S17408x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S3x1024x1024, .bf16⟩
  | .local _ .vmem, ⟨17, _⟩ => ⟨S1024x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_3 (i : grid0.Coords) : Fin 2 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c6_i32 : BitVec 32 := 6#32
  let v30 : BitVec 32 := Scalar.muli v29 c6_i32
  let c2_i32 : BitVec 32 := 2#32
  let v31 : BitVec 32 := Scalar.addi v30 c2_i32
  let c0_i32_13 : BitVec 32 := 0#32
  let c0_i32_14 : BitVec 32 := 0#32
  let c0_i32_15 : BitVec 32 := 0#32
  ![v31.toNat, c0_i32_13.toNat, c0_i32_14.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c6_i32 : BitVec 32 := 6#32
  let v30 : BitVec 32 := Scalar.muli v29 c6_i32
  let c3_i32 : BitVec 32 := 3#32
  let v31 : BitVec 32 := Scalar.addi v30 c3_i32
  let c0_i32_13 : BitVec 32 := 0#32
  let c0_i32_14 : BitVec 32 := 0#32
  let c0_i32_15 : BitVec 32 := 0#32
  ![v31.toNat, c0_i32_13.toNat, c0_i32_14.toNat]

def cc0_transform_13 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c6_i32 : BitVec 32 := 6#32
  let v30 : BitVec 32 := Scalar.muli v29 c6_i32
  let c4_i32 : BitVec 32 := 4#32
  let v31 : BitVec 32 := Scalar.addi v30 c4_i32
  let c0_i32_13 : BitVec 32 := 0#32
  let c0_i32_14 : BitVec 32 := 0#32
  let c0_i32_15 : BitVec 32 := 0#32
  ![v31.toNat, c0_i32_13.toNat, c0_i32_14.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S17408x1024 : Shape := ⟨2, ![17408, 1024]⟩
abbrev S16384x1024 : Shape := ⟨2, ![16384, 1024]⟩
abbrev S1024x1024 : Shape := ⟨2, ![1024, 1024]⟩
abbrev S17408x12288 : Shape := ⟨2, ![17408, 12288]⟩
abbrev S3x1024x1024 : Shape := ⟨3, ![3, 1024, 1024]⟩
abbrev S8x6144 : Shape := ⟨2, ![8, 6144]⟩
abbrev S1024 : Shape := ⟨1, ![1024]⟩
abbrev S1x6144 : Shape := ⟨2, ![1, 6144]⟩
abbrev S6144 : Shape := ⟨1, ![6144]⟩
abbrev S4x6144 : Shape := ⟨2, ![4, 6144]⟩
abbrev S4x1x6144 : Shape := ⟨3, ![4, 1, 6144]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S4x4352x1x1024 : Shape := ⟨4, ![4, 4352, 1, 1024]⟩
abbrev S4x4352x3x1024 : Shape := ⟨4, ![4, 4352, 3, 1024]⟩
abbrev S17408x3072 : Shape := ⟨2, ![17408, 3072]⟩
abbrev S3x1024x4x4352 : Shape := ⟨4, ![3, 1024, 4, 4352]⟩
abbrev S_ : Shape := ⟨0, ![]⟩
abbrev S1x1x1024 : Shape := ⟨3, ![1, 1, 1024]⟩
abbrev S4x256 : Shape := ⟨2, ![4, 256]⟩
abbrev S4x256x1 : Shape := ⟨3, ![4, 256, 1]⟩
abbrev S4x4096 : Shape := ⟨2, ![4, 4096]⟩
abbrev S4x4096x1 : Shape := ⟨3, ![4, 4096, 1]⟩

abbrev nBuf : Space → Nat
  | .hbm => 116
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S16384x1024, .f32⟩
  | .hbm, ⟨3, _⟩ => ⟨S1024x1024, .f32⟩
  | .hbm, ⟨4, _⟩ => ⟨S17408x12288, .f32⟩
  | .hbm, ⟨5, _⟩ => ⟨S17408x1024, .f32⟩
  | .hbm, ⟨6, _⟩ => ⟨S3x1024x1024, .f32⟩
  | .hbm, ⟨7, _⟩ => ⟨S1024x1024, .f32⟩
  | .hbm, ⟨8, _⟩ => ⟨S8x6144, .f32⟩
  | .hbm, ⟨9, _⟩ => ⟨S1024, .f32⟩
  | .hbm, ⟨10, _⟩ => ⟨S1x6144, .f32⟩
  | .hbm, ⟨11, _⟩ => ⟨S6144, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S4x6144, .f32⟩
  | .hbm, ⟨19, _⟩ => ⟨S4x1x6144, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S4x256x1024, .f32⟩
  | .hbm, ⟨27, _⟩ => ⟨S4x4096x1024, .f32⟩
  | .hbm, ⟨28, _⟩ => ⟨S4x4352x1024, .f32⟩
  | .hbm, ⟨29, _⟩ => ⟨S4x4352x1024, .f32⟩
  | .hbm, ⟨30, _⟩ => ⟨S4x4352x1024, .f32⟩
  | .hbm, ⟨31, _⟩ => ⟨S4x4352x1x1024, .f32⟩
  | .hbm, ⟨32, _⟩ => ⟨S4x4352x1x1024, .f32⟩
  | .hbm, ⟨33, _⟩ => ⟨S4x4352x1x1024, .f32⟩
  | .hbm, ⟨34, _⟩ => ⟨S4x4352x3x1024, .f32⟩
  | .hbm, ⟨35, _⟩ => ⟨S17408x3072, .f32⟩
  | .hbm, ⟨36, _⟩ => ⟨S4x4352x3x1024, .f32⟩
  | .hbm, ⟨37, _⟩ => ⟨S3x1024x4x4352, .f32⟩
  | .hbm, ⟨38, _⟩ => ⟨S4x4352x3x1024, .f32⟩
  | .hbm, ⟨39, _⟩ => ⟨S4x4352x3x1024, .f32⟩
  | .hbm, ⟨40, _⟩ => ⟨S4x4352x3x1024, .f32⟩
  | .hbm, ⟨41, _⟩ => ⟨S_, .f32⟩
  | .hbm, ⟨42, _⟩ => ⟨S4x4352x3x1024, .f32⟩
  | .hbm, ⟨43, _⟩ => ⟨S4x4352x3x1024, .f32⟩
  | .hbm, ⟨44, _⟩ => ⟨S_, .f32⟩
  | .hbm, ⟨45, _⟩ => ⟨S4x4352x3x1024, .f32⟩
  | .hbm, ⟨46, _⟩ => ⟨S4x4352x3x1024, .f32⟩
  | .hbm, ⟨47, _⟩ => ⟨S4x4352x3x1024, .f32⟩
  | .hbm, ⟨48, _⟩ => ⟨S_, .f32⟩
  | .hbm, ⟨49, _⟩ => ⟨S4x4352x1024, .f32⟩
  | .hbm, ⟨50, _⟩ => ⟨S4x4352x1024, .f32⟩
  | .hbm, ⟨51, _⟩ => ⟨S4x4352x1024, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S4x256x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x256x1024, .f32⟩
  | .hbm, ⟨64, _⟩ => ⟨S_, .f32⟩
  | .hbm, ⟨65, _⟩ => ⟨S4x256, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S_, .f32⟩
  | .hbm, ⟨71, _⟩ => ⟨S4x256x1, .f32⟩
  | .hbm, ⟨72, _⟩ => ⟨S4x256x1, .f32⟩
  | .hbm, ⟨73, _⟩ => ⟨S4x256x1, .f32⟩
  | .hbm, ⟨74, _⟩ => ⟨S4x256x1024, .f32⟩
  | .hbm, ⟨75, _⟩ => ⟨S4x256x1024, .f32⟩
  | .hbm, ⟨76, _⟩ => ⟨S1x1x1024, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1x1x1024, .f32⟩
  | .hbm, ⟨83, _⟩ => ⟨S4x256x1024, .f32⟩
  | .hbm, ⟨84, _⟩ => ⟨S4x256x1024, .f32⟩
  | .hbm, ⟨85, _⟩ => ⟨S1x1x1024, .f32⟩
  | .hbm, ⟨86, _⟩ => ⟨S4x256x1024, .f32⟩
  | .hbm, ⟨87, _⟩ => ⟨S4x256x1024, .f32⟩
  | .hbm, ⟨88, _⟩ => ⟨S4x4096x1024, .f32⟩
  | .hbm, ⟨89, _⟩ => ⟨S_, .f32⟩
  | .hbm, ⟨90, _⟩ => ⟨S4x4096, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S4x4096x1, .f32⟩
  | .hbm, ⟨99, _⟩ => ⟨S4x4096x1024, .f32⟩
  | .hbm, ⟨100, _⟩ => ⟨S4x4096x1024, .f32⟩
  | .hbm, ⟨101, _⟩ => ⟨S1x1x1024, .f32⟩
  | .hbm, ⟨102, _⟩ => ⟨S4x4096x1024, .f32⟩
  | .hbm, ⟨103, _⟩ => ⟨S4x4096x1024, .f32⟩
  | .hbm, ⟨104, _⟩ => ⟨S_, .f32⟩
  | .hbm, ⟨105, _⟩ => ⟨S4x1x1024, .f32⟩
  | .hbm, ⟨106, _⟩ => ⟨S4x1x1024, .f32⟩
  | .hbm, ⟨107, _⟩ => ⟨S4x4096x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S4x4352x1024, .f32⟩
  | .hbm, ⟨112, _⟩ => ⟨S4x4352x1024, .f32⟩
  | .hbm, ⟨113, _⟩ => ⟨S17408x1024, .f32⟩
  | .hbm, ⟨114, _⟩ => ⟨S17408x1024, .f32⟩
  | .hbm, ⟨115, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩

abbrev nD : Nat := 1
abbrev τ : Topo := Topo.v7x

variable {F : FTy → Type} [FloatOps F]
-- ==== Kernel5.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S4x1024x4352 : Shape := ⟨3, ![4, 1024, 4352]⟩
abbrev S_ : Shape := ⟨0, ![]⟩
abbrev S1 : Shape := ⟨1, ![1]⟩
abbrev S128x1 : Shape := ⟨2, ![128, 1]⟩
abbrev S4x4096x1024 : Shape := ⟨3, ![4, 4096, 1024]⟩
abbrev S1x256x128 : Shape := ⟨3, ![1, 256, 128]⟩
abbrev S1x4352x128 : Shape := ⟨3, ![1, 4352, 128]⟩
abbrev S1x128x4352 : Shape := ⟨3, ![1, 128, 4352]⟩
abbrev S1x1024x128 : Shape := ⟨3, ![1, 1024, 128]⟩
abbrev S1x64 : Shape := ⟨2, ![1, 64]⟩
abbrev S1x1x64 : Shape := ⟨3, ![1, 1, 64]⟩
abbrev S1x1x1 : Shape := ⟨3, ![1, 1, 1]⟩
abbrev S1x1 : Shape := ⟨2, ![1, 1]⟩
abbrev S256x128 : Shape := ⟨2, ![256, 128]⟩
abbrev S1024x128 : Shape := ⟨2, ![1024, 128]⟩
abbrev S1x128 : Shape := ⟨2, ![1, 128]⟩
abbrev S2048x128 : Shape := ⟨2, ![2048, 128]⟩
abbrev S1x2048 : Shape := ⟨2, ![1, 2048]⟩
abbrev S128x2048 : Shape := ⟨2, ![128, 2048]⟩
abbrev S1024x2048 : Shape := ⟨2, ![1024, 2048]⟩
abbrev S2048 : Shape := ⟨1, ![2048]⟩
abbrev S1x128x1024 : Shape := ⟨3, ![1, 128, 1024]⟩
abbrev S128x1024 : Shape := ⟨2, ![128, 1024]⟩
abbrev S256x2048 : Shape := ⟨2, ![256, 2048]⟩
abbrev S1x128x256 : Shape := ⟨3, ![1, 128, 256]⟩
abbrev S128x256 : Shape := ⟨2, ![128, 256]⟩
abbrev S1024 : Shape := ⟨1, ![1024]⟩
abbrev S1x1024 : Shape := ⟨2, ![1, 1024]⟩

abbrev nBuf : Space → Nat
  | .hbm => 24
  | .vmem => 16
  | .smem => 1
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S4x1024x4352, .f32⟩
  | .hbm, ⟨8, _⟩ => ⟨S4x1024x4352, .bf16⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .i32⟩
  | .hbm, ⟨21, _⟩ => ⟨S4x4352x1024, .bf16⟩
  | .hbm, ⟨22, _⟩ => ⟨S128x1, .f32⟩
  | .hbm, ⟨23, _⟩ => ⟨S4x4096x1024, .bf16⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x4352x128, .bf16⟩
  | .local _ .vmem, ⟨10, _⟩ => ⟨S1x4352x128, .bf16⟩
  | .local _ .vmem, ⟨11, _⟩ => ⟨S1x128x4352, .bf16⟩
  | .local _ .vmem, ⟨12, _⟩ => ⟨S1x128x4352, .bf16⟩
  | .local _ .vmem, ⟨13, _⟩ => ⟨S128x1, .f32⟩
  | .local _ .vmem, ⟨14, _⟩ => ⟨S1x1024x128, .bf16⟩
  | .local _ .vmem, ⟨15, _⟩ => ⟨S1x1024x128, .bf16⟩
  | .local _ .smem, ⟨0, _⟩ => ⟨S1, .i32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 8, 4], ![false, false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_cond1 (v46 : BitVec 32) : BitVec 1 :=
  let c1_i32 : BitVec 32 := 1#32
  let v47 : BitVec 1 := Scalar.cmpi .eq v46 c1_i32
  let v48 : BitVec 32 := Scalar.extui v47
  let c0_i32 : BitVec 32 := 0#32
  let v49 : BitVec 1 := Scalar.cmpi .ne v48 c0_i32
  v49

def k0_cond2 (v50 : BitVec 32) : BitVec 1 :=
  let c1_i32_20 : BitVec 32 := 1#32
  let v51 : BitVec 1 := Scalar.cmpi .ne v50 c1_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c2_i32 : BitVec 32 := 2#32
  let v2 : BitVec 32 := Scalar.addi v1 c2_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.addi c1_i32 v0
  let c3_i32 : BitVec 32 := 3#32
  let v2 : BitVec 32 := Scalar.addi v1 c3_i32
  let c0_i32 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel5Ideal.lean ====
variable {F : FTy → Type} [FloatOps F] [Named F]
def κ : String → Option EReal := fun
  | "score_scale" => some (((8 * (Real.log 2))⁻¹ : ℝ) : EReal)
  | _ => none
-- ==== Reference5Ideal.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S1x64 : Shape := ⟨2, ![1, 64]⟩
abbrev S_ : Shape := ⟨0, ![]⟩
abbrev S4x4096x1024 : Shape := ⟨3, ![4, 4096, 1024]⟩
abbrev S4x4096x8x2x64 : Shape := ⟨5, ![4, 4096, 8, 2, 64]⟩
abbrev S4x4352x8x2x64 : Shape := ⟨5, ![4, 4352, 8, 2, 64]⟩
abbrev S4x4352x8x128 : Shape := ⟨4, ![4, 4352, 8, 128]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x128x4096 : Shape := ⟨4, ![4, 8, 128, 4096]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4096x1024, .f32⟩
  | .hbm, ⟨27, _⟩ => ⟨S4x4096x8x2x64, .f32⟩
  | .hbm, ⟨28, _⟩ => ⟨S4x4352x8x2x64, .f32⟩
  | .hbm, ⟨29, _⟩ => ⟨S4x4352x8x128, .f32⟩
  | .hbm, ⟨30, _⟩ => ⟨S4x8x2x4096x4352, .f32⟩
  | .hbm, ⟨31, _⟩ => ⟨S_, .f32⟩
  | .hbm, ⟨32, _⟩ => ⟨S4x8x2x4096x4352, .f32⟩
  | .hbm, ⟨33, _⟩ => ⟨S4x8x2x4096x4352, .f32⟩
  | .hbm, ⟨34, _⟩ => ⟨S_, .f32⟩
  | .hbm, ⟨35, _⟩ => ⟨S4x8x2x4096, .f32⟩
  | .hbm, ⟨36, _⟩ => ⟨S_, .f32⟩
  | .hbm, ⟨37, _⟩ => ⟨S4x8x2x4096, .f32⟩
  | .hbm, ⟨38, _⟩ => ⟨S4x8x2x4096, .f32⟩
  | .hbm, ⟨39, _⟩ => ⟨S4x8x2x4096x1, .f32⟩
  | .hbm, ⟨40, _⟩ => ⟨S4x8x2x4096x4352, .f32⟩
  | .hbm, ⟨41, _⟩ => ⟨S4x8x2x4096x4352, .f32⟩
  | .hbm, ⟨42, _⟩ => ⟨S4x8x2x4096x4352, .f32⟩
  | .hbm, ⟨43, _⟩ => ⟨S_, .f32⟩
  | .hbm, ⟨44, _⟩ => ⟨S4x8x2x4096, .f32⟩
  | .hbm, ⟨45, _⟩ => ⟨S4x8x2x4096x1, .f32⟩
  | .hbm, ⟨46, _⟩ => ⟨S4x8x2x4096x4352, .f32⟩
  | .hbm, ⟨47, _⟩ => ⟨S4x8x2x4096x4352, .f32⟩
  | .hbm, ⟨48, _⟩ => ⟨S4x8x1x4096x4352, .f32⟩
  | .hbm, ⟨49, _⟩ => ⟨S4x8x4096x4352, .f32⟩
  | .hbm, ⟨50, _⟩ => ⟨S4x8x1x4096x4352, .f32⟩
  | .hbm, ⟨51, _⟩ => ⟨S4x8x4096x4352, .f32⟩
  | .hbm, ⟨52, _⟩ => ⟨S4x8x4096x4352, .f32⟩
  | .hbm, ⟨53, _⟩ => ⟨S4x8x4096x4352, .f32⟩
  | .hbm, ⟨54, _⟩ => ⟨S4x8x4096x4352, .f32⟩
  | .hbm, ⟨55, _⟩ => ⟨S4x8x128x4096, .f32⟩
  | .hbm, ⟨56, _⟩ => ⟨S4x4096x8x128, .f32⟩
  | .hbm, ⟨57, _⟩ => ⟨S4x4096x8x128, .f32⟩
  | .hbm, ⟨58, _⟩ => ⟨S_, .f32⟩
  | .hbm, ⟨59, _⟩ => ⟨S4x4096x8, .f32⟩
  | .hbm, ⟨60, _⟩ => ⟨S4x4096x8x1, .f32⟩
  | .hbm, ⟨61, _⟩ => ⟨S_, .f32⟩
  | .hbm, ⟨62, _⟩ => ⟨S4x4096x8x1, .f32⟩
  | .hbm, ⟨63, _⟩ => ⟨S4x4096x8x1, .f32⟩
  | .hbm, ⟨64, _⟩ => ⟨S_, .f32⟩
  | .hbm, ⟨65, _⟩ => ⟨S4x4096x8x1, .f32⟩
  | .hbm, ⟨66, _⟩ => ⟨S4x4096x8x1, .f32⟩
  | .hbm, ⟨67, _⟩ => ⟨S4x4096x8x1, .f32⟩
  | .hbm, ⟨68, _⟩ => ⟨S4x4096x8x128, .f32⟩
  | .hbm, ⟨69, _⟩ => ⟨S4x4096x8x128, .f32⟩
  | .hbm, ⟨70, _⟩ => ⟨S1x1x1x128, .f32⟩
  | .hbm, ⟨71, _⟩ => ⟨S4x4096x8x128, .f32⟩
  | .hbm, ⟨72, _⟩ => ⟨S4x4096x8x128, .f32⟩
  | .hbm, ⟨73, _⟩ => ⟨S_, .f32⟩
  | .hbm, ⟨74, _⟩ => ⟨S4x4096x8x128, .f32⟩
  | .hbm, ⟨75, _⟩ => ⟨S4x4096x8x128, .f32⟩
  | .hbm, ⟨76, _⟩ => ⟨S4x4096x1024, .f32⟩
  | .hbm, ⟨77, _⟩ => ⟨S4x4096x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel6.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S17408x1024 : Shape := ⟨2, ![17408, 1024]⟩
abbrev S1024 : Shape := ⟨1, ![1024]⟩
abbrev S8x6144 : Shape := ⟨2, ![8, 6144]⟩
abbrev S1x1024 : Shape := ⟨2, ![1, 1024]⟩
abbrev S48x1x1024 : Shape := ⟨3, ![48, 1, 1024]⟩
abbrev S1088x1024 : Shape := ⟨2, ![1088, 1024]⟩
abbrev S1x1x1024 : Shape := ⟨3, ![1, 1, 1024]⟩
abbrev S1088x1 : Shape := ⟨2, ![1088, 1]⟩
abbrev S1088 : Shape := ⟨1, ![1088]⟩

abbrev nBuf : Space → Nat
  | .hbm => 6
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S8x6144, .f32⟩
  | .hbm, ⟨3, _⟩ => ⟨S1x1024, .f32⟩
  | .hbm, ⟨4, _⟩ => ⟨S48x1x1024, .f32⟩
  | .hbm, ⟨5, _⟩ => ⟨S17408x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1088x1024, .bf16⟩
  | .local _ .vmem, ⟨10, _⟩ => ⟨S1088x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c6_i32 : BitVec 32 := 6#32
  let v18 : BitVec 32 := Scalar.muli v17 c6_i32
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S17408x1024 : Shape := ⟨2, ![17408, 1024]⟩
abbrev S1024 : Shape := ⟨1, ![1024]⟩
abbrev S8x6144 : Shape := ⟨2, ![8, 6144]⟩
abbrev S1x6144 : Shape := ⟨2, ![1, 6144]⟩
abbrev S6144 : Shape := ⟨1, ![6144]⟩
abbrev S4x6144 : Shape := ⟨2, ![4, 6144]⟩
abbrev S4x1x6144 : Shape := ⟨3, ![4, 1, 6144]⟩
abbrev S4x1x1024 : Shape := ⟨3, ![4, 1, 1024]⟩
abbrev S4x4352x1024 : Shape := ⟨3, ![4, 4352, 1024]⟩
abbrev S4x256x1024 : Shape := ⟨3, ![4, 256, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x4096x1024 : Shape := ⟨3, ![4, 4096, 1024]⟩
abbrev S4x4096 : Shape := ⟨2, ![4, 4096]⟩
abbrev S4x4096x1 : Shape := ⟨3, ![4, 4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S8x6144, .f32⟩
  | .hbm, ⟨3, _⟩ => ⟨S1x6144, .f32⟩
  | .hbm, ⟨4, _⟩ => ⟨S6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x6144, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x4352x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256, .f32⟩
  | .hbm, ⟨24, _⟩ => ⟨S4x256x1, .f32⟩
  | .hbm, ⟨25, _⟩ => ⟨S_, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S4x256x1, .f32⟩
  | .hbm, ⟨30, _⟩ => ⟨S4x256x1, .f32⟩
  | .hbm, ⟨31, _⟩ => ⟨S4x256x1, .f32⟩
  | .hbm, ⟨32, _⟩ => ⟨S4x256x1024, .f32⟩
  | .hbm, ⟨33, _⟩ => ⟨S4x256x1024, .f32⟩
  | .hbm, ⟨34, _⟩ => ⟨S1x1x1024, .f32⟩
  | .hbm, ⟨35, _⟩ => ⟨S4x256x1024, .f32⟩
  | .hbm, ⟨36, _⟩ => ⟨S4x256x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1x1024, .f32⟩
  | .hbm, ⟨41, _⟩ => ⟨S4x256x1024, .f32⟩
  | .hbm, ⟨42, _⟩ => ⟨S4x256x1024, .f32⟩
  | .hbm, ⟨43, _⟩ => ⟨S1x1x1024, .f32⟩
  | .hbm, ⟨44, _⟩ => ⟨S4x256x1024, .f32⟩
  | .hbm, ⟨45, _⟩ => ⟨S4x256x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S1x1x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x1x1024, .f32⟩
  | .hbm, ⟨65, _⟩ => ⟨S4x1x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4352x1024, .f32⟩
  | .hbm, ⟨71, _⟩ => ⟨S17408x1024, .f32⟩
  | .hbm, ⟨72, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel8.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S4x1024x4352 : Shape := ⟨3, ![4, 1024, 4352]⟩
abbrev S_ : Shape := ⟨0, ![]⟩
abbrev S1 : Shape := ⟨1, ![1]⟩
abbrev S128x1 : Shape := ⟨2, ![128, 1]⟩
abbrev S4x256x1024 : Shape := ⟨3, ![4, 256, 1024]⟩
abbrev S1x256x128 : Shape := ⟨3, ![1, 256, 128]⟩
abbrev S1x128x256 : Shape := ⟨3, ![1, 128, 256]⟩
abbrev S1x64 : Shape := ⟨2, ![1, 64]⟩
abbrev S1x1x64 : Shape := ⟨3, ![1, 1, 64]⟩
abbrev S1x1x1 : Shape := ⟨3, ![1, 1, 1]⟩
abbrev S1x1 : Shape := ⟨2, ![1, 1]⟩
abbrev S256x128 : Shape := ⟨2, ![256, 128]⟩
abbrev S1x128 : Shape := ⟨2, ![1, 128]⟩
abbrev S512x128 : Shape := ⟨2, ![512, 128]⟩
abbrev S1x512 : Shape := ⟨2, ![1, 512]⟩
abbrev S128x512 : Shape := ⟨2, ![128, 512]⟩
abbrev S256x512 : Shape := ⟨2, ![256, 512]⟩
abbrev S512 : Shape := ⟨1, ![512]⟩
abbrev S128x256 : Shape := ⟨2, ![128, 256]⟩
abbrev S256 : Shape := ⟨1, ![256]⟩
abbrev S1x256 : Shape := ⟨2, ![1, 256]⟩

abbrev nBuf : Space → Nat
  | .hbm => 24
  | .vmem => 10
  | .smem => 1
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S4x1024x4352, .f32⟩
  | .hbm, ⟨8, _⟩ => ⟨S4x1024x4352, .bf16⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .i32⟩
  | .hbm, ⟨21, _⟩ => ⟨S4x4352x1024, .bf16⟩
  | .hbm, ⟨22, _⟩ => ⟨S128x1, .f32⟩
  | .hbm, ⟨23, _⟩ => ⟨S4x256x1024, .bf16⟩
  | .local _ .vmem, ⟨0, _⟩ => ⟨S4x64, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .bf16⟩
  | .local _ .vmem, ⟨4, _⟩ => ⟨S1x256x128, .bf16⟩
  | .local _ .vmem, ⟨5, _⟩ => ⟨S1x128x256, .bf16⟩
  | .local _ .vmem, ⟨6, _⟩ => ⟨S1x128x256, .bf16⟩
  | .local _ .vmem, ⟨7, _⟩ => ⟨S128x1, .f32⟩
  | .local _ .vmem, ⟨8, _⟩ => ⟨S1x256x128, .bf16⟩
  | .local _ .vmem, ⟨9, _⟩ => ⟨S1x256x128, .bf16⟩
  | .local _ .smem, ⟨0, _⟩ => ⟨S1, .i32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 1], ![false, false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_cond1 (v39 : BitVec 32) : BitVec 1 :=
  let c1_i32 : BitVec 32 := 1#32
  let v40 : BitVec 1 := Scalar.cmpi .eq v39 c1_i32
  let v41 : BitVec 32 := Scalar.extui v40
  let c0_i32 : BitVec 32 := 0#32
  let v42 : BitVec 1 := Scalar.cmpi .ne v41 c0_i32
  v42

def k0_cond2 (v43 : BitVec 32) : BitVec 1 :=
  let c1_i32_11 : BitVec 32 := 1#32
  let v44 : BitVec 1 := Scalar.cmpi .ne v43 c1_i32_11
  let v45 : BitVec 32 := Scalar.extui v44
  let c0_i32_12 : BitVec 32 := 0#32
  let v46 : BitVec 1 := Scalar.cmpi .ne v45 c0_i32_12
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel8Ideal.lean ====
variable {F : FTy → Type} [FloatOps F] [Named F]
def κ : String → Option EReal := fun
  | "score_scale" => some (((8 * (Real.log 2))⁻¹ : ℝ) : EReal)
  | _ => none
-- ==== Reference8Ideal.lean ====
abbrev S64 : Shape := ⟨1, ![64]⟩
abbrev S4x64 : Shape := ⟨2, ![4, 64]⟩
abbrev S4x4352x1024 : Shape := ⟨3, ![4, 4352, 1024]⟩
abbrev S128 : Shape := ⟨1, ![128]⟩
abbrev S1x64 : Shape := ⟨2, ![1, 64]⟩
abbrev S_ : Shape := ⟨0, ![]⟩
abbrev S4x256x1024 : Shape := ⟨3, ![4, 256, 1024]⟩
abbrev S4x256x8x2x64 : Shape := ⟨5, ![4, 256, 8, 2, 64]⟩
abbrev S4x256x8x128 : Shape := ⟨4, ![4, 256, 8, 128]⟩
abbrev S4x8x2x256x256 : Shape := ⟨5, ![4, 8, 2, 256, 256]⟩
abbrev S4x8x2x256 : Shape := ⟨4, ![4, 8, 2, 256]⟩
abbrev S4x8x2x256x1 : Shape := ⟨5, ![4, 8, 2, 256, 1]⟩
abbrev S4x8x1x256x256 : Shape := ⟨5, ![4, 8, 1, 256, 256]⟩
abbrev S4x8x256x256 : Shape := ⟨4, ![4, 8, 256, 256]⟩
abbrev S4x8x128x256 : Shape := ⟨4, ![4, 8, 128, 256]⟩
abbrev S4x256x8 : Shape := ⟨3, ![4, 256, 8]⟩
abbrev S4x256x8x1 : Shape := ⟨4, ![4, 256, 8, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S4x64, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x256x1024, .f32⟩
  | .hbm, ⟨27, _⟩ => ⟨S4x256x8x2x64, .f32⟩
  | .hbm, ⟨28, _⟩ => ⟨S4x256x1024, .f32⟩
  | .hbm, ⟨29, _⟩ => ⟨S4x256x8x2x64, .f32⟩
  | .hbm, ⟨30, _⟩ => ⟨S4x256x1024, .f32⟩
  | .hbm, ⟨31, _⟩ => ⟨S4x256x8x128, .f32⟩
  | .hbm, ⟨32, _⟩ => ⟨S4x8x2x256x256, .f32⟩
  | .hbm, ⟨33, _⟩ => ⟨S_, .f32⟩
  | .hbm, ⟨34, _⟩ => ⟨S4x8x2x256x256, .f32⟩
  | .hbm, ⟨35, _⟩ => ⟨S4x8x2x256x256, .f32⟩
  | .hbm, ⟨36, _⟩ => ⟨S_, .f32⟩
  | .hbm, ⟨37, _⟩ => ⟨S4x8x2x256, .f32⟩
  | .hbm, ⟨38, _⟩ => ⟨S_, .f32⟩
  | .hbm, ⟨39, _⟩ => ⟨S4x8x2x256, .f32⟩
  | .hbm, ⟨40, _⟩ => ⟨S4x8x2x256, .f32⟩
  | .hbm, ⟨41, _⟩ => ⟨S4x8x2x256x1, .f32⟩
  | .hbm, ⟨42, _⟩ => ⟨S4x8x2x256x256, .f32⟩
  | .hbm, ⟨43, _⟩ => ⟨S4x8x2x256x256, .f32⟩
  | .hbm, ⟨44, _⟩ => ⟨S4x8x2x256x256, .f32⟩
  | .hbm, ⟨45, _⟩ => ⟨S_, .f32⟩
  | .hbm, ⟨46, _⟩ => ⟨S4x8x2x256, .f32⟩
  | .hbm, ⟨47, _⟩ => ⟨S4x8x2x256x1, .f32⟩
  | .hbm, ⟨48, _⟩ => ⟨S4x8x2x256x256, .f32⟩
  | .hbm, ⟨49, _⟩ => ⟨S4x8x2x256x256, .f32⟩
  | .hbm, ⟨50, _⟩ => ⟨S4x8x1x256x256, .f32⟩
  | .hbm, ⟨51, _⟩ => ⟨S4x8x256x256, .f32⟩
  | .hbm, ⟨52, _⟩ => ⟨S4x8x1x256x256, .f32⟩
  | .hbm, ⟨53, _⟩ => ⟨S4x8x256x256, .f32⟩
  | .hbm, ⟨54, _⟩ => ⟨S4x8x256x256, .f32⟩
  | .hbm, ⟨55, _⟩ => ⟨S4x8x256x256, .f32⟩
  | .hbm, ⟨56, _⟩ => ⟨S4x8x256x256, .f32⟩
  | .hbm, ⟨57, _⟩ => ⟨S4x8x128x256, .f32⟩
  | .hbm, ⟨58, _⟩ => ⟨S4x256x8x128, .f32⟩
  | .hbm, ⟨59, _⟩ => ⟨S4x256x8x128, .f32⟩
  | .hbm, ⟨60, _⟩ => ⟨S_, .f32⟩
  | .hbm, ⟨61, _⟩ => ⟨S4x256x8, .f32⟩
  | .hbm, ⟨62, _⟩ => ⟨S4x256x8x1, .f32⟩
  | .hbm, ⟨63, _⟩ => ⟨S_, .f32⟩
  | .hbm, ⟨64, _⟩ => ⟨S4x256x8x1, .f32⟩
  | .hbm, ⟨65, _⟩ => ⟨S4x256x8x1, .f32⟩
  | .hbm, ⟨66, _⟩ => ⟨S_, .f32⟩
  | .hbm, ⟨67, _⟩ => ⟨S4x256x8x1, .f32⟩
  | .hbm, ⟨68, _⟩ => ⟨S4x256x8x1, .f32⟩
  | .hbm, ⟨69, _⟩ => ⟨S4x256x8x1, .f32⟩
  | .hbm, ⟨70, _⟩ => ⟨S4x256x8x128, .f32⟩
  | .hbm, ⟨71, _⟩ => ⟨S4x256x8x128, .f32⟩
  | .hbm, ⟨72, _⟩ => ⟨S1x1x1x128, .f32⟩
  | .hbm, ⟨73, _⟩ => ⟨S4x256x8x128, .f32⟩
  | .hbm, ⟨74, _⟩ => ⟨S4x256x8x128, .f32⟩
  | .hbm, ⟨75, _⟩ => ⟨S_, .f32⟩
  | .hbm, ⟨76, _⟩ => ⟨S4x256x8x128, .f32⟩
  | .hbm, ⟨77, _⟩ => ⟨S4x256x8x128, .f32⟩
  | .hbm, ⟨78, _⟩ => ⟨S4x256x1024, .f32⟩
  | .hbm, ⟨79, _⟩ => ⟨S4x256x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Proof.AttIdealRun.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The attention's body on any staging memrefs: the table's word chooses one of its two branches, and each
   branch stores the whole output block once. -/

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The prefetched word's memref as the body is handed it. -/
abbrev tm : Memref sig .tc .smem S1 .i32 := Memref.whole main_v10
abbrev htm : tm.IsWhole := Memref.isWhole_whole _
/-- What a buffer read through the word's memref holds on core `c`. -/
abbrev TBuf (c : Dev nD) {S : Shape} {e : EltTy} (M : Memref sig .tc .smem S e) : Type := Buf (Elt F) (M.view.loc (c : Thread nD τ))
/-- That buffer held at half the full share. -/
abbrev tHeld (c : Dev nD) {S : Shape} {e : EltTy} (M : Memref sig .tc .smem S e) (f : TBuf (F := F) c M) : sProp 𝕄 :=
  M.view.loc (c : Thread nD τ) ↦{fullShare.right} f

/-- Rows `o … o + 1023` of the key block. -/
abbrev keys (x5 : Vec F S1x4352x128 .bf16) (o : Nat) (h : ∀ a, (![0, o, 0] : Fin 3 → Nat) a + S1x1024x128.size a ≤ S1x4352x128.size a) : Vec F S1x1024x128 .bf16 :=
  View.ld x5 (Rect.unit (s := S1x4352x128) ![0, o, 0] S1x1024x128.size h)
/-- The last 256 rows of the key block. -/
abbrev keysLast (x5 : Vec F S1x4352x128 .bf16) : Vec F S1x256x128 .bf16 :=
  View.ld x5 (Rect.unit (s := S1x4352x128) ![0, 4096, 0] S1x256x128.size inb_S1x4352x128_S1x256x128_0_4096_0)
/-- Columns `o … o + 1023` of the value block. -/
abbrev vals (x6 : Vec F S1x128x4352 .bf16) (o : Nat) (h : ∀ a, (![0, 0, o] : Fin 3 → Nat) a + S1x128x1024.size a ≤ S1x128x4352.size a) : Vec F S1x128x1024 .bf16 :=
  View.ld x6 (Rect.unit (s := S1x128x4352) ![0, 0, o] S1x128x1024.size h)
/-- The last 256 columns of the value block. -/
abbrev valsLast (x6 : Vec F S1x128x4352 .bf16) : Vec F S1x128x256 .bf16 :=
  View.ld x6 (Rect.unit (s := S1x128x4352) ![0, 0, 4096] S1x128x256.size inb_S1x128x4352_S1x128x256_0_0_4096)

/-- The two halves of the latents' queries, stacked. -/
def qcat (x1 x2 x3 x4 : Vec F S1x256x128 .f32) : FVec F S2048x128 .bf16 :=
  k0_pay1 (k0_pay24 x1 x2 x3 x4) k0_pay25 (Scalar.ofBits .bf16 0x0000#16)

/-- What the branch without the running maximum stores. -/
def outU (l : FVec F S1x1 .f32) (q : FVec F S2048x128 .bf16) (x5 : Vec F S1x4352x128 .bf16) (x6 : Vec F S1x128x4352 .bf16) (x7 : Vec F S128x1 .f32) : FVec F S1x1024x128 .bf16 :=
  let k0 := keys x5 0 inb_S1x4352x128_S1x1024x128_0_0_0
  let k1 := keys x5 1024 inb_S1x4352x128_S1x1024x128_0_1024_0
  let k2 := keys x5 2048 inb_S1x4352x128_S1x1024x128_0_2048_0
  let k3 := keys x5 3072 inb_S1x4352x128_S1x1024x128_0_3072_0
  let v0 := vals x6 0 inb_S1x128x4352_S1x128x1024_0_0_0
  let v1 := vals x6 1024 inb_S1x128x4352_S1x128x1024_0_0_1024
  let v2 := vals x6 2048 inb_S1x128x4352_S1x128x1024_0_0_2048
  let v3 := vals x6 3072 inb_S1x128x4352_S1x128x1024_0_0_3072
  k0_pay2 (k0_pay10 l q (k0_pay5 q k2) (k0_pay7 q k0 k1) (k0_pay8 q k0 k1 v0 v1) (k0_pay9 q k3) v2 (keysLast x5) v3 (valsLast x6))
    (k0_pay11 l q (k0_pay5 q k2) (k0_pay7 q k0 k1) (k0_pay8 q k0 k1 v0 v1) (k0_pay9 q k3) v2 (keysLast x5) v3 (valsLast x6)) x7

/-- What the branch with the maximum subtracted stores. -/
def outP (l : FVec F S1x1 .f32) (q : FVec F S2048x128 .bf16) (x5 : Vec F S1x4352x128 .bf16) (x6 : Vec F S1x128x4352 .bf16) (x7 : Vec F S128x1 .f32) : FVec F S1x1024x128 .bf16 :=
  let k0 := keys x5 0 inb_S1x4352x128_S1x1024x128_0_0_0
  let k1 := keys x5 1024 inb_S1x4352x128_S1x1024x128_0_1024_0
  let k2 := keys x5 2048 inb_S1x4352x128_S1x1024x128_0_2048_0
  let k3 := keys x5 3072 inb_S1x4352x128_S1x1024x128_0_3072_0
  let v0 := vals x6 0 inb_S1x128x4352_S1x128x1024_0_0_0
  let v1 := vals x6 1024 inb_S1x128x4352_S1x128x1024_0_0_1024
  let v2 := vals x6 2048 inb_S1x128x4352_S1x128x1024_0_0_2048
  let v3 := vals x6 3072 inb_S1x128x4352_S1x128x1024_0_0_3072
  let mx := k0_pay12 q k0 k1 k2 k3 (keysLast x5)
  let z : F .f32 := Scalar.ofBits .f32 0x00000000#32
  let zz : FVec F S1024x2048 .f32 := constant S1024x2048 .f32 0x00000000#32
  k0_pay3 l (k0_pay21 q mx (k0_pay15 q k2) (k0_pay17 q mx k0_pay13 k0 k1) (k0_pay18 q mx z k0 k1 v0 v1) (k0_pay19 k3) zz v2 (keysLast x5) v3 (valsLast x6))
    (k0_pay22 q mx (k0_pay15 q k2) (k0_pay17 q mx k0_pay13 k0 k1) (k0_pay18 q mx z k0 k1 v0 v1) (k0_pay19 k3) zz v2 (keysLast x5) v3 (valsLast x6)) x7

/-- What the body stores: the table's word chooses the branch. -/
def out (w : BitVec 32) (x0 : Vec F S4x64 .f32) (x1 : Vec F S1x256x128 .f32) (x2 : Vec F S1x256x128 .f32) (x3 : Vec F S1x256x128 .f32) (x4 : Vec F S1x256x128 .f32) (x5 : Vec F S1x4352x128 .bf16) (x6 : Vec F S1x128x4352 .bf16) (x7 : Vec F S128x1 .f32) : Vec F S1x1024x128 .bf16 :=
  if k0_cond1 w = 1#1 then outU (k0_pay23 x0) (qcat x1 x2 x3 x4) x5 x6 x7 else outP (k0_pay23 x0) (qcat x1 x2 x3 x4) x5 x6 x7

/-- The two branches' conditions are complementary. -/
theorem conds (w : BitVec 32) : k0_cond2 w = 1#1 ↔ ¬ k0_cond1 w = 1#1 := by
  unfold k0_cond1 k0_cond2
  by_cases h : w = 1#32
  · subst h; decide
  · have h1 : (w != 1#32) = true := by simpa using h
    have h2 : (w == 1#32) = false := by simpa using h
    simp only [Scalar.cmpi, Scalar.extui, IntOp.cmpi, h1, h2]; decide

/-- The word the body reads. -/
abbrev word (c : Dev nD) (xt : TBuf (F := F) c tm) : BitVec 32 :=
  (tm.view.readAt (Elt F) (Rect.unit (s := S1) ![0] S1.size inb_S1_S1_0).toLoadRect xt) (fun a => ⟨0, by revert a; decide⟩)

/-- One store of the whole block leaves its payload, whatever the buffer held. -/
theorem read_store {sig' : RefSig} {κ : Kind} {sp : Space} (v : View sig' κ sp S1x1024x128 .bf16) (f : v.ty.Contents (Elt F)) (p : Vec F S1x1024x128 .bf16) :
    v.read (Elt F) (v.writes (Elt F) f [⟨Rect.unit (s := S1x1024x128) ![0, 0, 0] S1x1024x128.size inb_S1x1024x128_S1x1024x128_0_0_0, p⟩]) = p :=
  (View.read_writes_of_cover v f v v.junk _ fun y => View.cover_of_tiledL _ S1x1024x128.size (by sl_kernel_rfl) y).trans (by
    rw [View.read_writes_junk_eq_canon]; exact View.canon_cons_unit_lit' _ _ _ (by decide))

set_option maxHeartbeats 4000000 in
/-- The body's run: the input blocks and the word as they were, the output block at what its branch stores. -/
theorem run (c : Dev nD) (i : grid0.Coords) (a0 : Memref sig .tc .vmem S4x64 .f32) (h0 : a0.IsWhole) (a1 : Memref sig .tc .vmem S1x256x128 .f32) (h1 : a1.IsWhole) (a2 : Memref sig .tc .vmem S1x256x128 .f32) (h2 : a2.IsWhole) (a3 : Memref sig .tc .vmem S1x256x128 .f32) (h3 : a3.IsWhole) (a4 : Memref sig .tc .vmem S1x256x128 .f32) (h4 : a4.IsWhole) (a5 : Memref sig .tc .vmem S1x4352x128 .bf16) (h5 : a5.IsWhole) (a6 : Memref sig .tc .vmem S1x128x4352 .bf16) (h6 : a6.IsWhole) (a7 : Memref sig .tc .vmem S128x1 .f32) (h7 : a7.IsWhole) (a8 : Memref sig .tc .vmem S1x1024x128 .bf16) (h8 : a8.IsWhole)
    (x0 : Vec F S4x64 .f32) (x1 : Vec F S1x256x128 .f32) (x2 : Vec F S1x256x128 .f32) (x3 : Vec F S1x256x128 .f32) (x4 : Vec F S1x256x128 .f32) (x5 : Vec F S1x4352x128 .bf16) (x6 : Vec F S1x128x4352 .bf16) (x7 : Vec F S128x1 .f32) (xt : TBuf (F := F) c tm) (E : Set ℕ) (K : PUnit → sProp 𝕄) :
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ tHeld c tm xt
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out (word c xt) x0 x1 x2 x3 x4 x5 x6 x7) ∗ tHeld c tm xt) -∗ K ⟨⟩))
          ⊢ wp frame (wpE (defs₀ (F := F)) Variants.none c none) E (cc0_daattn i tm htm a0 h0 a1 h1 a2 h2 a3 h3 a4 h4 a5 h5 a6 h6 a7 h7 a8 h8) K := by
    simp only [cc0_daattn_eq_skeleton]; unfold cc0_daattn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr
      swap; · iexact H8
      ipureintro
      by_cases hw : k0_cond1 (run.sl.r_2 c xt) = 1#1
      · rw [dif_neg (fun h => (conds _).mp h hw), dif_pos hw]
        refine (read_store _ _ _).trans (Eq.trans ?_ (if_pos hw).symm)
        unfold outU qcat
        frame_open
        simp (disch := decide) only [View.ld_unit_lit', View.readAt_eq_ld, Memref.IsWhole.read_unread]
      · rw [dif_pos ((conds _).mpr hw)]
        refine (read_store _ _ _).trans (Eq.trans ?_ (if_neg hw).symm)
        unfold outP qcat
        frame_open
        simp (disch := decide) only [View.ld_unit_lit', View.readAt_eq_ld, Memref.IsWhole.read_unread]
    iexact HT

end Cert.KernelIdeal.Att

end
-- ==== Proof.AttIdealFrame.lean ====
module

public import proofs.«01_k».proof.Proof.AttIdealRun

/-! The attention's frame: @main up to the kernel call, the pipeline's proof data, the body at every grid point, and the run
   of @main to its end. -/

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel is called: the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem main_upTo : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ops_fresh main_chain

/-- A buffer that no host operation writes is at the call what it was at launch. -/
theorem V_of (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg4 (c : Dev nD) : V m c main_arg4 = m ((c : Thread nD τ).loc main_arg4) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg5 (c : Dev nD) : V m c main_arg5 = m ((c : Thread nD τ).loc main_arg5) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg6 (c : Dev nD) : V m c main_arg6 = m ((c : Thread nD τ).loc main_arg6) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))

/-- The prefetched word's buffer at the call (the program runs on one device). -/
def words : pre0.Contents (Elt F) := fun j => V m (0 : Dev nD) (pre0.ref j)
theorem V_words (c : Dev nD) (j : Fin 1) : V m c (pre0.ref j) = words m j := by
  obtain rfl : c = 0 := Subsingleton.elim _ _; rfl
/-- No index map reads the word: every contents is admissible. -/
theorem allOk : ok0 (F := F) (words m) := by first | trivial | exact ⟨⟩ | decide
abbrev admT : (pcfg0 (F := F)).Adm := ⟨words m, allOk m⟩
abbrev cfgT : Pipeline.Cfg sig Λ₀ := cfg0 (admT m)

theorem tables_eq (c : Dev nD) : (Pipeline.ΦT pre0 (words m) c : sProp 𝕄) = iprop(tHeld c tm (words m 0)) := by
  unfold Pipeline.ΦT Pipeline.prefHeld
  rw [show (Finset.univ : Finset (Fin 1)) = {(0 : Fin 1)} from by decide, bigSep_singleton]
  rfl

/-- Window `w`'s block at point `t`. -/
def blkAt (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

abbrev st0 (t : Fin (cfgT m).N) : Memref sig .tc .vmem S4x64 .f32 := spec0_0.stage ((cfgT m).slots t 0)
abbrev hst0 (t : Fin (cfgT m).N) : (st0 m t).IsWhole := hstage0_0 (((cfgT m).slots t 0).cast nbuf0_0)
abbrev st1 (t : Fin (cfgT m).N) : Memref sig .tc .vmem S1x256x128 .f32 := spec0_1.stage ((cfgT m).slots t 1)
abbrev hst1 (t : Fin (cfgT m).N) : (st1 m t).IsWhole := hstage0_1 (((cfgT m).slots t 1).cast nbuf0_1)
abbrev st2 (t : Fin (cfgT m).N) : Memref sig .tc .vmem S1x256x128 .f32 := spec0_2.stage ((cfgT m).slots t 2)
abbrev hst2 (t : Fin (cfgT m).N) : (st2 m t).IsWhole := hstage0_2 (((cfgT m).slots t 2).cast nbuf0_2)
abbrev st3 (t : Fin (cfgT m).N) : Memref sig .tc .vmem S1x256x128 .f32 := spec0_3.stage ((cfgT m).slots t 3)
abbrev hst3 (t : Fin (cfgT m).N) : (st3 m t).IsWhole := hstage0_3 (((cfgT m).slots t 3).cast nbuf0_3)
abbrev st4 (t : Fin (cfgT m).N) : Memref sig .tc .vmem S1x256x128 .f32 := spec0_4.stage ((cfgT m).slots t 4)
abbrev hst4 (t : Fin (cfgT m).N) : (st4 m t).IsWhole := hstage0_4 (((cfgT m).slots t 4).cast nbuf0_4)
abbrev st5 (t : Fin (cfgT m).N) : Memref sig .tc .vmem S1x4352x128 .bf16 := spec0_5.stage ((cfgT m).slots t 5)
abbrev hst5 (t : Fin (cfgT m).N) : (st5 m t).IsWhole := hstage0_5 (((cfgT m).slots t 5).cast nbuf0_5)
abbrev st6 (t : Fin (cfgT m).N) : Memref sig .tc .vmem S1x128x4352 .bf16 := spec0_6.stage ((cfgT m).slots t 6)
abbrev hst6 (t : Fin (cfgT m).N) : (st6 m t).IsWhole := hstage0_6 (((cfgT m).slots t 6).cast nbuf0_6)
abbrev st7 (t : Fin (cfgT m).N) : Memref sig .tc .vmem S128x1 .f32 := spec0_7.stage ((cfgT m).slots t 7)
abbrev hst7 (t : Fin (cfgT m).N) : (st7 m t).IsWhole := hstage0_7 (((cfgT m).slots t 7).cast nbuf0_7)
abbrev st8 (t : Fin (cfgT m).N) : Memref sig .tc .vmem S1x1024x128 .bf16 := spec0_8.stage ((cfgT m).slots t 8)
abbrev hst8 (t : Fin (cfgT m).N) : (st8 m t).IsWhole := hstage0_8 (((cfgT m).slots t 8).cast nbuf0_8)

/-- What the output's staging buffer holds after point `t`. -/
def outAt (c : Dev nD) (t : Fin (cfgT m).N) : Vec F S1x1024x128 .bf16 := out (word c (words m 0)) (blkAt m c 0 t) (blkAt m c 1 t) (blkAt m c 2 t) (blkAt m c 3 t) (blkAt m c 4 t) (blkAt m c 5 t) (blkAt m c 6 t) (blkAt m c 7 t)

/-- The pipeline's proof data. -/
def dat (_ : Fin 1) (c : Dev nD) : Dat τ (Elt F) Unit ℕ (UR sig nD τ) ℕ (cfgT m) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => blkAt m c 6 t
    | ⟨7, _⟩ => blkAt m c 7 t
    | ⟨8, _⟩ => outAt m c t
  Φ _ := iprop(Pipeline.ΦA spec0 c ∗ Pipeline.ΦT pre0 (words m) c)
  q w := Pipeline.shareOf spec0 w
  owed _ := 0

theorem dat_A (c : Dev nD) (w : Fin (cfgT m).W) : (dat m 0 c).A w = V m c (Pipeline.arrRef spec0 w) := by dsimp only [dat]

theorem after0 (c : Dev nD) (t : Fin (cfgT m).N) : (dat m 0 c).after 0 t = blkAt m c 0 t := by dsimp only [dat]; try rfl
theorem after1 (c : Dev nD) (t : Fin (cfgT m).N) : (dat m 0 c).after 1 t = blkAt m c 1 t := by dsimp only [dat]; try rfl
theorem after2 (c : Dev nD) (t : Fin (cfgT m).N) : (dat m 0 c).after 2 t = blkAt m c 2 t := by dsimp only [dat]; try rfl
theorem after3 (c : Dev nD) (t : Fin (cfgT m).N) : (dat m 0 c).after 3 t = blkAt m c 3 t := by dsimp only [dat]; try rfl
theorem after4 (c : Dev nD) (t : Fin (cfgT m).N) : (dat m 0 c).after 4 t = blkAt m c 4 t := by dsimp only [dat]; try rfl
theorem after5 (c : Dev nD) (t : Fin (cfgT m).N) : (dat m 0 c).after 5 t = blkAt m c 5 t := by dsimp only [dat]; try rfl
theorem after6 (c : Dev nD) (t : Fin (cfgT m).N) : (dat m 0 c).after 6 t = blkAt m c 6 t := by dsimp only [dat]; try rfl
theorem after7 (c : Dev nD) (t : Fin (cfgT m).N) : (dat m 0 c).after 7 t = blkAt m c 7 t := by dsimp only [dat]; try rfl
theorem after8 (c : Dev nD) (t : Fin (cfgT m).N) : (dat m 0 c).after 8 t = outAt m c t := by dsimp only [dat]; try rfl

/-- An input window's buffer holds its block at every point, fetched there or not. -/
theorem before0 (c : Dev nD) (t : Fin (cfgT m).N) (d) : (dat m 0 c).before 0 t d = blkAt m c 0 t :=
  ((dat m 0 c).before_in_eq_fetched 0 rfl (fun _ => rfl) (fun _ _ _ => rfl) (fun t => by rw [after0]; unfold Dat.blockOf blkAt; rw [dat_A]; try rfl) t d).trans
    (by unfold Dat.fetched Dat.blockOf blkAt; rw [dat_A]; try rfl)
theorem before1 (c : Dev nD) (t : Fin (cfgT m).N) (d) : (dat m 0 c).before 1 t d = blkAt m c 1 t :=
  ((dat m 0 c).before_in_eq_fetched 1 rfl (fun _ => rfl) (fun _ _ _ => rfl) (fun t => by rw [after1]; unfold Dat.blockOf blkAt; rw [dat_A]; try rfl) t d).trans
    (by unfold Dat.fetched Dat.blockOf blkAt; rw [dat_A]; try rfl)
theorem before2 (c : Dev nD) (t : Fin (cfgT m).N) (d) : (dat m 0 c).before 2 t d = blkAt m c 2 t :=
  ((dat m 0 c).before_in_eq_fetched 2 rfl (fun _ => rfl) (fun _ _ _ => rfl) (fun t => by rw [after2]; unfold Dat.blockOf blkAt; rw [dat_A]; try rfl) t d).trans
    (by unfold Dat.fetched Dat.blockOf blkAt; rw [dat_A]; try rfl)
theorem before3 (c : Dev nD) (t : Fin (cfgT m).N) (d) : (dat m 0 c).before 3 t d = blkAt m c 3 t :=
  ((dat m 0 c).before_in_eq_fetched 3 rfl (fun _ => rfl) (fun _ _ _ => rfl) (fun t => by rw [after3]; unfold Dat.blockOf blkAt; rw [dat_A]; try rfl) t d).trans
    (by unfold Dat.fetched Dat.blockOf blkAt; rw [dat_A]; try rfl)
theorem before4 (c : Dev nD) (t : Fin (cfgT m).N) (d) : (dat m 0 c).before 4 t d = blkAt m c 4 t :=
  ((dat m 0 c).before_in_eq_fetched 4 rfl (fun _ => rfl) (fun _ _ _ => rfl) (fun t => by rw [after4]; unfold Dat.blockOf blkAt; rw [dat_A]; try rfl) t d).trans
    (by unfold Dat.fetched Dat.blockOf blkAt; rw [dat_A]; try rfl)
theorem before5 (c : Dev nD) (t : Fin (cfgT m).N) (d) : (dat m 0 c).before 5 t d = blkAt m c 5 t :=
  ((dat m 0 c).before_in_eq_fetched 5 rfl (fun _ => rfl) (fun _ _ _ => rfl) (fun t => by rw [after5]; unfold Dat.blockOf blkAt; rw [dat_A]; try rfl) t d).trans
    (by unfold Dat.fetched Dat.blockOf blkAt; rw [dat_A]; try rfl)
theorem before6 (c : Dev nD) (t : Fin (cfgT m).N) (d) : (dat m 0 c).before 6 t d = blkAt m c 6 t :=
  ((dat m 0 c).before_in_eq_fetched 6 rfl (fun _ => rfl) (fun _ _ _ => rfl) (fun t => by rw [after6]; unfold Dat.blockOf blkAt; rw [dat_A]; try rfl) t d).trans
    (by unfold Dat.fetched Dat.blockOf blkAt; rw [dat_A]; try rfl)
theorem before7 (c : Dev nD) (t : Fin (cfgT m).N) (d) : (dat m 0 c).before 7 t d = blkAt m c 7 t :=
  ((dat m 0 c).before_in_eq_fetched 7 rfl (fun _ => rfl) (fun _ _ _ => rfl) (fun t => by rw [after7]; unfold Dat.blockOf blkAt; rw [dat_A]; try rfl) t d).trans
    (by unfold Dat.fetched Dat.blockOf blkAt; rw [dat_A]; try rfl)

/-- The body at point `t`. -/
abbrev bodyT (t : Fin (cfgT m).N) : Prog (TpuEff nD τ sig (Elt F) Λ₀ .tc) PUnit := cc0_daattn (grid0.coords t) tm htm (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t)

set_option maxHeartbeats 1600000 in
/-- The body at any point, from the input blocks to the stored output block. -/
theorem body_at (c : Dev nD) (t : Fin (cfgT m).N) :
    iprop((dat m 0 c).Φ t.castSucc ∗ (dat m 0 c).owesAt () t.castSucc ∗ (∃ d, owns (c : Thread nD τ) (st0 m t) fullShare ((dat m 0 c).before 0 t d)) ∗ (∃ d, owns (c : Thread nD τ) (st1 m t) fullShare ((dat m 0 c).before 1 t d)) ∗ (∃ d, owns (c : Thread nD τ) (st2 m t) fullShare ((dat m 0 c).before 2 t d)) ∗ (∃ d, owns (c : Thread nD τ) (st3 m t) fullShare ((dat m 0 c).before 3 t d)) ∗ (∃ d, owns (c : Thread nD τ) (st4 m t) fullShare ((dat m 0 c).before 4 t d)) ∗ (∃ d, owns (c : Thread nD τ) (st5 m t) fullShare ((dat m 0 c).before 5 t d)) ∗ (∃ d, owns (c : Thread nD τ) (st6 m t) fullShare ((dat m 0 c).before 6 t d)) ∗ (∃ d, owns (c : Thread nD τ) (st7 m t) fullShare ((dat m 0 c).before 7 t d)) ∗ (∃ d, owns (c : Thread nD τ) (st8 m t) fullShare ((dat m 0 c).before 8 t d)))
      ⊢ wp frame (wpE (defs₀ (F := F)) Variants.none c none) Set.univ (bodyT m t) (fun _ =>
        iprop((dat m 0 c).Φ t.succ ∗ (dat m 0 c).owesAt () t.succ ∗ owns (c : Thread nD τ) (st0 m t) fullShare ((dat m 0 c).after 0 t) ∗ owns (c : Thread nD τ) (st1 m t) fullShare ((dat m 0 c).after 1 t) ∗ owns (c : Thread nD τ) (st2 m t) fullShare ((dat m 0 c).after 2 t) ∗ owns (c : Thread nD τ) (st3 m t) fullShare ((dat m 0 c).after 3 t) ∗ owns (c : Thread nD τ) (st4 m t) fullShare ((dat m 0 c).after 4 t) ∗ owns (c : Thread nD τ) (st5 m t) fullShare ((dat m 0 c).after 5 t) ∗ owns (c : Thread nD τ) (st6 m t) fullShare ((dat m 0 c).after 6 t) ∗ owns (c : Thread nD τ) (st7 m t) fullShare ((dat m 0 c).after 7 t) ∗ owns (c : Thread nD τ) (st8 m t) fullShare ((dat m 0 c).after 8 t))) := by
  unfold bodyT
  simp only [before0, before1, before2, before3, before4, before5, before6, before7]
  rw [show (dat m 0 c).Φ t.succ = (dat m 0 c).Φ t.castSucc from rfl,
    show (dat m 0 c).owesAt () t.succ = (dat m 0 c).owesAt () t.castSucc from rfl,
    after0, after1, after2, after3, after4, after5, after6, after7, after8]
  rw [show (dat m 0 c).Φ t.castSucc = iprop(Pipeline.ΦA spec0 c ∗ Pipeline.ΦT pre0 (words m) c) from rfl, tables_eq]
  unfold outAt
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (blkAt m c 0 t) (blkAt m c 1 t) (blkAt m c 2 t) (blkAt m c 3 t) (blkAt m c 4 t) (blkAt m c 5 t) (blkAt m c 6 t) (blkAt m c 7 t) (words m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT]; · iexact HT
  iintro ⟨H0, H1, H2, H3, H4, H5, H6, H7, H8, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin (cfgT m).N) :
    defs₀ (F := F) .tc (cfgT m).body ((cfgT m).bodyArgs t ((cfgT m).slots t)) = bodyT m t := by
  unfold defs₀; rw [Defs.onTc_tc]

/-- The output is stored at every point: one of the two branches runs. -/
theorem live_word (w : BitVec 32) : (!(k0_cond1 w == 1#1) && !(k0_cond2 w == 1#1)) = false := by
  by_cases h : k0_cond1 w = 1#1
  · simp [h]
  · simp [(conds _).mpr h]
theorem live_any (pf : pre0.Contents (Elt F)) (i : grid0.Coords) : idle0 pf 8 i = false := live_word (pf.atD 0 ![0])
theorem live8 (a : (pcfg0 (F := F)).Adm) (i : grid0.Coords) : (cfg0 a).idle 8 i = false := live_any a.1 i

theorem leaves8 (a : (pcfg0 (F := F)).Adm) (c : Dev nD) (d : Dat τ (Elt F) Unit ℕ (UR sig nD τ) ℕ (cfg0 a) c) (t : Fin (cfg0 a).N) :
    owns (c : Thread nD τ) (((cfg0 a).win 8).stage ((cfg0 a).slots t 8)) fullShare (d.after 8 t) ⊢ (d.leavesExact 8 t : sProp 𝕄) := by
  unfold Dat.leavesExact
  rw [live8]

set_option maxHeartbeats 4000000 in
theorem body_ok (c : Dev nD) : BodyObligation (dat (F := F) m 0 c) (defs₀ (F := F)) Variants.none () Set.univ := fun t => by
  rw [bigSep_W0, bigSep_W0, row_eq m]
  exact triple_restated (body_at m c t) rfl .rfl fun _ =>
    sep_mono .rfl (sep_mono .rfl (sep_mono .rfl (sep_mono .rfl (sep_mono .rfl (sep_mono .rfl (sep_mono .rfl (sep_mono .rfl (sep_mono .rfl (sep_mono .rfl (leaves8 (admT m) c (dat m 0 c) t))))))))))

set_option maxHeartbeats 4000000 in
set_option backward.isDefEq.respectTransparency.types false in
/-- @main runs to its end, every array of the call at what the proof data say and every other buffer as it was at the call,
    and every counter at zero again. -/
theorem runs_quiet : θ_run defs (onTc (τ := τ) (main (F := F))) (s₀ m ρ) (fun r => Pipeline.FramePost (Pipeline.pin pcfgs fun _ => admT m) (dat m) 0 (V m) r ∧ r.2.sem = fun _ => 0) :=
  Pipeline.θ_run_frameP_shared (Q' := _) pcfgs (fun _ => admT m) (dat m) (0 : Fin 1) launch₀0 defs₀ Variants.none m ρ main
    (hbody := fun c => (body_ok m c).loose) (hq := fun _ _ _ => rfl)
    (howed := fun _ _ => rfl) (V := V m) (hmain := main_upTo m) (hA := dat_A m) (hpf := V_words m)
    (hΦ := fun _ _ => rfl)

theorem runs : θ_run defs (onTc (τ := τ) (main (F := F))) (s₀ m ρ) (Pipeline.FramePost (Pipeline.pin pcfgs fun _ => admT m) (dat m) 0 (V m)) :=
  (θ_run defs _ _).mono (fun _ h => h.1) (runs_quiet m ρ)

/-- @main runs to its end, the output at what the proof data say and every argument as it was. -/
theorem runs_out : θ_run defs (onTc (τ := τ) (main (F := F))) ⟨m, fun _ => 0, ρ⟩ (fun r => ∀ c : Dev nD,
      r.2.mem ((c.tc : Thread nD τ).loc main_v13) = (dat m 0 c).arrAt 8 (cfgT m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 8,
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dat m 0 c).arrAt_in 0 rfl _).trans ((dat_A m c 0).trans (V_arg2 m c))),
      ((h c).1 1).trans (((dat m 0 c).arrAt_in 1 rfl _).trans ((dat_A m c 1).trans (V_arg3 m c))),
      ((h c).2 main_arg4 (by decide : main_arg4 ∈ Pipeline.restRefs sig spec0)).trans (V_arg4 m c),
      ((h c).2 main_arg5 (by decide : main_arg5 ∈ Pipeline.restRefs sig spec0)).trans (V_arg5 m c),
      ((h c).2 main_arg6 (by decide : main_arg6 ∈ Pipeline.restRefs sig spec0)).trans (V_arg6 m c)⟩) (runs m ρ)

/-- The frame: every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (runs_out m ρ)) ((θ_run defs _ _).mono (fun _ h => h.2) (runs_quiet m ρ))

end Cert.KernelIdeal.Att

end
-- ==== Proof.AttPre.lean ====
module

public import proofs.«01_k».proof.Defs
public import Idealize.ShloMosaic.Lib.ReduceAll
public import Idealize.ShloMosaic.Lib.Affine
public import Idealize.ShloMosaic.Lib.Pipeline.ValueKit

/-! What the precondition says: every element of the four arrays it looks at is a real number. -/

@[expose] public section

set_option maxRecDepth 16384

noncomputable section

open Idealize.ShloMosaic Idealize.ShloMosaic.TcCoe Idealize.SL.Sem

namespace Cert.Att

open Cert.Pre_finite

theorem preFacts : Cert.Pre_finite.Facts := by
  refine ⟨?_, ?_, ?_, ?_, ?_⟩ <;> decide

theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne fun e => ?_).symm⟩
  rw [e] at hlt
  exact absurd hlt.2 (by simp)

theorem reals [Facts] (a0 a1 : FVec Ideal S64 .f32) (a2 : FVec Ideal S4x64 .f32) (a3 a4 a5 : FVec Ideal S4x4352x1024 .f32) (a6 : FVec Ideal S128 .f32)
    (h : Cert.Pre_finite.fn (F := Ideal) a0 a1 a2 a3 a4 a5 a6 = fun _ => 1#1) :
    (∀ i, ∃ r : ℝ, a2 i = (r : EReal)) ∧ (∀ i, ∃ r : ℝ, a3 i = (r : EReal)) ∧ (∀ i, ∃ r : ℝ, a4 i = (r : EReal)) ∧ ∀ i, ∃ r : ℝ, a5 i = (r : EReal) := by
  haveI : Subsingleton S_.Idx := ⟨fun a b => funext fun i => i.elim0⟩
  have e := congrFun h ix0
  unfold Cert.Pre_finite.fn Cert.Pre_finite.fn_part1 at e
  obtain ⟨e3, e5⟩ := IntOp.andi_eq_one.1 e
  obtain ⟨e2, e4⟩ := IntOp.andi_eq_one.1 e3
  obtain ⟨e1, e3⟩ := IntOp.andi_eq_one.1 e2
  exact ⟨fun i => real_of_olt _ (Host.reduce_andi_all _ _ _ _ ix0 e1 i), fun i => real_of_olt _ (Host.reduce_andi_all _ _ _ _ ix0 e3 i),
    fun i => real_of_olt _ (Host.reduce_andi_all _ _ _ _ ix0 e4 i), fun i => real_of_olt _ (Host.reduce_andi_all _ _ _ _ ix0 e5 i)⟩

end Cert.Att

end
-- ==== Proof.AttMath.lean ====
module

public import Idealize.ShloMosaic.Lib.Pipeline.ValueKit
public import Idealize.ShloMosaic.Lib.Claim

/-! Attention over the reals: a softmax's average is unchanged when every weight of a row is scaled by one positive
    number, and may be divided before or after it is summed against the values. -/

@[expose] public section

noncomputable section

open Idealize.ShloMosaic

namespace Cert.Att

/-- The sum of reals, read among the extended reals. -/
theorem sum_real {ι : Type} [Fintype ι] (f : ι → ℝ) : (∑ i, (f i : EReal)) = ((∑ i, f i : ℝ) : EReal) := by
  classical
  have h : ∀ s : Finset ι, (∑ i ∈ s, (f i : EReal)) = ((∑ i ∈ s, f i : ℝ) : EReal) := fun s => by
    induction s using Finset.induction_on with
    | empty => simp
    | insert a s ha ih => rw [Finset.sum_insert ha, Finset.sum_insert ha, ih, EReal.coe_add]
  exact h _

/-- The quotient of two reals, the second one positive. -/
theorem div_real (x y : ℝ) (h : 0 < y) : Ideal.div (x : EReal) (y : EReal) = ((x / y : ℝ) : EReal) := by
  rw [Ideal.div_coe h.ne', ← EReal.coe_mul, mul_one_div]

/-- The difference of two softmax averages, as the kernel forms it (each row's sum divided by the row's sum of weights) and
    as the reference forms it (the weights divided, subtracted, and summed against the values). The weights of the two are
    the same up to a positive factor of each row. -/
theorem mixed {ι : Type} [Fintype ι] [Nonempty ι] (v : ι → ℝ) (lam : ℝ) (a0 a1 b0 b1 : ι → ℝ) (r0 r1 : ℝ)
    (hr0 : 0 < r0) (hr1 : 0 < r1) (hb0 : ∀ i, 0 < b0 i) (hb1 : ∀ i, 0 < b1 i) (h0 : ∀ i, a0 i = r0 * b0 i) (h1 : ∀ i, a1 i = r1 * b1 i) :
    Ideal.div (∑ i, (v i : EReal) * (a0 i : EReal)) (∑ i, (a0 i : EReal)) - (lam : EReal) * Ideal.div (∑ i, (v i : EReal) * (a1 i : EReal)) (∑ i, (a1 i : EReal))
      = ∑ i, (v i : EReal) * (Ideal.div (b0 i : EReal) (∑ j, (b0 j : EReal)) - (lam : EReal) * Ideal.div (b1 i : EReal) (∑ j, (b1 j : EReal))) := by
  have s0 : 0 < ∑ i, b0 i := Finset.sum_pos (fun i _ => hb0 i) Finset.univ_nonempty
  have s1 : 0 < ∑ i, b1 i := Finset.sum_pos (fun i _ => hb1 i) Finset.univ_nonempty
  have t0 : ∑ i, a0 i = r0 * ∑ i, b0 i := by rw [Finset.mul_sum]; exact Finset.sum_congr rfl fun i _ => h0 i
  have t1 : ∑ i, a1 i = r1 * ∑ i, b1 i := by rw [Finset.mul_sum]; exact Finset.sum_congr rfl fun i _ => h1 i
  have u0 : ∑ i, v i * a0 i = r0 * ∑ i, v i * b0 i := by
    rw [Finset.mul_sum]; exact Finset.sum_congr rfl fun i _ => by rw [h0 i]; ring
  have u1 : ∑ i, v i * a1 i = r1 * ∑ i, v i * b1 i := by
    rw [Finset.mul_sum]; exact Finset.sum_congr rfl fun i _ => by rw [h1 i]; ring
  simp only [← EReal.coe_mul, sum_real]
  rw [div_real _ _ (by rw [t0]; positivity), div_real _ _ (by rw [t1]; positivity)]
  simp only [div_real _ _ s0, div_real _ _ s1, ← EReal.coe_mul, ← EReal.coe_sub, sum_real]
  congr 1
  rw [t0, t1, u0, u1, mul_div_mul_left _ _ hr0.ne', mul_div_mul_left _ _ hr1.ne', Finset.sum_div, Finset.sum_div, Finset.mul_sum,
    ← Finset.sum_sub_distrib]
  exact Finset.sum_congr rfl fun i _ => by ring

/-- `2` to the kernel's score, less its shift, is up to a factor `e` to the reference's score, less its own: the kernel's
    score is the reference's over the logarithm of two. -/
theorem two_pow (y m M : ℝ) :
    Real.rpow 2 (y * (Real.log 2)⁻¹ - m) = Real.exp (M - m * Real.log 2) * Real.exp (y - M) := by
  have h : Real.log 2 ≠ 0 := (Real.log_pos one_lt_two).ne'
  rw [← Real.exp_add]
  rw [Real.rpow_eq_pow, Real.rpow_def_of_pos two_pos]
  congr 1
  field_simp
  ring

/-- A row's maximum, over at least one real, is a real. -/
theorem real_of_bounds (x : EReal) (a b : ℝ) (h : (a : EReal) ≤ x) (h' : x ≤ (b : EReal)) : ∃ r : ℝ, x = (r : EReal) :=
  ⟨x.toReal, (EReal.coe_toReal (fun e => by rw [e] at h'; exact absurd h' (not_le.2 (EReal.coe_lt_top b)))
    (fun e => by rw [e] at h; exact absurd h (not_le.2 (EReal.bot_lt_coe a)))).symm⟩

/-- The supremum of finitely many reals, at least one of them, is a real. -/
theorem sup_real {ι : Type} [Fintype ι] [Nonempty ι] (f : ι → ℝ) : ∃ r : ℝ, (⨆ i, (f i : EReal)) = (r : EReal) := by
  obtain ⟨i, hi⟩ := Finite.exists_max f
  exact ⟨f i, le_antisymm (iSup_le fun j => EReal.coe_le_coe_iff.2 (hi j)) (le_iSup (fun j => (f j : EReal)) i)⟩

end Cert.Att

end
-- ==== Proof.AttRef.lean ====
module

public import proofs.«01_k».proof.Proof.AttMath
public import proofs.«01_k».proof.Proof.Gen.ReferenceIdeal.Run
public import Idealize.ShloMosaic.Lib.Pipeline.ValueKit
public import Idealize.ShloMosaic.Lib.Claim

/-! The reference's attention, in parts, and each part at a point. -/

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-- The mixing weight, of its four vectors. -/
def LAM (L : FVec Ideal S4x64 .f32) : FVec Ideal S_ .f32 :=
  addf (subf (Host.exp (Host.reduceAdd (mulf (shapeCast S64 (extractStridedSlice S1x64 ![0, 0] L slices_S4x64_S1x64_0_0) shapeCasts_S1x64_S64) (shapeCast S64 (extractStridedSlice S1x64 ![1, 0] L slices_S4x64_S1x64_1_0) shapeCasts_S1x64_S64)) (constant S_ .f32 0x00000000#32) reducesTo_S64_S_d0 h_S_))
    (Host.exp (Host.reduceAdd (mulf (shapeCast S64 (extractStridedSlice S1x64 ![2, 0] L slices_S4x64_S1x64_2_0) shapeCasts_S1x64_S64) (shapeCast S64 (extractStridedSlice S1x64 ![3, 0] L slices_S4x64_S1x64_3_0) shapeCasts_S1x64_S64)) (constant S_ .f32 0x00000000#32) reducesTo_S64_S_d0 h_S_)))
    (constant S_ .f32 0x3EB60549#32)

/-- The scores. -/
def SC (Q K : FVec Ideal S4x4352x1024 .f32) : FVec Ideal S4x8x2x4096x4352 .f32 :=
  mulf (Host.dotGeneral dot_S4x4096x8x2x64_S4x4352x8x2x64_S4x8x2x4096x4352_4_4_1_1_023_023 none
    (shapeCast S4x4096x8x2x64 (extractStridedSlice S4x4096x1024 ![0, 256, 0] Q slices_S4x4352x1024_S4x4096x1024_0_256_0) shapeCasts_S4x4096x1024_S4x4096x8x2x64)
    (shapeCast S4x4352x8x2x64 K shapeCasts_S4x4352x1024_S4x4352x8x2x64))
    (broadcastInDim S4x8x2x4096x4352 ![] bcast_S_S4x8x2x4096x4352 (constant S_ .f32 0x3E000000#32))

/-- Every row's maximum. -/
def MX (S : FVec Ideal S4x8x2x4096x4352 .f32) : FVec Ideal S4x8x2x4096 .f32 :=
  maximumf (broadcastInDim S4x8x2x4096 ![] bcast_S_S4x8x2x4096 (constant S_ .f32 0xFF800000#32))
    (Host.reduce FloatOps.maximumf S (constant S_ .f32 0xFF800000#32) reducesTo_S4x8x2x4096x4352_S4x8x2x4096_d4 h_S_)

/-- The weights before they are divided by their sum. -/
def EX (S : FVec Ideal S4x8x2x4096x4352 .f32) (M : FVec Ideal S4x8x2x4096 .f32) : FVec Ideal S4x8x2x4096x4352 .f32 :=
  Host.exp (subf S (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 M)))

/-- The weights. -/
def PR (E : FVec Ideal S4x8x2x4096x4352 .f32) : FVec Ideal S4x8x2x4096x4352 .f32 :=
  Host.divf E (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 (Host.reduceAdd E (constant S_ .f32 0x00000000#32) reducesTo_S4x8x2x4096x4352_S4x8x2x4096_d4 h_S_)))

/-- The first half's weights less the mixing weight times the second's. -/
def MIX (l : FVec Ideal S_ .f32) (P : FVec Ideal S4x8x2x4096x4352 .f32) : FVec Ideal S4x8x4096x4352 .f32 :=
  subf (shapeCast S4x8x4096x4352 (extractStridedSlice S4x8x1x4096x4352 ![0, 0, 0, 0, 0] P slices_S4x8x2x4096x4352_S4x8x1x4096x4352_0_0_0_0_0) shapeCasts_S4x8x1x4096x4352_S4x8x4096x4352)
    (mulf (broadcastInDim S4x8x4096x4352 ![] bcast_S_S4x8x4096x4352 l) (shapeCast S4x8x4096x4352 (extractStridedSlice S4x8x1x4096x4352 ![0, 0, 1, 0, 0] P slices_S4x8x2x4096x4352_S4x8x1x4096x4352_0_0_1_0_0) shapeCasts_S4x8x1x4096x4352_S4x8x4096x4352))

/-- The values, weighed. -/
def AV (V : FVec Ideal S4x4352x1024 .f32) (A : FVec Ideal S4x8x4096x4352 .f32) : FVec Ideal S4x4096x8x128 .f32 :=
  transpose S4x4096x8x128 [0, 3, 1, 2] (Host.dotGeneral dot_S4x4352x8x128_S4x8x4096x4352_S4x8x128x4096_1_3_3_2_02_01 none (shapeCast S4x4352x8x128 V shapeCasts_S4x4352x1024_S4x4352x8x128) A) transposes_S4x8x128x4096_S4x4096x8x128_0_3_1_2

/-- The norm over a head's lanes and the gain. -/
def NRM (o : FVec Ideal S4x4096x8x128 .f32) (g : FVec Ideal S128 .f32) : FVec Ideal S4x4096x8x128 .f32 :=
  mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 g)))
    (broadcastInDim S4x4096x8x128 ![] bcast_S_S4x4096x8x128 (constant S_ .f32 0x3F24FD5C#32))

/-- The weights of a row of scores. -/
abbrev WT (Q K : FVec Ideal S4x4352x1024 .f32) : FVec Ideal S4x8x2x4096x4352 .f32 := EX (SC Q K) (MX (SC Q K))

/-- The reference's result, of its arguments. -/
def REF (L : FVec Ideal S4x64 .f32) (Q K V : FVec Ideal S4x4352x1024 .f32) (g : FVec Ideal S128 .f32) : FVec Ideal S4x4096x1024 .bf16 :=
  truncf .bf16 (shapeCast S4x4096x1024 (NRM (AV V (MIX (LAM L) (PR (WT Q K)))) g) shapeCasts_S4x4096x8x128_S4x4096x1024) bitsLt_bf16_f32

theorem res_eq (m : (ℓ : Loc nD τ sig) → Buf (Elt Ideal) ℓ) (c : Dev nD) :
    Cert.ReferenceIdeal.Value.res_main_v59 m c = REF (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.ReferenceIdeal.Att

end
-- ==== Proof.AttPay.lean ====
module

public import proofs.«01_k».proof.Proof.AttMath
public import proofs.«01_k».proof.Proof.AttIdealRun
public import Idealize.ShloMosaic.Lib.Pipeline.ValueKit

/-! What the attention's body stores, at a point, over the extended reals: its five key blocks joined to one sum. -/

@[expose] public section

set_option maxRecDepth 16384

noncomputable section

open Idealize.ShloMosaic Idealize.ShloMosaic.TcCoe Idealize.SL.Sem

namespace Cert.KernelIdeal.Att

open Cert.KernelIdeal Cert.KernelIdeal.Gen

/-- A sum over the keys, from its five blocks. -/
theorem blocks (f : Fin 4352 → EReal) :
    (∑ x : Fin 1024, f ⟨x.val, by omega⟩) + (∑ x : Fin 1024, f ⟨1024 + x.val, by omega⟩) + (∑ x : Fin 1024, f ⟨2048 + x.val, by omega⟩)
      + (∑ x : Fin 1024, f ⟨3072 + x.val, by omega⟩) + (∑ x : Fin 256, f ⟨4096 + x.val, by omega⟩) = ∑ x, f x := by
  have h : ∀ g : ℕ → EReal, ∑ x ∈ Finset.range 4352, g x = (∑ x ∈ Finset.range 1024, g x) + (∑ x ∈ Finset.range 1024, g (1024 + x))
      + (∑ x ∈ Finset.range 1024, g (2048 + x)) + (∑ x ∈ Finset.range 1024, g (3072 + x)) + (∑ x ∈ Finset.range 256, g (4096 + x)) := fun g => by
    rw [show 4352 = 4096 + 256 from rfl, Finset.sum_range_add, show 4096 = 3072 + 1024 from rfl, Finset.sum_range_add,
      show 3072 = 2048 + 1024 from rfl, Finset.sum_range_add, show 2048 = 1024 + 1024 from rfl, Finset.sum_range_add]
  have e := h fun n => if hn : n < 4352 then f ⟨n, hn⟩ else 0
  simp only [Finset.sum_range] at e
  refine Eq.trans ?_ (e.symm.trans ?_)
  · refine congrArg₂ (· + ·) (congrArg₂ (· + ·) (congrArg₂ (· + ·) (congrArg₂ (· + ·) ?_ ?_) ?_) ?_) ?_ <;>
      exact Finset.sum_congr rfl fun x _ => by rw [dif_pos (by omega)]
  · exact Finset.sum_congr rfl fun x _ => by rw [dif_pos x.isLt]

/-- The score of key `j` and stacked query `r`. -/
def sc (q : FVec Ideal S2048x128 .bf16) (x5 : Vec Ideal S1x4352x128 .bf16) (j : Fin 4352) (r : Fin 2048) : EReal :=
  ∑ d : Fin 128, x5 (ix3 0 j d) * q (ix2 r d)

/-- The two halves' averages and their difference, at lane `e` and query `r`, of the weights `w`. -/
def mixO (w : Fin 4352 → Fin 2048 → EReal) (l : EReal) (x6 : Vec Ideal S1x128x4352 .bf16) (e : Fin 128) (r : Fin 1024) : EReal :=
  Ideal.div (∑ j, x6 (ix3 0 e j) * w j ⟨r.val, by omega⟩) (∑ j, w j ⟨r.val, by omega⟩)
    - l * Ideal.div (∑ j, x6 (ix3 0 e j) * w j ⟨1024 + r.val, by omega⟩) (∑ j, w j ⟨1024 + r.val, by omega⟩)

/-- The norm over the lanes and the gain. -/
def fin (o : Fin 128 → Fin 1024 → EReal) (x7 : Vec Ideal S128x1 .f32) (e : Fin 128) (r : Fin 1024) : EReal :=
  o e r * Ideal.rsqrt (Ideal.div (∑ x, o x r * o x r) (Ideal.ofBits .f32 0x43000000#32) + Ideal.ofBits .f32 0x358637BD#32)
    * x7 (ix2 e 0) * Ideal.ofBits .f32 0x3F24FD5C#32

/-- The weights of the branch without the running maximum. -/
def wU (q : FVec Ideal S2048x128 .bf16) (x5 : Vec Ideal S1x4352x128 .bf16) (j : Fin 4352) (r : Fin 2048) : EReal :=
  FloatOps.exp2 (F := Ideal) (φ := .f32) (sc q x5 j r)

/-- The weights of the branch with the maximum subtracted. -/
def wP (q : FVec Ideal S2048x128 .bf16) (x5 : Vec Ideal S1x4352x128 .bf16) (mx : FVec Ideal S1x2048 .f32) (j : Fin 4352) (r : Fin 2048) : EReal :=
  FloatOps.exp2 (F := Ideal) (φ := .f32) (sc q x5 j r - mx (ix2 0 r))

theorem o_U (l : FVec Ideal S1x1 .f32) (q : FVec Ideal S2048x128 .bf16) (x5 : Vec Ideal S1x4352x128 .bf16) (x6 : Vec Ideal S1x128x4352 .bf16) (y : S128x1024.Idx) :
    k0_pay10 (F := Ideal) l q (k0_pay5 q (keys x5 2048 inb_S1x4352x128_S1x1024x128_0_2048_0))
      (k0_pay7 q (keys x5 0 inb_S1x4352x128_S1x1024x128_0_0_0) (keys x5 1024 inb_S1x4352x128_S1x1024x128_0_1024_0))
      (k0_pay8 q (keys x5 0 inb_S1x4352x128_S1x1024x128_0_0_0) (keys x5 1024 inb_S1x4352x128_S1x1024x128_0_1024_0)
        (vals x6 0 inb_S1x128x4352_S1x128x1024_0_0_0) (vals x6 1024 inb_S1x128x4352_S1x128x1024_0_0_1024))
      (k0_pay9 q (keys x5 3072 inb_S1x4352x128_S1x1024x128_0_3072_0))
      (vals x6 2048 inb_S1x128x4352_S1x128x1024_0_0_2048) (keysLast x5) (vals x6 3072 inb_S1x128x4352_S1x128x1024_0_0_3072) (valsLast x6) y
      = mixO (wU q x5) (l (ix2 0 0)) x6 (y 0) (y 1) := by
  unfold mixO
  simp only [← blocks]
  unfold wU sc
  pointwise [k0_pay10, k0_pay8, k0_pay7, k0_pay5, k0_pay9, k0_pay4, k0_pay6, keys, keysLast, vals, valsLast]

theorem o_P (q : FVec Ideal S2048x128 .bf16) (mx : FVec Ideal S1x2048 .f32) (x5 : Vec Ideal S1x4352x128 .bf16) (x6 : Vec Ideal S1x128x4352 .bf16) (y : S128x2048.Idx) :
    k0_pay20 (F := Ideal) q mx (k0_pay15 q (keys x5 2048 inb_S1x4352x128_S1x1024x128_0_2048_0))
      (k0_pay17 q mx k0_pay13 (keys x5 0 inb_S1x4352x128_S1x1024x128_0_0_0) (keys x5 1024 inb_S1x4352x128_S1x1024x128_0_1024_0))
      (k0_pay18 q mx (Scalar.ofBits .f32 0x00000000#32) (keys x5 0 inb_S1x4352x128_S1x1024x128_0_0_0) (keys x5 1024 inb_S1x4352x128_S1x1024x128_0_1024_0)
        (vals x6 0 inb_S1x128x4352_S1x128x1024_0_0_0) (vals x6 1024 inb_S1x128x4352_S1x128x1024_0_0_1024))
      (k0_pay19 (keys x5 3072 inb_S1x4352x128_S1x1024x128_0_3072_0)) (constant S1024x2048 .f32 0x00000000#32)
      (vals x6 2048 inb_S1x128x4352_S1x128x1024_0_0_2048) (keysLast x5) (vals x6 3072 inb_S1x128x4352_S1x128x1024_0_0_3072) (valsLast x6) y
      = Ideal.div (∑ j, x6 (ix3 0 (y 0) j) * wP q x5 mx j (y 1)) (∑ j, wP q x5 mx j (y 1)) := by
  simp only [← blocks]
  unfold wP sc
  pointwise [k0_pay20, k0_pay18, k0_pay17, k0_pay15, k0_pay19, k0_pay14, k0_pay16, k0_pay13, keys, keysLast, vals, valsLast]

theorem pay2_at (o : FVec Ideal S128x1024 .f32) (s : FVec Ideal S1x1024 .f32) (x7 : FVec Ideal S128x1 .f32) (y : S1x1024x128.Idx) :
    k0_pay2 (F := Ideal) o s x7 y = o (ix2 (y 2) (y 1)) * Ideal.rsqrt (Ideal.div (s (ix2 0 (y 1))) (Ideal.ofBits .f32 0x43000000#32) + Ideal.ofBits .f32 0x358637BD#32)
      * x7 (ix2 (y 2) 0) * Ideal.ofBits .f32 0x3F24FD5C#32 := by
  pointwise [k0_pay2]

theorem pay11_at (l : FVec Ideal S1x1 .f32) (q : FVec Ideal S2048x128 .bf16) (a : FVec Ideal S1024x2048 .f32) (b : FVec Ideal S1x2048 .f32) (c : FVec Ideal S128x2048 .f32) (d : FVec Ideal S1024x2048 .f32)
    (v2 : Vec Ideal S1x128x1024 .bf16) (kl : Vec Ideal S1x256x128 .bf16) (v3 : Vec Ideal S1x128x1024 .bf16) (vl : Vec Ideal S1x128x256 .bf16) (y : S1x1024.Idx) :
    k0_pay11 (F := Ideal) l q a b c d v2 kl v3 vl y = ∑ x : Fin 128, k0_pay10 (F := Ideal) l q a b c d v2 kl v3 vl (ix2 x (y 1)) * k0_pay10 (F := Ideal) l q a b c d v2 kl v3 vl (ix2 x (y 1)) := by
  unfold k0_pay11
  generalize k0_pay10 (F := Ideal) l q a b c d v2 kl v3 vl = w
  pointwise []

theorem outU_at (l : FVec Ideal S1x1 .f32) (q : FVec Ideal S2048x128 .bf16) (x5 : Vec Ideal S1x4352x128 .bf16) (x6 : Vec Ideal S1x128x4352 .bf16) (x7 : Vec Ideal S128x1 .f32) (y : S1x1024x128.Idx) :
    outU l q x5 x6 x7 y = fin (mixO (wU q x5) (l (ix2 0 0)) x6) x7 (y 2) (y 1) := by
  unfold outU fin
  refine (pay2_at _ _ _ y).trans ?_
  refine congrArg (fun t => t * _ * _) (congrArg₂ (fun o s => o * Ideal.rsqrt (Ideal.div s _ + _)) (o_U l q x5 x6 (ix2 (y 2) (y 1))) ?_)
  refine (pay11_at ..).trans (Finset.sum_congr rfl fun x _ => ?_)
  exact congrArg₂ (· * ·) (o_U ..) (o_U ..)

theorem pay3_at (l : FVec Ideal S1x1 .f32) (o1 o2 : FVec Ideal S128x1024 .f32) (x7 : FVec Ideal S128x1 .f32) (y : S1x1024x128.Idx) :
    k0_pay3 (F := Ideal) l o1 o2 x7 y = fin (fun e r => o1 (ix2 e r) - l (ix2 0 0) * o2 (ix2 e r)) x7 (y 2) (y 1) := by
  pointwise [k0_pay3, fin]

theorem pay21_at (q : FVec Ideal S2048x128 .bf16) (mx : FVec Ideal S1x2048 .f32) (a : FVec Ideal S1024x2048 .f32) (b : FVec Ideal S1x2048 .f32) (d : FVec Ideal S128x2048 .f32) (k : FVec Ideal S1024x128 .bf16)
    (z : FVec Ideal S1024x2048 .f32) (v2 : Vec Ideal S1x128x1024 .bf16) (kl : Vec Ideal S1x256x128 .bf16) (v3 : Vec Ideal S1x128x1024 .bf16) (vl : Vec Ideal S1x128x256 .bf16) (y : S128x1024.Idx) :
    k0_pay21 (F := Ideal) q mx a b d k z v2 kl v3 vl y = k0_pay20 (F := Ideal) q mx a b d k z v2 kl v3 vl (ix2 (y 0) ⟨(y 1).val, by have := (y 1).isLt; change _ < 1024 at this; omega⟩) := by
  unfold k0_pay21
  generalize k0_pay20 (F := Ideal) q mx a b d k z v2 kl v3 vl = w
  pointwise []
theorem pay22_at (q : FVec Ideal S2048x128 .bf16) (mx : FVec Ideal S1x2048 .f32) (a : FVec Ideal S1024x2048 .f32) (b : FVec Ideal S1x2048 .f32) (d : FVec Ideal S128x2048 .f32) (k : FVec Ideal S1024x128 .bf16)
    (z : FVec Ideal S1024x2048 .f32) (v2 : Vec Ideal S1x128x1024 .bf16) (kl : Vec Ideal S1x256x128 .bf16) (v3 : Vec Ideal S1x128x1024 .bf16) (vl : Vec Ideal S1x128x256 .bf16) (y : S128x1024.Idx) :
    k0_pay22 (F := Ideal) q mx a b d k z v2 kl v3 vl y = k0_pay20 (F := Ideal) q mx a b d k z v2 kl v3 vl (ix2 (y 0) ⟨1024 + (y 1).val, by have := (y 1).isLt; change _ < 1024 at this; omega⟩) := by
  unfold k0_pay22
  generalize k0_pay20 (F := Ideal) q mx a b d k z v2 kl v3 vl = w
  pointwise []

/-- The maximum of each stacked query's scores. -/
def mxK (q : FVec Ideal S2048x128 .bf16) (x5 : Vec Ideal S1x4352x128 .bf16) : FVec Ideal S1x2048 .f32 :=
  k0_pay12 (F := Ideal) q (keys x5 0 inb_S1x4352x128_S1x1024x128_0_0_0) (keys x5 1024 inb_S1x4352x128_S1x1024x128_0_1024_0)
    (keys x5 2048 inb_S1x4352x128_S1x1024x128_0_2048_0) (keys x5 3072 inb_S1x4352x128_S1x1024x128_0_3072_0) (keysLast x5)

theorem outP_at (l : FVec Ideal S1x1 .f32) (q : FVec Ideal S2048x128 .bf16) (x5 : Vec Ideal S1x4352x128 .bf16) (x6 : Vec Ideal S1x128x4352 .bf16) (x7 : Vec Ideal S128x1 .f32) (y : S1x1024x128.Idx) :
    outP l q x5 x6 x7 y = fin (mixO (wP q x5 (mxK q x5)) (l (ix2 0 0)) x6) x7 (y 2) (y 1) := by
  unfold outP
  refine (pay3_at _ _ _ _ y).trans ?_
  refine congrArg (fun o => fin o x7 (y 2) (y 1)) (funext fun e => funext fun r => ?_)
  exact congrArg₂ (fun a b => a - l (ix2 0 0) * b) ((pay21_at ..).trans (o_P ..)) ((pay22_at ..).trans (o_P ..))

end Cert.KernelIdeal.Att

end
-- ==== Proof.AttMax.lean ====
module

public import proofs.«01_k».proof.Proof.AttMath
public import proofs.«01_k».proof.Proof.AttRef
public import proofs.«01_k».proof.Proof.AttPay

/-! A maximum of real numbers, taken from minus infinity up, is a real number. -/

@[expose] public section

set_option maxRecDepth 16384

noncomputable section

open Idealize.ShloMosaic Idealize.ShloMosaic.TcCoe Idealize.SL.Sem

namespace Cert.Att

theorem fold_real {n : ℕ} (hn : 0 < n) (f : Fin n → EReal) (h : ∀ k, ∃ r : ℝ, f k = (r : EReal)) :
    ∃ r : ℝ, Finset.univ.fold max (⊥ : EReal) f = (r : EReal) := by
  choose g hg using h
  haveI : Nonempty (Fin n) := ⟨⟨0, hn⟩⟩
  obtain ⟨i, hi⟩ := Finite.exists_max g
  refine ⟨g i, le_antisymm (Finset.fold_max_le _ |>.2 ⟨bot_le, fun k _ => ?_⟩) (Finset.le_fold_max _ |>.2 (Or.inr ⟨i, Finset.mem_univ _, (hg i).ge⟩))⟩
  rw [hg k]
  exact EReal.coe_le_coe_iff.2 (hi k)

theorem max_real {x y : EReal} (hx : x = ⊥ ∨ ∃ r : ℝ, x = (r : EReal)) (hy : ∃ r : ℝ, y = (r : EReal)) : ∃ r : ℝ, max x y = (r : EReal) := by
  rcases hx with rfl | ⟨a, rfl⟩
  · rwa [max_eq_right bot_le]
  · obtain ⟨b, rfl⟩ := hy
    rcases le_total a b with hab | hab
    · exact ⟨b, max_eq_right (EReal.coe_le_coe_iff.2 hab)⟩
    · exact ⟨a, max_eq_left (EReal.coe_le_coe_iff.2 hab)⟩

theorem max_at_real {s : Shape} (a b : FVec Ideal s .f32) (j : s.Idx) (ha : a j = (⊥ : EReal) ∨ ∃ r : ℝ, a j = (r : EReal)) (hb : ∃ r : ℝ, b j = (r : EReal)) :
    ∃ r : ℝ, maximumf a b j = (r : EReal) := max_real ha hb

theorem neg_inf : Ideal.ofBits .f32 0xFF800000#32 = (⊥ : EReal) := by
  simp [Ideal.ofBits, Ideal.ieee]

theorem eighth : Ideal.ofBits .f32 0x3E000000#32 = ((1 / 8 : ℝ) : EReal) := by
  simp [Ideal.ofBits, Ideal.ieee, -EReal.coe_mul]; norm_num

theorem lam_real : ∃ r : ℝ, Ideal.ofBits .f32 0x3EB60549#32 = (r : EReal) := by
  simp only [Ideal.ofBits, Ideal.ieee]
  rw [if_neg (by decide), if_neg (by decide)]
  exact ⟨_, rfl⟩

theorem lam_real5 : ∃ r : ℝ, Ideal.ofBits .f32 0x3EF1014C#32 = (r : EReal) := by
  simp only [Ideal.ofBits, Ideal.ieee]
  rw [if_neg (by decide), if_neg (by decide)]
  exact ⟨_, rfl⟩

theorem hostRed_real {n0 n1 n2 n3 n4 : ℕ} (hn : 0 < n4) {t u : Shape} (v : FVec Ideal (⟨5, ![n0, n1, n2, n3, n4]⟩ : Shape) .f32) (init : FVec Ideal u .f32)
    (hi : ∀ i, init i = (⊥ : EReal)) (h : (⟨5, ![n0, n1, n2, n3, n4]⟩ : Shape).ReducesTo [4] t) (hu' : 0 < u.numel)
    (hv : ∀ i, ∃ r : ℝ, v i = (r : EReal)) (j : t.Idx) :
    ∃ r : ℝ, Host.reduce (FloatOps.maximumf (F := Ideal) (φ := .f32)) v init h hu' j = (r : EReal) := by
  rw [Host.reduce_eq_fold, Shape.ReducesTo.fold_fiber_r5_a4]
  obtain ⟨r, hr⟩ := fold_real hn _ fun k => hv _
  refine ⟨r, Eq.trans ?_ hr⟩
  exact congrArg (fun b => Finset.univ.fold max b _) (hi _)

theorem kernRed_real {n0 n1 : ℕ} (hn : 0 < n0) {t : Shape} (v : FVec Ideal (⟨2, ![n0, n1]⟩ : Shape) .f32)
    (h : (⟨2, ![n0, n1]⟩ : Shape).Reduces [0] t) (hv : ∀ i, ∃ r : ℝ, v i = (r : EReal)) (j : t.Idx) :
    ∃ r : ℝ, multiReduction (F := Ideal) .maximumf [0] t v 0xFF800000#32 h (.inl rfl) rfl j = (r : EReal) := by
  have e := (multiReduction_maximumf_eq_fold v 0xFF800000#32 h (.inl rfl) rfl j).trans
    (Shape.Reduces.fold_fiber_r2_a0 h j (FloatOps.maximumf (F := Ideal) (φ := .f32)) _ v)
  obtain ⟨r, hr⟩ := fold_real hn _ fun k : Fin n0 => hv (ix2 k ⟨(j ⟨0, h.lt_r2_a0_0⟩).val, Shape.coordLt (j ⟨0, h.lt_r2_a0_0⟩) h.size_r2_a0_0⟩)
  exact ⟨r, e.trans ((congrArg (fun b => Finset.univ.fold max b _) neg_inf).trans hr)⟩

end Cert.Att

namespace Cert.ReferenceIdeal.Att

open Cert.ReferenceIdeal Cert.ReferenceIdeal.Gen

theorem RD_real (S : FVec Ideal S4x8x2x4096x4352 .f32) (h : ∀ i, ∃ r : ℝ, S i = (r : EReal)) (j : S4x8x2x4096.Idx) :
    ∃ r : ℝ, Host.reduce (FloatOps.maximumf (F := Ideal) (φ := .f32)) S (constant S_ .f32 0xFF800000#32) reducesTo_S4x8x2x4096x4352_S4x8x2x4096_d4 h_S_ j = (r : EReal) :=
  Cert.Att.hostRed_real (n4 := 4352) (Nat.succ_pos _) S (constant S_ .f32 0xFF800000#32) (fun _ => Cert.Att.neg_inf) reducesTo_S4x8x2x4096x4352_S4x8x2x4096_d4 h_S_ h j

theorem MX_real (S : FVec Ideal S4x8x2x4096x4352 .f32) (h : ∀ i, ∃ r : ℝ, S i = (r : EReal)) (j : S4x8x2x4096.Idx) : ∃ r : ℝ, MX S j = (r : EReal) := by
  unfold MX
  exact Cert.Att.max_at_real _ _ j (.inl Cert.Att.neg_inf) (RD_real S h j)

end Cert.ReferenceIdeal.Att

namespace Cert.KernelIdeal.Att

open Cert.KernelIdeal Cert.KernelIdeal.Gen

theorem red_real (v : FVec Ideal S1024x2048 .f32) (h : ∀ i, ∃ r : ℝ, v i = (r : EReal)) (j : S2048.Idx) :
    ∃ r : ℝ, multiReduction (F := Ideal) .maximumf [0] S2048 v 0xFF800000#32 reduces_S1024x2048_S2048 (.inl rfl) rfl j = (r : EReal) :=
  Cert.Att.kernRed_real (Nat.succ_pos _) v reduces_S1024x2048_S2048 h j

theorem red_real' (v : FVec Ideal S256x2048 .f32) (h : ∀ i, ∃ r : ℝ, v i = (r : EReal)) (j : S2048.Idx) :
    ∃ r : ℝ, multiReduction (F := Ideal) .maximumf [0] S2048 v 0xFF800000#32 reduces_S256x2048_S2048 (.inl rfl) rfl j = (r : EReal) :=
  Cert.Att.kernRed_real (Nat.succ_pos _) v reduces_S256x2048_S2048 h j

theorem mm_at (q : FVec Ideal S2048x128 .bf16) (k : Vec Ideal S1x1024x128 .bf16) (i : S1024x2048.Idx) :
    matmul (F := Ideal) dot_S1024x128_S2048x128_S1024x2048_1_1_0_0_n_n none (shapeCast S1024x128 k shapeCasts_S1x1024x128_S1024x128 : FVec Ideal S1024x128 .bf16) q (constant S1024x2048 .f32 0x00000000#32 : FVec Ideal S1024x2048 .f32) i
      = ∑ x : Fin 128, k (ix3 0 (i 0) x) * q (ix2 (i 1) x) := by
  pointwise []

theorem mm_at' (q : FVec Ideal S2048x128 .bf16) (k : Vec Ideal S1x256x128 .bf16) (i : S256x2048.Idx) :
    matmul (F := Ideal) dot_S256x128_S2048x128_S256x2048_1_1_0_0_n_n none (shapeCast S256x128 k shapeCasts_S1x256x128_S256x128 : FVec Ideal S256x128 .bf16) q (constant S256x2048 .f32 0x00000000#32 : FVec Ideal S256x2048 .f32) i
      = ∑ x : Fin 128, k (ix3 0 (i 0) x) * q (ix2 (i 1) x) := by
  pointwise []

theorem key_at (x5 : Vec Ideal S1x4352x128 .bf16) (q : FVec Ideal S2048x128 .bf16) (o : Nat) (h) (j : Fin 1024) (r : Fin 2048) (ho : o + 1024 ≤ 4352) :
    ∑ x : Fin 128, keys x5 o h (ix3 0 j x) * q (ix2 r x) = sc q x5 ⟨o + j.val, by omega⟩ r :=
  Finset.sum_congr rfl fun x _ => congrArg (· * _) (by pointwise [keys])

theorem keyLast_at (x5 : Vec Ideal S1x4352x128 .bf16) (q : FVec Ideal S2048x128 .bf16) (j : Fin 256) (r : Fin 2048) :
    ∑ x : Fin 128, keysLast x5 (ix3 0 j x) * q (ix2 r x) = sc q x5 ⟨4096 + j.val, by omega⟩ r :=
  Finset.sum_congr rfl fun x _ => congrArg (· * _) (by pointwise [keysLast])

theorem mxK_real (q : FVec Ideal S2048x128 .bf16) (x5 : Vec Ideal S1x4352x128 .bf16) (h : ∀ j r, ∃ s : ℝ, sc q x5 j r = (s : EReal)) (y : S1x2048.Idx) :
    ∃ s : ℝ, mxK q x5 y = (s : EReal) := by
  have key : ∀ (o : Nat) (hi) (ho : o + 1024 ≤ 4352) (j : S2048.Idx), ∃ r : ℝ, multiReduction (F := Ideal) .maximumf [0] S2048
      (matmul (F := Ideal) dot_S1024x128_S2048x128_S1024x2048_1_1_0_0_n_n none (shapeCast S1024x128 (keys x5 o hi) shapeCasts_S1x1024x128_S1024x128 : FVec Ideal S1024x128 .bf16) q (constant S1024x2048 .f32 0x00000000#32 : FVec Ideal S1024x2048 .f32))
      0xFF800000#32 reduces_S1024x2048_S2048 (.inl rfl) rfl j = (r : EReal) := fun o hi ho j => red_real _ (fun i => by
        obtain ⟨s, hs⟩ := h ⟨o + (i 0).val, by have := (i 0).isLt; change _ < 1024 at this; omega⟩ (i 1)
        exact ⟨s, ((mm_at ..).trans (key_at x5 q o hi (i 0) (i 1) ho)).trans hs⟩) j
  have last : ∀ (j : S2048.Idx), ∃ r : ℝ, multiReduction (F := Ideal) .maximumf [0] S2048
      (matmul (F := Ideal) dot_S256x128_S2048x128_S256x2048_1_1_0_0_n_n none (shapeCast S256x128 (keysLast x5) shapeCasts_S1x256x128_S256x128 : FVec Ideal S256x128 .bf16) q (constant S256x2048 .f32 0x00000000#32 : FVec Ideal S256x2048 .f32))
      0xFF800000#32 reduces_S256x2048_S2048 (.inl rfl) rfl j = (r : EReal) := fun j => red_real' _ (fun i => by
        obtain ⟨s, hs⟩ := h ⟨4096 + (i 0).val, by have := (i 0).isLt; change _ < 256 at this; omega⟩ (i 1)
        exact ⟨s, ((mm_at' ..).trans (keyLast_at x5 q (i 0) (i 1))).trans hs⟩) j
  unfold mxK k0_pay12
  refine Cert.Att.max_at_real _ _ y (.inr (Cert.Att.max_at_real _ _ y (.inr (Cert.Att.max_at_real _ _ y (.inr (Cert.Att.max_at_real _ _ y (.inr (Cert.Att.max_at_real _ _ y (.inl Cert.Att.neg_inf)
    ?_)) ?_)) ?_)) ?_)) ?_
  · exact key _ _ (by decide) _
  · exact key _ _ (by decide) _
  · exact key _ _ (by decide) _
  · exact key _ _ (by decide) _
  · exact last _

end Cert.KernelIdeal.Att
end
-- ==== Proof.AttVal.lean ====
module

public import proofs.«01_k».proof.Proof.AttMax

/-! The attention's stored block over the real numbers, against the reference's weights. -/

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

theorem SC_at (Q K : FVec Ideal S4x4352x1024 .f32) (b : Fin 4) (h : Fin 8) (c : Fin 2) (n : Fin 4096) (j : Fin 4352) :
    SC Q K (ix5 b h c n j) = (∑ x : Fin 64, Q (ix3 b ⟨256 + n.val, by omega⟩ ⟨h.val * 128 + c.val * 64 + x.val, by omega⟩) * K (ix3 b j ⟨h.val * 128 + c.val * 64 + x.val, by omega⟩))
      * Ideal.ofBits .f32 0x3E000000#32 := by
  pointwise [SC]

theorem EX_at (S : FVec Ideal S4x8x2x4096x4352 .f32) (M : FVec Ideal S4x8x2x4096 .f32) (b : Fin 4) (h : Fin 8) (c : Fin 2) (n : Fin 4096) (j : Fin 4352) :
    EX S M (ix5 b h c n j) = Ideal.exp (S (ix5 b h c n j) - M (ix4 b h c n)) := by
  pointwise [EX]

theorem PR_at (E : FVec Ideal S4x8x2x4096x4352 .f32) (b : Fin 4) (h : Fin 8) (c : Fin 2) (n : Fin 4096) (j : Fin 4352) :
    PR E (ix5 b h c n j) = Ideal.div (E (ix5 b h c n j)) (∑ x, E (ix5 b h c n x)) := by
  pointwise [PR]

theorem MIX_at (l : FVec Ideal S_ .f32) (P : FVec Ideal S4x8x2x4096x4352 .f32) (b : Fin 4) (h : Fin 8) (n : Fin 4096) (j : Fin 4352) :
    MIX l P (ix4 b h n j) = P (ix5 b h 0 n j) - l ix0 * P (ix5 b h 1 n j) := by
  pointwise [MIX]

theorem LAM_at (L : FVec Ideal S4x64 .f32) :
    LAM L ix0 = Ideal.exp (∑ x : Fin 64, L (ix2 0 x) * L (ix2 1 x)) - Ideal.exp (∑ x : Fin 64, L (ix2 2 x) * L (ix2 3 x)) + Ideal.ofBits .f32 0x3EB60549#32 := by
  pointwise [LAM]

theorem AV_at (V : FVec Ideal S4x4352x1024 .f32) (A : FVec Ideal S4x8x4096x4352 .f32) (b : Fin 4) (n : Fin 4096) (h : Fin 8) (e : Fin 128) :
    AV V A (ix4 b n h e) = ∑ x : Fin 4352, V (ix3 b x ⟨h.val * 128 + e.val, by omega⟩) * A (ix4 b h n x) := by
  pointwise [AV]

theorem NRM_at (o : FVec Ideal S4x4096x8x128 .f32) (g : FVec Ideal S128 .f32) (b : Fin 4) (n : Fin 4096) (h : Fin 8) (e : Fin 128) :
    NRM o g (ix4 b n h e) = o (ix4 b n h e) * Ideal.rsqrt (Ideal.div (∑ x, o (ix4 b n h x) * o (ix4 b n h x)) (Ideal.ofBits .f32 0x43000000#32) + Ideal.ofBits .f32 0x358637BD#32)
      * g (ix1 e) * Ideal.ofBits .f32 0x3F24FD5C#32 := by
  pointwise [NRM]

theorem REF_at (L : FVec Ideal S4x64 .f32) (Q K V : FVec Ideal S4x4352x1024 .f32) (g : FVec Ideal S128 .f32) (b : Fin 4) (n : Fin 4096) (h : Fin 8) (e : Fin 128) :
    REF L Q K V g (ix3 b n ⟨h.val * 128 + e.val, by omega⟩) = NRM (AV V (MIX (LAM L) (PR (WT Q K)))) g (ix4 b n h e) := by
  unfold REF
  generalize NRM (AV V (MIX (LAM L) (PR (WT Q K)))) g = w
  pointwise []

/-- The score of query `n` and key `j` in half `c` of head `h`. -/
def SR (q k : S4x4352x1024.Idx → ℝ) (b : Fin 4) (h : Fin 8) (c : Fin 2) (n : Fin 4096) (j : Fin 4352) : ℝ :=
  (∑ x : Fin 64, q (ix3 b ⟨256 + n.val, by omega⟩ ⟨h.val * 128 + c.val * 64 + x.val, by omega⟩) * k (ix3 b j ⟨h.val * 128 + c.val * 64 + x.val, by omega⟩)) * (1 / 8)

theorem SC_real (Q K : FVec Ideal S4x4352x1024 .f32) (q k : S4x4352x1024.Idx → ℝ) (hQ : ∀ i, Q i = (q i : EReal)) (hK : ∀ i, K i = (k i : EReal))
    (b : Fin 4) (h : Fin 8) (c : Fin 2) (n : Fin 4096) (j : Fin 4352) : SC Q K (ix5 b h c n j) = (SR q k b h c n j : EReal) := by
  refine (SC_at Q K b h c n j).trans ?_
  rw [Cert.Att.eighth]
  unfold SR
  rw [EReal.coe_mul, ← Cert.Att.sum_real]
  refine congrArg (· * _) (Finset.sum_congr rfl fun x _ => ?_)
  rw [hQ, hK, EReal.coe_mul]

theorem LAM_real (L : FVec Ideal S4x64 .f32) (l : S4x64.Idx → ℝ) (hL : ∀ i, L i = (l i : EReal)) : ∃ r : ℝ, LAM L ix0 = (r : EReal) := by
  obtain ⟨r, hr⟩ := Cert.Att.lam_real
  refine ⟨Real.exp (∑ x : Fin 64, l (ix2 0 x) * l (ix2 1 x)) - Real.exp (∑ x : Fin 64, l (ix2 2 x) * l (ix2 3 x)) + r, ?_⟩
  refine (LAM_at L).trans ?_
  rw [hr, EReal.coe_add, EReal.coe_sub, ← Ideal.exp_coe, ← Ideal.exp_coe, ← Cert.Att.sum_real, ← Cert.Att.sum_real]
  simp only [hL, EReal.coe_mul]

theorem AV_real (L : FVec Ideal S4x64 .f32) (Q K V : FVec Ideal S4x4352x1024 .f32) (q k : S4x4352x1024.Idx → ℝ) (hQ : ∀ i, Q i = (q i : EReal)) (hK : ∀ i, K i = (k i : EReal))
    (b : Fin 4) (n : Fin 4096) (h : Fin 8) : ∃ M0 M1 : ℝ, ∀ e, AV V (MIX (LAM L) (PR (WT Q K))) (ix4 b n h e)
      = ∑ x : Fin 4352, V (ix3 b x ⟨h.val * 128 + e.val, by omega⟩) * (Ideal.div ((Real.exp (SR q k b h 0 n x - M0) : ℝ) : EReal) (∑ y, ((Real.exp (SR q k b h 0 n y - M0) : ℝ) : EReal))
        - LAM L ix0 * Ideal.div ((Real.exp (SR q k b h 1 n x - M1) : ℝ) : EReal) (∑ y, ((Real.exp (SR q k b h 1 n y - M1) : ℝ) : EReal))) := by
  have hS : ∀ i, ∃ r : ℝ, SC Q K i = (r : EReal) := fun i => by
    obtain ⟨r, hr⟩ : ∃ r : ℝ, SC Q K (ix5 (i 0) (i 1) (i 2) (i 3) (i 4)) = (r : EReal) := ⟨_, SC_real Q K q k hQ hK (i 0) (i 1) (i 2) (i 3) (i 4)⟩
    exact ⟨r, (congrArg (SC Q K) (ix5_eta i)).symm.trans hr⟩
  obtain ⟨M0, h0⟩ := MX_real (SC Q K) hS (ix4 b h 0 n)
  obtain ⟨M1, h1⟩ := MX_real (SC Q K) hS (ix4 b h 1 n)
  have w0 : ∀ x, WT Q K (ix5 b h 0 n x) = ((Real.exp (SR q k b h 0 n x - M0) : ℝ) : EReal) := fun x =>
    (EX_at _ _ b h 0 n x).trans (by rw [h0, SC_real Q K q k hQ hK, ← EReal.coe_sub, Ideal.exp_coe])
  have w1 : ∀ x, WT Q K (ix5 b h 1 n x) = ((Real.exp (SR q k b h 1 n x - M1) : ℝ) : EReal) := fun x =>
    (EX_at _ _ b h 1 n x).trans (by rw [h1, SC_real Q K q k hQ hK, ← EReal.coe_sub, Ideal.exp_coe])
  refine ⟨M0, M1, fun e => (AV_at V _ b n h e).trans (Finset.sum_congr rfl fun x _ => congrArg (_ * ·) ?_)⟩
  refine (MIX_at _ _ b h n x).trans ?_
  rw [PR_at, PR_at]
  simp only [w0, w1]

end Cert.ReferenceIdeal.Att

namespace Cert.KernelIdeal.Att

open Cert.KernelIdeal Cert.KernelIdeal.Gen

/-- The two halves' averages and their difference, at weights that are powers of two of the scores less a number of each row. -/
theorem mixO_eq (w : Fin 4352 → Fin 2048 → EReal) (l : ℝ) (x6 : Vec Ideal S1x128x4352 .bf16) (e : Fin 128) (r : Fin 1024) (v s0 s1 : Fin 4352 → ℝ) (M0 M1 m0 m1 : ℝ)
    (hv : ∀ j, x6 (ix3 0 e j) = (v j : EReal))
    (h0 : ∀ j, w j ⟨r.val, by omega⟩ = ((Real.rpow 2 (s0 j * (Real.log 2)⁻¹ - m0) : ℝ) : EReal))
    (h1 : ∀ j, w j ⟨1024 + r.val, by omega⟩ = ((Real.rpow 2 (s1 j * (Real.log 2)⁻¹ - m1) : ℝ) : EReal)) :
    mixO w (l : EReal) x6 e r = ∑ j, (v j : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal))) := by
  haveI : Nonempty (Fin 4352) := ⟨0⟩
  unfold mixO
  simp only [hv, h0, h1]
  exact Cert.Att.mixed v l _ _ _ _ _ _ (Real.exp_pos (M0 - m0 * Real.log 2)) (Real.exp_pos (M1 - m1 * Real.log 2)) (fun _ => Real.exp_pos _) (fun _ => Real.exp_pos _)
    (fun j => Cert.Att.two_pow (s0 j) m0 M0) (fun j => Cert.Att.two_pow (s1 j) m1 M1)

/-- The number the scale of the queries is named. -/
theorem kappa : (Named.named (F := Ideal) κ "score_scale" (φ := .f32) 0x3E38AA3B#32 : EReal) = (((8 * Real.log 2)⁻¹ : ℝ) : EReal) := rfl

/-- The query blocks, one behind the other. -/
def qrow (x1 x2 x3 x4 : Vec Ideal S1x256x128 .f32) (r : Fin 1024) (d : Fin 128) : EReal :=
  if h : r.val < 256 then x1 (ix3 0 ⟨r.val, h⟩ d) else if h2 : r.val - 256 < 256 then x2 (ix3 0 ⟨r.val - 256, h2⟩ d)
  else if h3 : r.val - 256 - 256 < 256 then x3 (ix3 0 ⟨r.val - 256 - 256, h3⟩ d) else x4 (ix3 0 ⟨r.val - 256 - 256 - 256, by have := r.isLt; omega⟩ d)

theorem lt64 : ∀ d : Fin 128, IntOp.cmpi .slt (BitVec.ofNat 32 d.val) 64#32 = if d.val < 64 then 1#1 else 0#1 := by decide +kernel

theorem qcat_lo (x1 x2 x3 x4 : Vec Ideal S1x256x128 .f32) (r : Fin 1024) (d : Fin 128) :
    qcat (F := Ideal) x1 x2 x3 x4 (ix2 ⟨r.val, by omega⟩ d) = if d.val < 64 then qrow x1 x2 x3 x4 r d * (((8 * Real.log 2)⁻¹ : ℝ) : EReal) else 0 := by
  have hr := r.isLt
  rw [← kappa]
  unfold qrow
  pointwise [qcat, k0_pay1, k0_pay24, k0_pay25]
  rw [lt64]
  by_cases h : d.val < 64
  · rw [if_pos h, if_pos h]; rfl
  · rw [if_neg h, if_neg h]; rfl

theorem qcat_hi (x1 x2 x3 x4 : Vec Ideal S1x256x128 .f32) (r : Fin 1024) (d : Fin 128) :
    qcat (F := Ideal) x1 x2 x3 x4 (ix2 ⟨1024 + r.val, by omega⟩ d) = if d.val < 64 then 0 else qrow x1 x2 x3 x4 r d * (((8 * Real.log 2)⁻¹ : ℝ) : EReal) := by
  have hr := r.isLt
  rw [← kappa]
  unfold qrow
  pointwise [qcat, k0_pay1, k0_pay24, k0_pay25]
  rw [lt64]
  by_cases h : d.val < 64
  · rw [if_pos h, if_pos h]; rfl
  · rw [if_neg h, if_neg h]; rfl

theorem half (f : Fin 128 → EReal) : ∑ d, f d = (∑ x : Fin 64, f ⟨x.val, by omega⟩) + ∑ x : Fin 64, f ⟨64 + x.val, by omega⟩ :=
  Fin.sum_univ_add (a := 64) (b := 64) f

theorem scale_real (a b : Fin 64 → ℝ) : (∑ x, (b x : EReal) * ((a x : EReal) * (((8 * Real.log 2)⁻¹ : ℝ) : EReal)))
    = ((((∑ x, a x * b x) * (1 / 8)) * (Real.log 2)⁻¹ : ℝ) : EReal) := by
  have e : ((∑ x, a x * b x) * (1 / 8)) * (Real.log 2)⁻¹ = ∑ x, b x * (a x * (8 * Real.log 2)⁻¹) := by
    rw [mul_assoc, Finset.sum_mul]
    refine Finset.sum_congr rfl fun x _ => ?_
    rw [mul_inv]; ring
  rw [e, ← Cert.Att.sum_real]
  refine Finset.sum_congr rfl fun x _ => ?_
  rw [EReal.coe_mul, EReal.coe_mul]

theorem sc_lo (x1 x2 x3 x4 : Vec Ideal S1x256x128 .f32) (x5 : Vec Ideal S1x4352x128 .bf16) (j : Fin 4352) (r : Fin 1024) (q k : Fin 128 → ℝ)
    (hq : ∀ d, qrow x1 x2 x3 x4 r d = (q d : EReal)) (hk : ∀ d, x5 (ix3 0 j d) = (k d : EReal)) :
    sc (qcat (F := Ideal) x1 x2 x3 x4) x5 j ⟨r.val, by omega⟩
      = ((((∑ x : Fin 64, q ⟨x.val, by omega⟩ * k ⟨x.val, by omega⟩) * (1 / 8)) * (Real.log 2)⁻¹ : ℝ) : EReal) := by
  unfold sc
  rw [half, ← scale_real, ← add_zero (∑ x : Fin 64, _ * (_ * _))]
  refine congrArg₂ (· + ·) (Finset.sum_congr rfl fun x _ => ?_) (Finset.sum_eq_zero fun x _ => ?_)
  · rw [hk, qcat_lo, if_pos x.isLt, hq]
  · rw [qcat_lo, if_neg (by simp), mul_zero]

theorem sc_hi (x1 x2 x3 x4 : Vec Ideal S1x256x128 .f32) (x5 : Vec Ideal S1x4352x128 .bf16) (j : Fin 4352) (r : Fin 1024) (q k : Fin 128 → ℝ)
    (hq : ∀ d, qrow x1 x2 x3 x4 r d = (q d : EReal)) (hk : ∀ d, x5 (ix3 0 j d) = (k d : EReal)) :
    sc (qcat (F := Ideal) x1 x2 x3 x4) x5 j ⟨1024 + r.val, by omega⟩
      = ((((∑ x : Fin 64, q ⟨64 + x.val, by omega⟩ * k ⟨64 + x.val, by omega⟩) * (1 / 8)) * (Real.log 2)⁻¹ : ℝ) : EReal) := by
  unfold sc
  rw [half, ← scale_real, ← zero_add (∑ x : Fin 64, _ * (_ * _))]
  refine congrArg₂ (· + ·) (Finset.sum_eq_zero fun x _ => ?_) (Finset.sum_congr rfl fun x _ => ?_)
  · rw [qcat_hi, if_pos x.isLt, mul_zero]
  · rw [hk, qcat_hi, if_neg (by simp), hq]

theorem fin_congr (o o' : Fin 128 → Fin 1024 → EReal) (x7 : Vec Ideal S128x1 .f32) (e : Fin 128) (r : Fin 1024) (h : ∀ e, o e r = o' e r) : fin o x7 e r = fin o' x7 e r := by
  unfold fin
  simp only [h]

theorem wU_eq (q : FVec Ideal S2048x128 .bf16) (x5 : Vec Ideal S1x4352x128 .bf16) (j : Fin 4352) (r : Fin 2048) (s : ℝ) (h : sc q x5 j r = (s : EReal)) :
    wU q x5 j r = ((Real.rpow 2 (s - 0) : ℝ) : EReal) := by
  unfold wU
  rw [h, sub_zero]
  exact Ideal.exp2_coe _

theorem wP_eq (q : FVec Ideal S2048x128 .bf16) (x5 : Vec Ideal S1x4352x128 .bf16) (mx : FVec Ideal S1x2048 .f32) (j : Fin 4352) (r : Fin 2048) (s m : ℝ) (h : sc q x5 j r = (s : EReal)) (hm : mx (ix2 0 r) = (m : EReal)) :
    wP q x5 mx j r = ((Real.rpow 2 (s - m) : ℝ) : EReal) := by
  unfold wP
  rw [h, hm, ← EReal.coe_sub]
  exact Ideal.exp2_coe _

/-- The block a grid point stores, over the real numbers: whichever branch runs, it is the norm of the reference's difference of averages. -/
theorem out_eq (w : BitVec 32) (x0 : Vec Ideal S4x64 .f32) (x1 x2 x3 x4 : Vec Ideal S1x256x128 .f32) (x5 : Vec Ideal S1x4352x128 .bf16) (x6 : Vec Ideal S1x128x4352 .bf16) (x7 : Vec Ideal S128x1 .f32)
    (l : ℝ) (q : Fin 1024 → Fin 128 → ℝ) (k v : Fin 4352 → Fin 128 → ℝ) (hl : k0_pay23 (F := Ideal) x0 (ix2 0 0) = (l : EReal))
    (hq : ∀ r d, qrow x1 x2 x3 x4 r d = (q r d : EReal)) (hk : ∀ j d, x5 (ix3 0 j d) = (k j d : EReal)) (hv : ∀ e j, x6 (ix3 0 e j) = (v j e : EReal))
    (r : Fin 1024) (e : Fin 128) (s0 s1 : Fin 4352 → ℝ)
    (h0 : ∀ j, s0 j = (∑ x : Fin 64, q r ⟨x.val, by omega⟩ * k j ⟨x.val, by omega⟩) * (1 / 8))
    (h1 : ∀ j, s1 j = (∑ x : Fin 64, q r ⟨64 + x.val, by omega⟩ * k j ⟨64 + x.val, by omega⟩) * (1 / 8)) (M0 M1 : ℝ) :
    out (F := Ideal) w x0 x1 x2 x3 x4 x5 x6 x7 (ix3 0 r e) = fin (fun e _ => ∑ j, (v j e : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal)))) x7 e r := by
  have c0 : ∀ j, sc (qcat (F := Ideal) x1 x2 x3 x4) x5 j ⟨r.val, by omega⟩ = ((s0 j * (Real.log 2)⁻¹ : ℝ) : EReal) := fun j => by
    rw [h0]; exact sc_lo x1 x2 x3 x4 x5 j r (q r) (k j) (hq r) (hk j)
  have c1 : ∀ j, sc (qcat (F := Ideal) x1 x2 x3 x4) x5 j ⟨1024 + r.val, by omega⟩ = ((s1 j * (Real.log 2)⁻¹ : ℝ) : EReal) := fun j => by
    rw [h1]; exact sc_hi x1 x2 x3 x4 x5 j r (q r) (k j) (hq r) (hk j)
  unfold out
  by_cases hw : k0_cond1 w = 1#1
  · rw [if_pos hw]
    refine (outU_at _ _ x5 x6 x7 (ix3 0 r e)).trans (fin_congr _ _ x7 e r fun e => ?_)
    rw [hl]
    exact mixO_eq _ l x6 e r (fun j => v j e) s0 s1 M0 M1 0 0 (hv e) (fun j => wU_eq _ x5 j _ _ (c0 j)) (fun j => wU_eq _ x5 j _ _ (c1 j))
  · rw [if_neg hw]
    have hS : ∀ j r', ∃ s : ℝ, sc (qcat (F := Ideal) x1 x2 x3 x4) x5 j r' = (s : EReal) := fun j r' => by
      by_cases h : r'.val < 1024
      · exact ⟨_, sc_lo x1 x2 x3 x4 x5 j ⟨r'.val, h⟩ (q _) (k j) (hq _) (hk j)⟩
      · have e : r' = ⟨1024 + (r'.val - 1024), by omega⟩ := Fin.ext (by simp; omega)
        rw [e]
        exact ⟨_, sc_hi x1 x2 x3 x4 x5 j ⟨r'.val - 1024, by omega⟩ (q _) (k j) (hq _) (hk j)⟩
    obtain ⟨m0, hm0⟩ := mxK_real _ x5 hS (ix2 0 ⟨r.val, by omega⟩)
    obtain ⟨m1, hm1⟩ := mxK_real _ x5 hS (ix2 0 ⟨1024 + r.val, by omega⟩)
    refine (outP_at _ _ x5 x6 x7 (ix3 0 r e)).trans (fin_congr _ _ x7 e r fun e => ?_)
    rw [hl]
    exact mixO_eq _ l x6 e r (fun j => v j e) s0 s1 M0 M1 m0 m1 (hv e) (fun j => wP_eq _ x5 _ j _ _ _ (c0 j) hm0) (fun j => wP_eq _ x5 _ j _ _ _ (c1 j) hm1)

theorem lam_eq (x0 : Vec Ideal S4x64 .f32) (L : FVec Ideal Cert.ReferenceIdeal.S4x64 .f32) (h : ∀ i, x0 i = L i) : k0_pay23 (F := Ideal) x0 (ix2 0 0) = Cert.ReferenceIdeal.Att.LAM L Idealize.ShloMosaic.ix0 := by
  refine Eq.trans ?_ (Cert.ReferenceIdeal.Att.LAM_at L).symm
  obtain rfl : x0 = L := funext h
  pointwise [k0_pay23]
  simp only [Fin.sum_univ_one]

end Cert.KernelIdeal.Att

end
-- ==== Proof.AttFinal.lean ====
module

public import proofs.«01_k».proof.Proof.AttVal
public import proofs.«01_k».proof.Proof.AttIdealFrame

/-! The attention's result array against the reference's. -/

@[expose] public section

set_option maxRecDepth 16384

noncomputable section

open Idealize.ShloMosaic Idealize.ShloMosaic.TcCoe Idealize.SL.Sem
open Idealize.ShloMosaic.Pipeline (Dat Cfg Window)

namespace Cert.KernelIdeal.Att

open Cert.KernelIdeal Cert.KernelIdeal.Gen

theorem idxs : ∀ t : Fin grid0.N, cc0_transform_0 (grid0.coords t) = ![0, 0]
    ∧ cc0_transform_1 (grid0.coords t) = ![t.val / 32, 1 + 4 * (t.val % 4), t.val / 4 % 8]
    ∧ cc0_transform_2 (grid0.coords t) = ![t.val / 32, 2 + 4 * (t.val % 4), t.val / 4 % 8]
    ∧ cc0_transform_3 (grid0.coords t) = ![t.val / 32, 3 + 4 * (t.val % 4), t.val / 4 % 8]
    ∧ cc0_transform_4 (grid0.coords t) = ![t.val / 32, 4 + 4 * (t.val % 4), t.val / 4 % 8]
    ∧ cc0_transform_5 (grid0.coords t) = ![t.val / 32, 0, t.val / 4 % 8]
    ∧ cc0_transform_6 (grid0.coords t) = ![t.val / 32, t.val / 4 % 8, 0]
    ∧ cc0_transform_7 (grid0.coords t) = ![0, 0]
    ∧ cc0_transform_8 (grid0.coords t) = ![t.val / 32, t.val % 4, t.val / 4 % 8] := by decide +kernel

/-- No index map reads the word: the blocks are those of any word. -/
abbrev adm0 : (pcfg0 (F := Ideal)).Adm := ⟨fun | ⟨0, _⟩ => fun _ => (0#32 : BitVec 32) | ⟨_ + 1, h⟩ => absurd h (Nat.not_lt.2 (Nat.le_add_left _ _)), by first | trivial | exact ⟨⟩ | decide⟩

theorem covers0 : ((cfg0 adm0).win 8).Covers := by decide +kernel

theorem covers (a : (pcfg0 (F := Ideal)).Adm) : ((cfg0 a).win 8).Covers := covers0

variable (m : (ℓ : Loc nD τ sig) → Buf (Elt Ideal) ℓ)

theorem idx (t : Fin (cfgT m).N) : ((cfgT m).win 0).index t = ![0, 0]
    ∧ ((cfgT m).win 1).index t = ![t.val / 32, 1 + 4 * (t.val % 4), t.val / 4 % 8]
    ∧ ((cfgT m).win 2).index t = ![t.val / 32, 2 + 4 * (t.val % 4), t.val / 4 % 8]
    ∧ ((cfgT m).win 3).index t = ![t.val / 32, 3 + 4 * (t.val % 4), t.val / 4 % 8]
    ∧ ((cfgT m).win 4).index t = ![t.val / 32, 4 + 4 * (t.val % 4), t.val / 4 % 8]
    ∧ ((cfgT m).win 5).index t = ![t.val / 32, 0, t.val / 4 % 8]
    ∧ ((cfgT m).win 6).index t = ![t.val / 32, t.val / 4 % 8, 0]
    ∧ ((cfgT m).win 7).index t = ![0, 0]
    ∧ ((cfgT m).win 8).index t = ![t.val / 32, t.val % 4, t.val / 4 % 8] := idxs t

theorem entry11 (c : Dev nD) : V m c main_v11 = (truncf .bf16 (m ((c : Thread nD τ).loc main_arg4) : FVec Ideal S4x4352x1024 .f32) bitsLt_bf16_f32 : FVec Ideal S4x4352x1024 .bf16) := by
  entry_read
  rfl

theorem entry1 (c : Dev nD) (y : S4x1024x4352.Idx) : V m c main_v1 y = m ((c : Thread nD τ).loc main_arg5) (ix3 (y 0) (y 2) (y 1)) := by
  entry_read
  pointwise []

theorem entry12 (c : Dev nD) (y : S128x1.Idx) : V m c main_v12 y = m ((c : Thread nD τ).loc main_arg6) (ix1 (y 0)) := by
  entry_read
  pointwise []

theorem blk0 (c : Dev nD) (t : Fin (cfgT m).N) (i : S4x64.Idx) : blkAt m c 0 t i = m ((c : Thread nD τ).loc main_arg2) i := by
  rw [← V_arg2 m c]
  blk_ext [blkAt, idx m t]

theorem blk1 (c : Dev nD) (t : Fin (cfgT m).N) (r : Fin 256) (d : Fin 128) : blkAt m c 1 t (ix3 0 r d)
    = m ((c : Thread nD τ).loc main_arg3) (ix3 ⟨t.val / 32, by have := t.isLt; change _ < 128 at this; omega⟩ ⟨256 + (1024 * (t.val % 4) + (0 + r.val)), by omega⟩ ⟨t.val / 4 % 8 * 128 + d.val, by omega⟩) := by
  rw [← V_arg3 m c]
  blk_ext [blkAt, idx m t]

theorem blk2 (c : Dev nD) (t : Fin (cfgT m).N) (r : Fin 256) (d : Fin 128) : blkAt m c 2 t (ix3 0 r d)
    = m ((c : Thread nD τ).loc main_arg3) (ix3 ⟨t.val / 32, by have := t.isLt; change _ < 128 at this; omega⟩ ⟨256 + (1024 * (t.val % 4) + (256 + r.val)), by omega⟩ ⟨t.val / 4 % 8 * 128 + d.val, by omega⟩) := by
  rw [← V_arg3 m c]
  blk_ext [blkAt, idx m t]

theorem blk3 (c : Dev nD) (t : Fin (cfgT m).N) (r : Fin 256) (d : Fin 128) : blkAt m c 3 t (ix3 0 r d)
    = m ((c : Thread nD τ).loc main_arg3) (ix3 ⟨t.val / 32, by have := t.isLt; change _ < 128 at this; omega⟩ ⟨256 + (1024 * (t.val % 4) + (512 + r.val)), by omega⟩ ⟨t.val / 4 % 8 * 128 + d.val, by omega⟩) := by
  rw [← V_arg3 m c]
  blk_ext [blkAt, idx m t]

theorem blk4 (c : Dev nD) (t : Fin (cfgT m).N) (r : Fin 256) (d : Fin 128) : blkAt m c 4 t (ix3 0 r d)
    = m ((c : Thread nD τ).loc main_arg3) (ix3 ⟨t.val / 32, by have := t.isLt; change _ < 128 at this; omega⟩ ⟨256 + (1024 * (t.val % 4) + (768 + r.val)), by omega⟩ ⟨t.val / 4 % 8 * 128 + d.val, by omega⟩) := by
  rw [← V_arg3 m c]
  blk_ext [blkAt, idx m t]

theorem blk5 (c : Dev nD) (t : Fin (cfgT m).N) (j : Fin 4352) (d : Fin 128) : blkAt m c 5 t (ix3 0 j d)
    = m ((c : Thread nD τ).loc main_arg4) (ix3 ⟨t.val / 32, by have := t.isLt; change _ < 128 at this; omega⟩ j ⟨t.val / 4 % 8 * 128 + d.val, by omega⟩) := by
  have h : blkAt m c 5 t (ix3 0 j d) = V m c main_v11 (ix3 ⟨t.val / 32, by have := t.isLt; change _ < 128 at this; omega⟩ j ⟨t.val / 4 % 8 * 128 + d.val, by omega⟩) := by
    blk_ext [blkAt, idx m t]
  exact h.trans (congrFun (entry11 m c) _)

theorem blk6 (c : Dev nD) (t : Fin (cfgT m).N) (e : Fin 128) (j : Fin 4352) : blkAt m c 6 t (ix3 0 e j)
    = m ((c : Thread nD τ).loc main_arg5) (ix3 ⟨t.val / 32, by have := t.isLt; change _ < 128 at this; omega⟩ j ⟨t.val / 4 % 8 * 128 + e.val, by omega⟩) := by
  have h : blkAt m c 6 t (ix3 0 e j) = V m c main_v1 (ix3 ⟨t.val / 32, by have := t.isLt; change _ < 128 at this; omega⟩ ⟨t.val / 4 % 8 * 128 + e.val, by omega⟩ j) := by
    blk_ext [blkAt, idx m t]
  exact h.trans (entry1 m c _)

theorem blk7 (c : Dev nD) (t : Fin (cfgT m).N) (e : Fin 128) : blkAt m c 7 t (ix2 e 0) = m ((c : Thread nD τ).loc main_arg6) (ix1 e) := by
  have h : blkAt m c 7 t (ix2 e 0) = V m c main_v12 (ix2 e 0) := by
    blk_ext [blkAt, idx m t]
  exact h.trans (entry12 m c _)

/-- Where the output's block puts row `r` and lane `e`. -/
theorem emb8 (t : Fin (cfgT m).N) (r : Fin 1024) (e : Fin 128) (G : FVec Ideal S4x4096x1024 .bf16) :
    G ((((cfgT m).win 8).blk t).view.emb (ix3 0 r e)) = G (ix3 ⟨t.val / 32, by have := t.isLt; change _ < 128 at this; omega⟩ ⟨1024 * (t.val % 4) + r.val, by omega⟩ ⟨t.val / 4 % 8 * 128 + e.val, by omega⟩) := by
  blk_ext [idx m t]

theorem move {α : Type} (M : S4x4352x1024.Idx → α) (b : Fin 4) (p p' : Fin 4352) (d : Fin 1024) (h : p.val = p'.val) : M (ix3 b p d) = M (ix3 b p' d) :=
  congrArg (fun p => M (ix3 b p d)) (Fin.ext h)

/-- The query rows a grid point reads. -/
theorem qrow_at (c : Dev nD) (t : Fin (cfgT m).N) (r : Fin 1024) (d : Fin 128) :
    qrow (blkAt m c 1 t) (blkAt m c 2 t) (blkAt m c 3 t) (blkAt m c 4 t) r d
      = m ((c : Thread nD τ).loc main_arg3) (ix3 ⟨t.val / 32, by have := t.isLt; change _ < 128 at this; omega⟩ ⟨256 + (1024 * (t.val % 4) + r.val), by omega⟩ ⟨t.val / 4 % 8 * 128 + d.val, by omega⟩) := by
  have hr := r.isLt
  by_cases h1 : r.val < 256
  · exact (dif_pos h1).trans ((blk1 m c t ⟨r.val, h1⟩ d).trans (move _ _ _ _ _ (by dsimp only; omega)))
  refine (dif_neg h1).trans ?_
  by_cases h2 : r.val - 256 < 256
  · exact (dif_pos h2).trans ((blk2 m c t ⟨r.val - 256, h2⟩ d).trans (move _ _ _ _ _ (by dsimp only; omega)))
  refine (dif_neg h2).trans ?_
  by_cases h3 : r.val - 256 - 256 < 256
  · exact (dif_pos h3).trans ((blk3 m c t ⟨r.val - 256 - 256, h3⟩ d).trans (move _ _ _ _ _ (by dsimp only; omega)))
  refine (dif_neg h3).trans ?_
  exact (blk4 m c t ⟨r.val - 256 - 256 - 256, by omega⟩ d).trans (move _ _ _ _ _ (by dsimp only; omega))

theorem point (c : Dev nD) (l : S4x64.Idx → ℝ) (q k v : S4x4352x1024.Idx → ℝ)
    (hL : ∀ i, m ((c : Thread nD τ).loc main_arg2) i = (l i : EReal)) (hQ : ∀ i, m ((c : Thread nD τ).loc main_arg3) i = (q i : EReal))
    (hK : ∀ i, m ((c : Thread nD τ).loc main_arg4) i = (k i : EReal)) (hV : ∀ i, m ((c : Thread nD τ).loc main_arg5) i = (v i : EReal))
    (t : Fin (cfgT m).N) (r : Fin 1024) (e : Fin 128) : outAt m c t (ix3 0 r e)
      = Cert.ReferenceIdeal.Att.REF (m ((c : Thread nD τ).loc main_arg2)) (m ((c : Thread nD τ).loc main_arg3)) (m ((c : Thread nD τ).loc main_arg4)) (m ((c : Thread nD τ).loc main_arg5)) (m ((c : Thread nD τ).loc main_arg6))
        (ix3 ⟨t.val / 32, by have := t.isLt; change _ < 128 at this; omega⟩ ⟨1024 * (t.val % 4) + r.val, by omega⟩ ⟨t.val / 4 % 8 * 128 + e.val, by omega⟩) := by
  have ht : t.val < 128 := t.isLt
  obtain ⟨lam, hlam⟩ := Cert.ReferenceIdeal.Att.LAM_real (m ((c : Thread nD τ).loc main_arg2)) l hL
  obtain ⟨M0, M1, hAV⟩ := Cert.ReferenceIdeal.Att.AV_real (m ((c : Thread nD τ).loc main_arg2)) (m ((c : Thread nD τ).loc main_arg3)) (m ((c : Thread nD τ).loc main_arg4)) (m ((c : Thread nD τ).loc main_arg5))
    q k hQ hK ⟨t.val / 32, by omega⟩ ⟨1024 * (t.val % 4) + r.val, by omega⟩ ⟨t.val / 4 % 8, by omega⟩
  refine (out_eq _ _ _ _ _ _ _ _ _ lam (fun r d => q (ix3 ⟨t.val / 32, by have := t.isLt; change _ < 128 at this; omega⟩ ⟨256 + (1024 * (t.val % 4) + r.val), by omega⟩ ⟨t.val / 4 % 8 * 128 + d.val, by omega⟩))
    (fun j d => k (ix3 ⟨t.val / 32, by have := t.isLt; change _ < 128 at this; omega⟩ j ⟨t.val / 4 % 8 * 128 + d.val, by omega⟩)) (fun j e => v (ix3 ⟨t.val / 32, by have := t.isLt; change _ < 128 at this; omega⟩ j ⟨t.val / 4 % 8 * 128 + e.val, by omega⟩))
    ((lam_eq _ _ (blk0 m c t)).trans hlam) (fun r d => (qrow_at m c t r d).trans (hQ _)) (fun j d => (blk5 m c t j d).trans (hK _)) (fun e j => (blk6 m c t e j).trans (hV _))
    r e (Cert.ReferenceIdeal.Att.SR q k ⟨t.val / 32, by omega⟩ ⟨t.val / 4 % 8, by omega⟩ 0 ⟨1024 * (t.val % 4) + r.val, by omega⟩)
    (Cert.ReferenceIdeal.Att.SR q k ⟨t.val / 32, by omega⟩ ⟨t.val / 4 % 8, by omega⟩ 1 ⟨1024 * (t.val % 4) + r.val, by omega⟩) (fun j => ?_) (fun j => ?_) M0 M1).trans ?_
  · unfold Cert.ReferenceIdeal.Att.SR
    simp
  · unfold Cert.ReferenceIdeal.Att.SR
    simp [Nat.add_assoc]
  · refine Eq.trans ?_ (Cert.ReferenceIdeal.Att.REF_at _ _ _ _ _ _ _ ⟨t.val / 4 % 8, by omega⟩ e).symm
    refine Eq.trans ?_ (Cert.ReferenceIdeal.Att.NRM_at _ _ _ _ _ e).symm
    unfold fin
    simp only [hAV, hlam, hV, blk7 m c t e]

/-- An index of an output block is a row and a lane. -/
theorem rows (y : S1x1024x128.Idx) : ∃ (r : Fin 1024) (e : Fin 128), y = ix3 0 r e :=
  ⟨y 1, y 2, (ix3_eta y).symm.trans (congrArg (fun p => ix3 p (y 1) (y 2)) (Subsingleton.elim (α := Fin 1) _ _))⟩

theorem final (c : Dev nD) (hL : ∀ i, ∃ r : ℝ, m ((c : Thread nD τ).loc main_arg2) i = (r : EReal)) (hQ : ∀ i, ∃ r : ℝ, m ((c : Thread nD τ).loc main_arg3) i = (r : EReal))
    (hK : ∀ i, ∃ r : ℝ, m ((c : Thread nD τ).loc main_arg4) i = (r : EReal)) (hV : ∀ i, ∃ r : ℝ, m ((c : Thread nD τ).loc main_arg5) i = (r : EReal)) :
    (dat m 0 c).arrAt 8 (cfgT m).N
      = Cert.ReferenceIdeal.Att.REF (m ((c : Thread nD τ).loc main_arg2)) (m ((c : Thread nD τ).loc main_arg3)) (m ((c : Thread nD τ).loc main_arg4)) (m ((c : Thread nD τ).loc main_arg5)) (m ((c : Thread nD τ).loc main_arg6)) := by
  choose l hl using hL
  choose q hq using hQ
  choose k hk using hK
  choose v hv using hV
  refine (dat m 0 c).arrAt_eq_of_covers 8 _ (covers (admT m)) fun t _ y => ?_
  obtain ⟨r, e, rfl⟩ := rows y
  refine Eq.trans ?_ (emb8 m t r e _).symm
  blk_simp
  rw [after8]
  exact point m c l q k v hl hq hk hv t r e

end Cert.KernelIdeal.Att

end
-- ==== Proof.Claims1.lean ====
module

public import proofs.«01_k».proof.Defs
public import proofs.«01_k».proof.Proof.AttFrame
public import proofs.«01_k».proof.Proof.AttIdealFrame
public import proofs.«01_k».proof.Proof.AttPre
public import proofs.«01_k».proof.Proof.AttFinal
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Proof

instance factsP : Cert.Pre_finite.Facts := Cert.Att.preFacts

/-- The attention finishes with its arguments unchanged, at the bit-exact values. -/
theorem frame1 : Cert.quiescent_Kernel := fun m ρ _ => Cert.Kernel.Att.frame (F := Bits) m ρ

/-- The attention over the reals finishes with its arguments unchanged. -/
theorem frame1i : Cert.quiescent_KernelIdeal := fun m ρ _ => Cert.KernelIdeal.Att.frame (F := Ideal) m ρ

theorem frame1ip : Cert.quiescent_KernelIdeal_pre_finite := fun m ρ _ => Cert.KernelIdeal.Att.frame (F := Ideal) m ρ

/-- `ReferenceIdeal`, a line of host operations without a counter, finishes with its arguments unchanged. -/
theorem frame1r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame1rp : Cert.quiescent_ReferenceIdeal_pre_finite := fun m ρ _ => frame1r m ρ trivial

/-- The one constant that is read as a real number is that number, rounded. -/
theorem preserves1 : Cert.preserves_Kernel_KernelIdeal :=
  IdealRules.named_const.statement Cert.KernelIdeal.κ "score_scale" .f32 0x3E38AA3B#32 (((8 * (Real.log 2))⁻¹ : ℝ) : EReal) rfl

/-- On finite arguments the attention and its reference end with equal results. -/
theorem algebraic1 : Cert.algebraic_KernelIdeal_ReferenceIdeal_pre_finite := by
  intro m g m' g' hpre hagree
  refine ⟨fun c => (Cert.KernelIdeal.Att.dat m 0 c).arrAt 8 (Cert.KernelIdeal.Att.cfgT m).N, Cert.KernelIdeal.Att.runs_out m g, ?_⟩
  refine (θ_run Cert.ReferenceIdeal.defs _ _).mono (fun r h c => ?_) (Cert.ReferenceIdeal.Value.run (F := Ideal) m' g')
  obtain ⟨e0, e1, e2, e3, e4, e5, e6⟩ := hagree c
  obtain ⟨h0, ha⟩ := h c
  obtain ⟨hL, hQ, hK, hV⟩ := Cert.Att.reals _ _ _ _ _ _ _ (hpre c)
  refine ⟨h0.trans ?_, ha⟩
  refine (Cert.ReferenceIdeal.Att.res_eq m' c).trans ?_
  rw [e2, e3, e4, e5, e6]
  exact (Cert.KernelIdeal.Att.final m c hL hQ hK hV).symm

end Cert.Proof

end
-- ==== Proof.InProj.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ)

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The weight columns as the kernel's input holds them: the branches' columns in the kernel's order, then zeros. -/
def WCAT (W : FVec Ideal S1024x11808 .f32) : FVec Ideal S1024x12288 .bf16 :=
  concatenate S1024x12288 1
    [⟨S1024x3072, extractStridedSlice S1024x3072 ![0, 0] (truncf .bf16 W bitsLt_bf16_f32 : FVec Ideal S1024x11808 .bf16) slices_S1024x11808_S1024x3072_0_0⟩,
     ⟨S1024x3072, extractStridedSlice S1024x3072 ![0, 8736] (truncf .bf16 W bitsLt_bf16_f32 : FVec Ideal S1024x11808 .bf16) slices_S1024x11808_S1024x3072_0_8736⟩,
     ⟨S1024x3072, extractStridedSlice S1024x3072 ![0, 5664] (truncf .bf16 W bitsLt_bf16_f32 : FVec Ideal S1024x11808 .bf16) slices_S1024x11808_S1024x3072_0_5664⟩,
     ⟨S1024x2592, extractStridedSlice S1024x2592 ![0, 3072] (truncf .bf16 W bitsLt_bf16_f32 : FVec Ideal S1024x11808 .bf16) slices_S1024x11808_S1024x2592_0_3072⟩,
     ⟨S1024x480, (broadcastInDim S1024x480 ![] bcast_S_S1024x480 (constant S_ .bf16 0x0000#16) : FVec Ideal S1024x480 .bf16)⟩]
    concatenates_S1024x3072_S1024x3072_S1024x3072_S1024x2592_S1024x480_S1024x12288_d1

theorem entry7 (c : Dev nD) : V m c main_v7 = WCAT (m ((c : Thread nD τ).loc main_arg1)) := by
  show StableHlo.after hostOps0 (fun b => m (c, b)) main_v7 = _
  simp only [hostOps0, List.flatten_cons, List.flatten_nil, List.append_nil, List.cons_append, List.nil_append]
  after_results <;> rfl

theorem entry0 (c : Dev nD) : V m c main_v0 = (truncf .bf16 (m ((c : Thread nD τ).loc main_arg0) : FVec Ideal S17408x1024 .f32) bitsLt_bf16_f32 : FVec Ideal S17408x1024 .bf16) := by
  entry_read
  rfl

/-- The reference's result, of its arguments. -/
abbrev REF (X : FVec Ideal S17408x1024 .f32) (W : FVec Ideal S1024x11808 .f32) : FVec Ideal S17408x12288 .bf16 :=
  truncf .bf16 ((concatenate Cert.Reference2Ideal.S17408x12288 1 [⟨Cert.Reference2Ideal.S17408x3072, (extractStridedSlice Cert.Reference2Ideal.S17408x3072 ![0, 0] (Host.dotGeneral Cert.Reference2Ideal.dot_S17408x1024_S1024x11808_S17408x11808_1_0_0_1_n_n none X W) Cert.Reference2Ideal.Gen.slices_S17408x11808_S17408x3072_0_0)⟩, ⟨Cert.Reference2Ideal.S17408x3072, (extractStridedSlice Cert.Reference2Ideal.S17408x3072 ![0, 8736] (Host.dotGeneral Cert.Reference2Ideal.dot_S17408x1024_S1024x11808_S17408x11808_1_0_0_1_n_n none X W) Cert.Reference2Ideal.Gen.slices_S17408x11808_S17408x3072_0_8736)⟩, ⟨Cert.Reference2Ideal.S17408x3072, (extractStridedSlice Cert.Reference2Ideal.S17408x3072 ![0, 5664] (Host.dotGeneral Cert.Reference2Ideal.dot_S17408x1024_S1024x11808_S17408x11808_1_0_0_1_n_n none X W) Cert.Reference2Ideal.Gen.slices_S17408x11808_S17408x3072_0_5664)⟩, ⟨Cert.Reference2Ideal.S17408x2592, (extractStridedSlice Cert.Reference2Ideal.S17408x2592 ![0, 3072] (Host.dotGeneral Cert.Reference2Ideal.dot_S17408x1024_S1024x11808_S17408x11808_1_0_0_1_n_n none X W) Cert.Reference2Ideal.Gen.slices_S17408x11808_S17408x2592_0_3072)⟩, ⟨Cert.Reference2Ideal.S17408x480, ((broadcastInDim Cert.Reference2Ideal.S17408x480 ![] Cert.Reference2Ideal.Gen.bcast_S_S17408x480 (constant (F := Ideal) Cert.Reference2Ideal.S_ .f32 0x00000000#32)))⟩] Cert.Reference2Ideal.Gen.concatenates_S17408x3072_S17408x3072_S17408x3072_S17408x2592_S17408x480_S17408x12288_d1 : FVec Ideal Cert.Reference2Ideal.S17408x12288 .f32)) Cert.Reference2Ideal.Gen.bitsLt_bf16_f32

theorem core (X : FVec Ideal S17408x1024 .f32) (W : FVec Ideal S1024x11808 .f32) (j : S17408x12288.Idx) :
    ∑ k : Fin 1024, X (ix2 (j 0) k) * WCAT W (ix2 k (j 1)) = REF X W j := by
  pointwise [WCAT, REF]
  split_ifs <;> simp

theorem pay (a : FVec Ideal S2176x1024 .bf16) (b : FVec Ideal S1024x2048 .bf16) (y : S2176x2048.Idx) :
    k0_pay1 a b y = ∑ k : Fin 1024, a (ix2 (y 0) k) * b (ix2 k (y 1)) := by
  pointwise [k0_pay1]

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [pay, ← core]
  refine Finset.sum_congr rfl fun k _ => ?_
  have h0 : iblk m c 0 t (ix2 (y 0) k) = V m c main_v0 (ix2 ((((cfg0.win 2).blk t).view.emb y) 0) k) := by
    blk_ext [iblk, idx t]
  have h1 : iblk m c 1 t (ix2 k (y 1)) = V m c main_v7 (ix2 k ((((cfg0.win 2).blk t).view.emb y) 1)) := by
    blk_ext [iblk, idx t]
  rw [h0, h1, entry0, entry7]
  rfl

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Proj

end
-- ==== Proof.Claims2.lean ====
module

public import proofs.«01_k».proof.Defs
public import proofs.«01_k».proof.Proof.InProj
public import proofs.«01_k».proof.Proof.Gen.Kernel2Ideal.Value
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof

/-- The side conditions of `Kernel2`, from those of `Kernel2Ideal`, which has the same text. -/
instance facts2 : Cert.Kernel2.Facts :=
  have h := Cert.Kernel2Ideal.Gen.facts
  { bitsLt_bf16_f32 := h.bitsLt_bf16_f32
    slices_S1024x11808_S1024x3072_0_0 := h.slices_S1024x11808_S1024x3072_0_0
    slices_S1024x11808_S1024x3072_0_8736 := h.slices_S1024x11808_S1024x3072_0_8736
    slices_S1024x11808_S1024x3072_0_5664 := h.slices_S1024x11808_S1024x3072_0_5664
    slices_S1024x11808_S1024x2592_0_3072 := h.slices_S1024x11808_S1024x2592_0_3072
    bcast_S_S1024x480 := h.bcast_S_S1024x480
    concatenates_S1024x3072_S1024x3072_S1024x3072_S1024x2592_S1024x480_S1024x12288_d1 := h.concatenates_S1024x3072_S1024x3072_S1024x3072_S1024x2592_S1024x480_S1024x12288_d1
    inb_S2176x1024_S2176x1024_0_0 := h.inb_S2176x1024_S2176x1024_0_0
    h_S2176x1024 := h.h_S2176x1024
    shapeCasts_S2176x1024_S2176x1024 := h.shapeCasts_S2176x1024_S2176x1024
    inb_S1024x2048_S1024x2048_0_0 := h.inb_S1024x2048_S1024x2048_0_0
    h_S1024x2048 := h.h_S1024x2048
    shapeCasts_S1024x2048_S1024x2048 := h.shapeCasts_S1024x2048_S1024x2048
    inb_S2176x2048_S2176x2048_0_0 := h.inb_S2176x2048_S2176x2048_0_0
    h_S2176x2048 := h.h_S2176x2048
    packedbf16_S2176x2048_S2176x2048_0_0 := h.packedbf16_S2176x2048_S2176x2048_0_0
    dot_S2176x1024_S1024x2048_S2176x2048_1_0_0_1_n_n_wf := h.dot_S2176x1024_S1024x2048_S2176x2048_1_0_0_1_n_n_wf
    hrank0 := h.hrank0
    hstage0_0 := h.hstage0_0
    nbuf0_0 := h.nbuf0_0
    hreads0_0 := h.hreads0_0
    hinb0_0 := h.hinb0_0
    hwx0_0 := h.hwx0_0
    hstage0_1 := h.hstage0_1
    nbuf0_1 := h.nbuf0_1
    hreads0_1 := h.hreads0_1
    hinb0_1 := h.hinb0_1
    hwx0_1 := h.hwx0_1
    hstage0_2 := h.hstage0_2
    nbuf0_2 := h.nbuf0_2
    hreads0_2 := h.hreads0_2
    hinb0_2 := h.hinb0_2
    hwx0_2 := h.hwx0_2 }

/-- The two programs have one text: their kernels' functions are the same, case by case. -/
theorem funs2 : Cert.Kernel2.defs₀ (F := Bits) = Cert.Kernel2Ideal.defs₀ (F := Bits) := by
  refine congrArg Defs.onTc (funext fun l => funext fun x => ?_)
  match l, x with
  | 0, (t, s) => rfl

theorem defs2 : Cert.Kernel2Ideal.defs (F := Bits) = Cert.Kernel2.defs (F := Bits) :=
  congrArg (Pipeline.defs Cert.Kernel2Ideal.pcfgs) funs2.symm

/-- `Kernel2` finishes with its arguments unchanged: the run of `Kernel2Ideal`'s text, at the bit-exact values. -/
theorem frame2 : Cert.quiescent_Kernel2 := fun m ρ _ => by
  have h := Cert.Kernel2Ideal.Gen.frame (F := Bits) m ρ
  rw [defs2] at h
  exact h

theorem frame2i : Cert.quiescent_Kernel2Ideal := fun m ρ _ => Cert.Kernel2Ideal.Gen.frame (F := Ideal) m ρ

/-- `Reference2Ideal`, a line of host operations without a counter, finishes with its arguments unchanged. -/
theorem frame2r : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- `Kernel2Ideal` and `Reference2Ideal` end with equal results from equal arguments. -/
theorem algebraic2 : Cert.algebraic_Kernel2Ideal_Reference2Ideal := by
  pair_intro
  · run_from Cert.Kernel2Ideal.Value.run_blocks m g
  · refine (θ_run Cert.Reference2Ideal.defs _ _).mono (fun r h c => ?_) (Cert.Reference2Ideal.Value.run (F := Ideal) m' g')
    obtain ⟨e0, e1⟩ := hagree c
    obtain ⟨h0, ha⟩ := h c
    refine ⟨h0.trans ?_, ha⟩
    · refine Eq.trans (b := Cert.Kernel2Ideal.Proj.REF (m' ((c : Thread Cert.Reference2Ideal.nD Cert.Reference2Ideal.τ).loc Cert.Reference2Ideal.main_arg0)) (m' ((c : Thread Cert.Reference2Ideal.nD Cert.Reference2Ideal.τ).loc Cert.Reference2Ideal.main_arg1))) rfl ?_
      rw [e0, e1]
      exact (Cert.Kernel2Ideal.Proj.final m c).symm

end Cert.Proof

end
-- ==== Proof.Ffn.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The activations: the first product under silu, times the third. -/
def ACT (X : FVec Ideal S17408x1024 .f32) (W1 W3 : FVec Ideal S1024x4096 .f32) : FVec Ideal Cert.Reference3Ideal.S17408x4096 .f32 :=
  (mulf (mulf (Host.dotGeneral Cert.Reference3Ideal.dot_S17408x1024_S1024x4096_S17408x4096_1_0_0_1_n_n none X W1) (Host.divf (broadcastInDim Cert.Reference3Ideal.S17408x4096 ![] Cert.Reference3Ideal.Gen.bcast_S_S17408x4096 (constant (F := Ideal) Cert.Reference3Ideal.S_ .f32 0x3F800000#32)) (addf (broadcastInDim Cert.Reference3Ideal.S17408x4096 ![] Cert.Reference3Ideal.Gen.bcast_S_S17408x4096 (constant (F := Ideal) Cert.Reference3Ideal.S_ .f32 0x3F800000#32)) (Host.exp (Host.negf (Host.dotGeneral Cert.Reference3Ideal.dot_S17408x1024_S1024x4096_S17408x4096_1_0_0_1_n_n none X W1)))))) (Host.dotGeneral Cert.Reference3Ideal.dot_S17408x1024_S1024x4096_S17408x4096_1_0_0_1_n_n none X W3))

/-- The feed-forward's product with its second weight. -/
def FF (X : FVec Ideal S17408x1024 .f32) (W1 W3 : FVec Ideal S1024x4096 .f32) (W2 : FVec Ideal S4096x1024 .f32) : FVec Ideal S17408x1024 .f32 :=
  (Host.dotGeneral Cert.Reference3Ideal.dot_S17408x4096_S4096x1024_S17408x1024_1_0_0_1_n_n none (ACT X W1 W3) W2)

/-- The reference's result, of the product and the arguments. -/
def RES (H : FVec Ideal S17408x1024 .f32) (MOD : FVec Ideal S8x6144 .f32) (Y : FVec Ideal S17408x1024 .f32) : FVec Ideal S17408x1024 .f32 :=
  shapeCast Cert.Reference3Ideal.S17408x1024 (concatenate Cert.Reference3Ideal.S4x4352x1024 1 [⟨Cert.Reference3Ideal.S4x256x1024, (addf (extractStridedSlice Cert.Reference3Ideal.S4x256x1024 ![0, 0, 0] (shapeCast _ H Cert.Reference3Ideal.Gen.shapeCasts_S17408x1024_S4x4352x1024) Cert.Reference3Ideal.Gen.slices_S4x4352x1024_S4x256x1024_0_0_0) (mulf (broadcastInDim Cert.Reference3Ideal.S4x256x1024 ![0, 1, 2] Cert.Reference3Ideal.Gen.bcast_S1x1x1024_S4x256x1024_0_1_2 (broadcastInDim Cert.Reference3Ideal.S1x1x1024 ![2] Cert.Reference3Ideal.Gen.bcast_S1024_S1x1x1024_2 (extractStridedSlice Cert.Reference3Ideal.S1024 ![5120] (shapeCast _ (extractStridedSlice Cert.Reference3Ideal.S1x6144 ![0, 0] MOD Cert.Reference3Ideal.Gen.slices_S8x6144_S1x6144_0_0) Cert.Reference3Ideal.Gen.shapeCasts_S1x6144_S6144) Cert.Reference3Ideal.Gen.slices_S6144_S1024_5120))) (extractStridedSlice Cert.Reference3Ideal.S4x256x1024 ![0, 0, 0] (shapeCast _ Y Cert.Reference3Ideal.Gen.shapeCasts_S17408x1024_S4x4352x1024) Cert.Reference3Ideal.Gen.slices_S4x4352x1024_S4x256x1024_0_0_0)))⟩, ⟨Cert.Reference3Ideal.S4x4096x1024, (addf (extractStridedSlice Cert.Reference3Ideal.S4x4096x1024 ![0, 256, 0] (shapeCast _ H Cert.Reference3Ideal.Gen.shapeCasts_S17408x1024_S4x4352x1024) Cert.Reference3Ideal.Gen.slices_S4x4352x1024_S4x4096x1024_0_256_0) (mulf (broadcastInDim Cert.Reference3Ideal.S4x4096x1024 ![0, 1, 2] Cert.Reference3Ideal.Gen.bcast_S4x1x1024_S4x4096x1024_0_1_2 (extractStridedSlice Cert.Reference3Ideal.S4x1x1024 ![0, 0, 5120] (broadcastInDim Cert.Reference3Ideal.S4x1x6144 ![0, 2] Cert.Reference3Ideal.Gen.bcast_S4x6144_S4x1x6144_0_2 (extractStridedSlice Cert.Reference3Ideal.S4x6144 ![1, 0] MOD Cert.Reference3Ideal.Gen.slices_S8x6144_S4x6144_1_0)) Cert.Reference3Ideal.Gen.slices_S4x1x6144_S4x1x1024_0_0_5120)) (extractStridedSlice Cert.Reference3Ideal.S4x4096x1024 ![0, 256, 0] (shapeCast _ Y Cert.Reference3Ideal.Gen.shapeCasts_S17408x1024_S4x4352x1024) Cert.Reference3Ideal.Gen.slices_S4x4352x1024_S4x4096x1024_0_256_0)))⟩] Cert.Reference3Ideal.Gen.concatenates_S4x256x1024_S4x4096x1024_S4x4352x1024_d1) Cert.Reference3Ideal.Gen.shapeCasts_S4x4352x1024_S17408x1024

/-- The reference's result, of its arguments. -/
abbrev REF (X : FVec Ideal S17408x1024 .f32) (W1 W3 : FVec Ideal S1024x4096 .f32) (W2 : FVec Ideal S4096x1024 .f32) (H : FVec Ideal S17408x1024 .f32) (MOD : FVec Ideal S8x6144 .f32) : FVec Ideal S17408x1024 .f32 :=
  RES H MOD (FF X W1 W3 W2)

theorem idx : ∀ t : Fin cfg0.N, win0_0.index t = ![t.val / 4, 0] ∧ win0_1.index t = ![0, t.val % 4] ∧ win0_2.index t = ![0, t.val % 4]
    ∧ win0_3.index t = ![t.val % 4, 0] ∧ win0_4.index t = ![t.val / 4, 0] ∧ win0_5.index t = ![5, 0, 0]
    ∧ win0_6.index t = ![(t.val / 16 + 1) * 6 + 5, 0, 0] ∧ win0_7.index t = ![t.val / 4, 0] :=
  (by decide +kernel : ∀ t : Fin grid0.N, _)

theorem co0 : ∀ t : Fin cfg0.N, (grid0.coords t 0).val = t.val / 4 := (by decide +kernel : ∀ t : Fin grid0.N, _)

theorem entry1 (c : Dev nD) : V m c main_v1 = (truncf .bf16 (m ((c : Thread nD τ).loc main_arg0) : FVec Ideal S17408x1024 .f32) bitsLt_bf16_f32 : FVec Ideal S17408x1024 .bf16) := by
  entry_read
  rfl
theorem entry2 (c : Dev nD) : V m c main_v2 = (truncf .bf16 (m ((c : Thread nD τ).loc main_arg1) : FVec Ideal S1024x4096 .f32) bitsLt_bf16_f32 : FVec Ideal S1024x4096 .bf16) := by
  entry_read
  rfl
theorem entry3 (c : Dev nD) : V m c main_v3 = (truncf .bf16 (m ((c : Thread nD τ).loc main_arg2) : FVec Ideal S1024x4096 .f32) bitsLt_bf16_f32 : FVec Ideal S1024x4096 .bf16) := by
  entry_read
  rfl
theorem entry4 (c : Dev nD) : V m c main_v4 = (truncf .bf16 (m ((c : Thread nD τ).loc main_arg3) : FVec Ideal S4096x1024 .f32) bitsLt_bf16_f32 : FVec Ideal S4096x1024 .bf16) := by
  entry_read
  rfl
theorem entry0 (c : Dev nD) : V m c main_v0 = (shapeCast S48x1x1024 (m ((c : Thread nD τ).loc main_arg5) : FVec Ideal S8x6144 .f32) shapeCasts_S8x6144_S48x1x1024 : FVec Ideal S48x1x1024 .f32) := by
  entry_read
  rfl

theorem entryH (c : Dev nD) : V m c main_arg4 = m ((c : Thread nD τ).loc main_arg4) := by
  entry_read
  rfl

/-- One activation, from its two products. -/
abbrev sl (u w : EReal) : EReal := (u * FloatOps.logistic (F := Ideal) (φ := .f32) u) * w

theorem act_at (X : FVec Ideal S17408x1024 .f32) (W1 W3 : FVec Ideal S1024x4096 .f32) (j : Cert.Reference3Ideal.S17408x4096.Idx) :
    ACT X W1 W3 j = sl (∑ k : Fin 1024, X (ix2 (j 0) k) * W1 (ix2 k (j 1))) (∑ k : Fin 1024, X (ix2 (j 0) k) * W3 (ix2 k (j 1))) := by
  pointwise [ACT, sl]
  rfl

theorem ff_at (X : FVec Ideal S17408x1024 .f32) (W1 W3 : FVec Ideal S1024x4096 .f32) (W2 : FVec Ideal S4096x1024 .f32) (j : S17408x1024.Idx) :
    FF X W1 W3 W2 j = ∑ k : Fin 4096, ACT X W1 W3 (ix2 (j 0) k) * W2 (ix2 k (j 1)) := by
  pointwise [FF]

theorem pay1 (x : FVec Ideal S1088x1024 .bf16) (a b d : FVec Ideal S1024x1024 .bf16) (y : S1088x1024.Idx) :
    k0_pay1 (F := Ideal) x a b d y = ∑ k : Fin 1024, sl (∑ l : Fin 1024, x (ix2 (y 0) l) * a (ix2 l k)) (∑ l : Fin 1024, x (ix2 (y 0) l) * b (ix2 l k)) * d (ix2 k (y 1)) := by
  pointwise [k0_pay1, sl]

theorem pay2 (x : FVec Ideal S1088x1024 .bf16) (a b d : FVec Ideal S1024x1024 .bf16) (y : S1088x1024.Idx) :
    k0_pay2 (F := Ideal) x a b d y = k0_pay1 (F := Ideal) x a b d y := by
  unfold k0_pay2
  rw [shapeCast_self]

theorem pay3 (x : FVec Ideal S1088x1024 .bf16) (a b d : FVec Ideal S1024x1024 .bf16) (s : FVec Ideal S1088x1024 .f32) (y : S1088x1024.Idx) :
    k0_pay3 (F := Ideal) x a b d s y = s y + k0_pay1 (F := Ideal) x a b d y := by
  unfold k0_pay3
  rw [shapeCast_self]
  rfl

/-- The product's summand at row `r` and column `d`, as a function of the naturals (nothing past its axis). -/
def g (X : FVec Ideal S17408x1024 .f32) (W1 W3 : FVec Ideal S1024x4096 .f32) (W2 : FVec Ideal S4096x1024 .f32) (r : Fin 17408) (d : Fin 1024) (j : ℕ) : EReal :=
  if h : j < 4096 then ACT X W1 W3 (ix2 r ⟨j, h⟩) * W2 (ix2 ⟨j, h⟩ d) else 0

theorem g_lt (X : FVec Ideal S17408x1024 .f32) (W1 W3 : FVec Ideal S1024x4096 .f32) (W2 : FVec Ideal S4096x1024 .f32) (r : Fin 17408) (d : Fin 1024) (j : ℕ) (h : j < 4096) :
    g X W1 W3 W2 r d j = ACT X W1 W3 (ix2 r ⟨j, h⟩) * W2 (ix2 ⟨j, h⟩ d) := dif_pos h

theorem ff_g (X : FVec Ideal S17408x1024 .f32) (W1 W3 : FVec Ideal S1024x4096 .f32) (W2 : FVec Ideal S4096x1024 .f32) (j : S17408x1024.Idx) :
    FF X W1 W3 W2 j = ∑ k ∈ Finset.range 4096, g X W1 W3 W2 (j 0) (j 1) k := by
  rw [ff_at, Finset.sum_range]
  refine Finset.sum_congr rfl fun k _ => ?_
  exact (g_lt _ _ _ _ _ _ _ k.isLt).symm

/-- The arguments the products are of. -/
abbrev A (c : Dev nD) := g (m ((c : Thread nD τ).loc main_arg0)) (m ((c : Thread nD τ).loc main_arg1)) (m ((c : Thread nD τ).loc main_arg2)) (m ((c : Thread nD τ).loc main_arg3))

theorem row_lt (t : Fin cfg0.N) (y : Fin 1088) : t.val / 4 * 1088 + y.val < 17408 := by
  have h := lt_of_lt_of_eq t.isLt (show cfg0.N = 64 from N_0)
  have := y.isLt
  omega

theorem part (c : Dev nD) (t : Fin cfg0.N) (y : S1088x1024.Idx) :
    k0_pay1 (F := Ideal) (iblk m c 0 t) (iblk m c 1 t) (iblk m c 2 t) (iblk m c 3 t) y
      = ∑ k ∈ Finset.range 1024, A m c ⟨_, row_lt t (y 0)⟩ (y 1) (t.val % 4 * 1024 + k) := by
  rw [pay1, Finset.sum_range]
  refine Finset.sum_congr rfl fun k _ => ?_
  have hk : t.val % 4 * 1024 + k.val < 4096 := by have := k.isLt; omega
  have h0 : ∀ l : Fin 1024, iblk m c 0 t (ix2 (y 0) l) = V m c main_v1 (ix2 ⟨_, row_lt t (y 0)⟩ l) := fun l => by blk_ext [iblk, idx t]
  have h1 : ∀ l : Fin 1024, iblk m c 1 t (ix2 l k) = V m c main_v2 (ix2 l ⟨_, hk⟩) := fun l => by blk_ext [iblk, idx t]
  have h2 : ∀ l : Fin 1024, iblk m c 2 t (ix2 l k) = V m c main_v3 (ix2 l ⟨_, hk⟩) := fun l => by blk_ext [iblk, idx t]
  have h3 : iblk m c 3 t (ix2 k (y 1)) = V m c main_v4 (ix2 ⟨_, hk⟩ (y 1)) := by blk_ext [iblk, idx t]
  refine Eq.trans ?_ (g_lt _ _ _ _ _ _ _ hk).symm
  rw [act_at]
  simp only [h0, h1, h2, h3, entry1, entry2, entry3, entry4]
  rfl

theorem sum_next (f : ℕ → EReal) (a : ℕ) : ∑ k ∈ Finset.range ((a + 1) * 1024), f k
    = ∑ k ∈ Finset.range (a * 1024), f k + ∑ k ∈ Finset.range 1024, f (a * 1024 + k) := by
  rw [Nat.add_mul, one_mul, Finset.sum_range_add]

theorem scrA (c : Dev nD) (t : Fin cfg0.N) (h : t.val % 4 = 0) (y : S1088x1024.Idx) :
    (outsAt0 m c t.val t.isLt).2 y = ∑ k ∈ Finset.range ((t.val % 4 + 1) * 1024), A m c ⟨_, row_lt t (y 0)⟩ (y 1) k := by
  rw [outsAt0_A m c t h (by omega) (by omega)]
  dsimp only
  frame_out
  rw [pay2, part, sum_next, h]
  simp

theorem scrB (c : Dev nD) (t : Fin cfg0.N) (h : ¬ t.val % 4 = 0) (y : S1088x1024.Idx)
    (ih : (outsAt0 m c (t.val - 1) (by have := t.isLt; omega)).2 y = ∑ k ∈ Finset.range (t.val % 4 * 1024), A m c ⟨_, row_lt t (y 0)⟩ (y 1) k) :
    (outsAt0 m c t.val t.isLt).2 y = ∑ k ∈ Finset.range ((t.val % 4 + 1) * 1024), A m c ⟨_, row_lt t (y 0)⟩ (y 1) k := by
  rw [sum_next, ← ih, ← part]
  by_cases h' : t.val % 4 = 3
  · rw [outsAt0_C m c t h (by omega) h']
    dsimp only
    frame_out
    rw [pay3]
    exact congrArg (· + _) (congrFun (Memref.IsWhole.read_unread _ _) y)
  · rw [outsAt0_B m c t h (by omega) h']
    dsimp only
    frame_out
    rw [pay3]
    exact congrArg (· + _) (congrFun (Memref.IsWhole.read_unread _ _) y)

theorem scr (c : Dev nD) : ∀ (n : ℕ) (hn : n < cfg0.N) (y : S1088x1024.Idx),
    (outsAt0 m c n hn).2 y = ∑ k ∈ Finset.range ((n % 4 + 1) * 1024), A m c ⟨_, row_lt ⟨n, hn⟩ (y 0)⟩ (y 1) k := by
  intro n
  induction n with
  | zero => exact fun hn y => scrA m c ⟨0, hn⟩ rfl y
  | succ n ih =>
    intro hn y
    by_cases h : (n + 1) % 4 = 0
    · exact scrA m c ⟨n + 1, hn⟩ h y
    · refine scrB m c ⟨n + 1, hn⟩ h y ((ih (Nat.lt_of_succ_lt hn) y).trans ?_)
      have e : n % 4 + 1 = (n + 1) % 4 := by omega
      have e' : n / 4 = (n + 1) / 4 := by omega
      simp only [e, e']

/-- The word of a tile's place among its batch's four. -/
theorem place : ∀ q : Fin 16, Scalar.select (Scalar.andi (Scalar.xori (Scalar.cmpi CmpIPredicate.slt (Scalar.remsi (BitVec.ofNat 32 q.val) (Scalar.select (Scalar.cmpi CmpIPredicate.eq 4#32 0#32) 1#32 4#32)) 0#32) (Scalar.cmpi CmpIPredicate.slt (Scalar.select (Scalar.cmpi CmpIPredicate.eq 4#32 0#32) 1#32 4#32) 0#32)) (Scalar.cmpi CmpIPredicate.ne (Scalar.remsi (BitVec.ofNat 32 q.val) (Scalar.select (Scalar.cmpi CmpIPredicate.eq 4#32 0#32) 1#32 4#32)) 0#32)) (Scalar.addi (Scalar.remsi (BitVec.ofNat 32 q.val) (Scalar.select (Scalar.cmpi CmpIPredicate.eq 4#32 0#32) 1#32 4#32)) (Scalar.select (Scalar.cmpi CmpIPredicate.eq 4#32 0#32) 1#32 4#32)) (Scalar.remsi (BitVec.ofNat 32 q.val) (Scalar.select (Scalar.cmpi CmpIPredicate.eq 4#32 0#32) 1#32 4#32)) = BitVec.ofNat 32 (q.val % 4) := by
  decide +kernel

/-- The comparison that separates a batch's first 256 rows, at a tile's place and a row of it. -/
theorem first : ∀ (q : Fin 4) (y : Fin 1088), IntOp.cmpi CmpIPredicate.slt (IntOp.addi (Scalar.muli (BitVec.ofNat 32 q.val) 1088#32) (BitVec.ofNat 32 y.val)) 256#32
    = if q.val = 0 ∧ y.val < 256 then 1#1 else 0#1 := by
  decide +kernel

/-- What the kernel's last step makes of its row's place, the gates, the residual and the product. -/
theorem pay4 (i : grid0.Coords) (gc gl : FVec Ideal S1x1x1024 .f32) (h a : FVec Ideal S1088x1024 .f32) (y : S1088x1024.Idx) :
    k0_pay4 (F := Ideal) i gc gl h a y = h y + (if (i 0).val % 4 = 0 ∧ (y 0).val < 256 then gc (ix3 0 0 (y 1)) else gl (ix3 0 0 (y 1))) * a y := by
  have hi : (i 0).val < 16 := (i 0).isLt
  have p := place ⟨(i 0).val, hi⟩
  have q := first ⟨(i 0).val % 4, Nat.mod_lt _ (by decide)⟩ (y 0)
  dsimp only at p q
  pointwise [k0_pay4]
  rw [p, q]
  split_ifs <;> rfl

theorem res_at (H : FVec Ideal S17408x1024 .f32) (MOD : FVec Ideal S8x6144 .f32) (Y : FVec Ideal S17408x1024 .f32) (j : S17408x1024.Idx) :
    RES H MOD Y j = H j + (if (j 0).val % 4352 < 256 then MOD (ix2 0 ⟨5120 + (j 1).val, by have : (j 1).val < 1024 := (j 1).isLt; omega⟩) else MOD (ix2 ⟨(j 0).val / 4352 + 1, by have : (j 0).val < 17408 := (j 0).isLt; omega⟩ ⟨5120 + (j 1).val, by have : (j 1).val < 1024 := (j 1).isLt; omega⟩)) * Y j := by
  pointwise [RES]
  have e : ∀ (r : Fin 17408) (hr : r.val = (j 0).val), (ix2 r (j 1) : S17408x1024.Idx) = j := fun r hr => by
    rw [show r = j 0 from Fin.ext hr]; exact ix2_eta j
  split_ifs with h
  · rfl
  all_goals first
  | (rename_i h0; exact absurd h0 (by decide))
  | refine congrArg₂ (· + ·) (congrArg H (e _ (by dsimp only; omega))) (congrArg₂ (· * ·) (congrArg MOD ?_) (congrArg Y (e _ (by dsimp only; omega))))
    exact congrArg₂ ix2 (Fin.ext (Nat.add_comm _ _)) rfl

theorem gate (MOD : FVec Ideal S8x6144 .f32) (t : ℕ) (ht : t < 64) (p : Fin 1088) (q : Fin 1024) (r : Fin 17408) (hr : r.val = t / 4 * 1088 + p.val) :
    (if t / 4 % 4 = 0 ∧ p.val < 256 then (shapeCast S48x1x1024 MOD shapeCasts_S8x6144_S48x1x1024 : FVec Ideal S48x1x1024 .f32) (ix3 ⟨5, by omega⟩ 0 q)
      else (shapeCast S48x1x1024 MOD shapeCasts_S8x6144_S48x1x1024 : FVec Ideal S48x1x1024 .f32) (ix3 ⟨(t / 16 + 1) * 6 + 5, by omega⟩ 0 q))
      = if r.val % 4352 < 256 then MOD (ix2 0 ⟨5120 + q.val, by omega⟩) else MOD (ix2 ⟨r.val / 4352 + 1, by omega⟩ ⟨5120 + q.val, by omega⟩) := by
  have hp := p.isLt
  have hq := q.isLt
  by_cases h : t / 4 % 4 = 0 ∧ p.val < 256
  · rw [if_pos h, if_pos (by omega)]
    pointwise
  · rw [if_neg h, if_neg (by omega)]
    pointwise
    exact congrArg MOD (congrArg₂ ix2 (Fin.ext (by dsimp only; omega)) (Fin.ext (by dsimp only; omega)))

theorem join {a a' b b' d d' : EReal} (h1 : a = a') (h2 : b = b') (h3 : d = d') : a + b * d = a' + b' * d' := by
  rw [h1, h2, h3]

theorem lt64 (t : Fin cfg0.N) : t.val < 64 := lt_of_lt_of_eq t.isLt (show cfg0.N = 64 from N_0)

theorem emb7 (t : Fin cfg0.N) (y : S1088x1024.Idx) : ((cfg0.win 7).blk t).view.emb y = ix2 (⟨_, row_lt t (y 0)⟩ : Fin 17408) (y 1) := by
  blk_ext [iblk, idx t]

theorem blk4 (c : Dev nD) (t : Fin cfg0.N) (y : S1088x1024.Idx) : iblk m c 4 t y = V m c main_arg4 (ix2 (⟨_, row_lt t (y 0)⟩ : Fin 17408) (y 1)) := by
  blk_ext [iblk, idx t]

theorem blk5 (c : Dev nD) (t : Fin cfg0.N) (q : Fin 1024) : iblk m c 5 t (ix3 0 0 q) = V m c main_v0 (ix3 (5 : Fin 48) (0 : Fin 1) q) := by
  blk_ext [iblk, idx t]

theorem blk6 (c : Dev nD) (t : Fin cfg0.N) (q : Fin 1024) : iblk m c 6 t (ix3 0 0 q) = V m c main_v0 (ix3 (⟨(t.val / 16 + 1) * 6 + 5, by have := lt64 t; omega⟩ : Fin 48) (0 : Fin 1) q) := by
  blk_ext [iblk, idx t]

theorem at7 (c : Dev nD) (t : Fin cfg0.N) (y : S1088x1024.Idx) (a : FVec Ideal S1088x1024 .f32)
    (ha : a y = ∑ k ∈ Finset.range 4096, A m c ⟨_, row_lt t (y 0)⟩ (y 1) k) :
    k0_pay4 (F := Ideal) (grid0.coords t) (iblk m c 5 t) (iblk m c 6 t) (iblk m c 4 t) a y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  rw [pay4, emb7, co0]
  refine Eq.trans ?_ (res_at _ _ _ _).symm
  refine join ((blk4 m c t y).trans (congrFun (entryH m c) _)) ?_ (ha.trans (ff_g _ _ _ _ (ix2 (⟨_, row_lt t (y 0)⟩ : Fin 17408) (y 1))).symm)
  refine Eq.trans (congrArg₂ (fun a b : EReal => if t.val / 4 % 4 = 0 ∧ (y 0).val < 256 then a else b)
    ((blk5 m c t (y 1)).trans (congrFun (entry0 m c) _)) ((blk6 m c t (y 1)).trans (congrFun (entry0 m c) _))) ?_
  exact gate _ t.val (lt64 t) (y 0) (y 1) ⟨_, row_lt t (y 0)⟩ rfl

theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h3 : t.val % 4 = 3 := (flush0_7 t).mp hf
  have hs := scr m c t.val t.isLt y
  blk_simp
  rw [outsAt0_C m c t (by omega) (by omega) h3] at hs
  rw [after0_7, outsAt0_C m c t (by omega) (by omega) h3]
  dsimp only at hs ⊢
  frame_out
  frame_out at hs
  rw [h3] at hs
  exact at7 m c t y _ hs

end Cert.Kernel3Ideal.Ffn

end
-- ==== Proof.Claims3.lean ====
module

public import proofs.«01_k».proof.Defs
public import proofs.«01_k».proof.Proof.Ffn
public import proofs.«01_k».proof.Proof.Gen.Kernel3Ideal.Value
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Proof

/-- The side conditions of `Kernel3`, from those of `Kernel3Ideal`, which has the same text. -/
instance facts3 : Cert.Kernel3.Facts :=
  have h := Cert.Kernel3Ideal.Gen.facts
  { shapeCasts_S8x6144_S48x1x1024 := h.shapeCasts_S8x6144_S48x1x1024
    bitsLt_bf16_f32 := h.bitsLt_bf16_f32
    inb_S1088x1024_S1088x1024_0_0 := h.inb_S1088x1024_S1088x1024_0_0
    h_S1088x1024 := h.h_S1088x1024
    shapeCasts_S1088x1024_S1088x1024 := h.shapeCasts_S1088x1024_S1088x1024
    inb_S1024x1024_S1024x1024_0_0 := h.inb_S1024x1024_S1024x1024_0_0
    h_S1024x1024 := h.h_S1024x1024
    shapeCasts_S1024x1024_S1024x1024 := h.shapeCasts_S1024x1024_S1024x1024
    iota_S1088x1_d0_w32 := h.iota_S1088x1_d0_w32
    inb_S1x1x1024_S1x1x1024_0_0_0 := h.inb_S1x1x1024_S1x1x1024_0_0_0
    h_S1x1x1024 := h.h_S1x1x1024
    shapeCasts_S1x1x1024_S1x1024 := h.shapeCasts_S1x1x1024_S1x1024
    shapeCasts_S1088x1_S1088x1 := h.shapeCasts_S1088x1_S1088x1
    broadcasts_S1088x1_S1088x1024 := h.broadcasts_S1088x1_S1088x1024
    shapeCasts_S1x1024_S1x1024 := h.shapeCasts_S1x1024_S1x1024
    broadcasts_S1x1024_S1088x1024 := h.broadcasts_S1x1024_S1088x1024
    dot_S1088x1024_S1024x1024_S1088x1024_1_0_0_1_n_n_wf := h.dot_S1088x1024_S1024x1024_S1088x1024_1_0_0_1_n_n_wf
    hrank0 := h.hrank0
    hstage0_0 := h.hstage0_0
    nbuf0_0 := h.nbuf0_0
    hreads0_0 := h.hreads0_0
    hinb0_0 := h.hinb0_0
    hwx0_0 := h.hwx0_0
    hstage0_1 := h.hstage0_1
    nbuf0_1 := h.nbuf0_1
    hreads0_1 := h.hreads0_1
    hinb0_1 := h.hinb0_1
    hwx0_1 := h.hwx0_1
    hstage0_2 := h.hstage0_2
    nbuf0_2 := h.nbuf0_2
    hreads0_2 := h.hreads0_2
    hinb0_2 := h.hinb0_2
    hwx0_2 := h.hwx0_2
    hstage0_3 := h.hstage0_3
    nbuf0_3 := h.nbuf0_3
    hreads0_3 := h.hreads0_3
    hinb0_3 := h.hinb0_3
    hwx0_3 := h.hwx0_3
    hstage0_4 := h.hstage0_4
    nbuf0_4 := h.nbuf0_4
    hreads0_4 := h.hreads0_4
    hinb0_4 := h.hinb0_4
    hwx0_4 := h.hwx0_4
    hstage0_5 := h.hstage0_5
    nbuf0_5 := h.nbuf0_5
    hreads0_5 := h.hreads0_5
    hinb0_5 := h.hinb0_5
    hwx0_5 := h.hwx0_5
    hstage0_6 := h.hstage0_6
    nbuf0_6 := h.nbuf0_6
    hreads0_6 := h.hreads0_6
    hinb0_6 := h.hinb0_6
    hwx0_6 := h.hwx0_6
    hstage0_7 := h.hstage0_7
    nbuf0_7 := h.nbuf0_7
    hreads0_7 := h.hreads0_7
    hinb0_7 := h.hinb0_7
    hwx0_7 := h.hwx0_7 }

/-- The two programs have one text: their kernels' functions are the same, case by case. -/
theorem funs3 : Cert.Kernel3.defs₀ (F := Bits) = Cert.Kernel3Ideal.defs₀ (F := Bits) := by
  refine congrArg Defs.onTc (funext fun l => funext fun x => ?_)
  match l, x with
  | 0, (t, s) => rfl

theorem defs3 : Cert.Kernel3Ideal.defs (F := Bits) = Cert.Kernel3.defs (F := Bits) :=
  congrArg (Pipeline.defs Cert.Kernel3Ideal.pcfgs) funs3.symm

/-- `Kernel3` finishes with its arguments unchanged: the run of `Kernel3Ideal`'s text, at the bit-exact values. -/
theorem frame3 : Cert.quiescent_Kernel3 := fun m ρ _ => by
  have h := Cert.Kernel3Ideal.Gen.frame (F := Bits) m ρ
  rw [defs3] at h
  exact h

theorem frame3i : Cert.quiescent_Kernel3Ideal := fun m ρ _ => Cert.Kernel3Ideal.Gen.frame (F := Ideal) m ρ

/-- `Reference3Ideal`, a line of host operations without a counter, finishes with its arguments unchanged. -/
theorem frame3r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- `Kernel3Ideal` and `Reference3Ideal` end with equal results from equal arguments. -/
theorem algebraic3 : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run (F := Ideal) m' g')
    obtain ⟨e0, e1, e2, e3, e4, e5⟩ := hagree c
    obtain ⟨h0, ha⟩ := h c
    refine ⟨h0.trans ?_, ha⟩
    · refine Eq.trans (b := Cert.Kernel3Ideal.Ffn.REF (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5))) rfl ?_
      rw [e0, e1, e2, e3, e4, e5]
      exact (Cert.Kernel3Ideal.Ffn.final m c).symm

end Cert.Proof

end
-- ==== Proof.Merge.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Mrg

open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val / 17 * 16 + (t.val % 17 - 1), 0] ∧ win0_3.index t = ![t.val / 17, 0]
    ∧ win0_4.index t = ![t.val, 3] ∧ win0_5.index t = ![t.val, 4] ∧ win0_6.index t = ![t.val, 5] ∧ win0_7.index t = ![t.val, 0]
    ∧ win0_8.index t = ![0, 0, 0] ∧ win0_9.index t = ![0, 0]
    ∧ win0_10.index t = ![(if t.val % 17 = 0 then 0 else t.val / 17 + 1) * 6 + 2, 0, 0] ∧ win0_11.index t = ![0, 0]
    ∧ win0_12.index t = ![(if t.val % 17 = 0 then 0 else t.val / 17 + 1) * 6 + 3, 0, 0]
    ∧ win0_13.index t = ![(if t.val % 17 = 0 then 0 else t.val / 17 + 1) * 6 + 4, 0, 0]
    ∧ win0_14.index t = ![t.val, 0] ∧ win0_15.index t = ![t.val, 0] :=
  (by decide +kernel : ∀ t : Fin grid0.N, _)

theorem co0 : ∀ t : Fin cfg0.N, (grid0.coords t 0).val = t.val := (by decide +kernel : ∀ t : Fin grid0.N, _)

/-- The attention's context and latent rows, joined in a batch's order. -/
def DA (A2 : FVec Ideal Cert.Reference4Ideal.S16384x1024 .f32) (A3 : FVec Ideal Cert.Reference4Ideal.S1024x1024 .f32) : FVec Ideal Cert.Reference4Ideal.S4x4352x1024 .f32 :=
  (concatenate Cert.Reference4Ideal.S4x4352x1024 1 [⟨Cert.Reference4Ideal.S4x256x1024, (shapeCast _ A3 Cert.Reference4Ideal.Gen.shapeCasts_S1024x1024_S4x256x1024)⟩, ⟨Cert.Reference4Ideal.S4x4096x1024, (shapeCast _ A2 Cert.Reference4Ideal.Gen.shapeCasts_S16384x1024_S4x4096x1024)⟩] Cert.Reference4Ideal.Gen.concatenates_S4x256x1024_S4x4096x1024_S4x4352x1024_d1)
/-- The three branches, stacked. -/
def YS (A0 A1 : FVec Ideal Cert.Reference4Ideal.S17408x1024 .f32) (Z : FVec Ideal Cert.Reference4Ideal.S4x4352x1024 .f32) : FVec Ideal Cert.Reference4Ideal.S4x4352x3x1024 .f32 :=
  ((concatenate Cert.Reference4Ideal.S4x4352x3x1024 2 [⟨Cert.Reference4Ideal.S4x4352x1x1024, ((broadcastInDim Cert.Reference4Ideal.S4x4352x1x1024 ![0, 1, 3] Cert.Reference4Ideal.Gen.bcast_S4x4352x1024_S4x4352x1x1024_0_1_3 (shapeCast _ A0 Cert.Reference4Ideal.Gen.shapeCasts_S17408x1024_S4x4352x1024)) : (⟨Cert.Reference4Ideal.S4x4352x1x1024, .f32⟩ : BufTy).Contents (Elt Ideal))⟩, ⟨Cert.Reference4Ideal.S4x4352x1x1024, ((broadcastInDim Cert.Reference4Ideal.S4x4352x1x1024 ![0, 1, 3] Cert.Reference4Ideal.Gen.bcast_S4x4352x1024_S4x4352x1x1024_0_1_3 (shapeCast _ A1 Cert.Reference4Ideal.Gen.shapeCasts_S17408x1024_S4x4352x1024)) : (⟨Cert.Reference4Ideal.S4x4352x1x1024, .f32⟩ : BufTy).Contents (Elt Ideal))⟩, ⟨Cert.Reference4Ideal.S4x4352x1x1024, ((broadcastInDim Cert.Reference4Ideal.S4x4352x1x1024 ![0, 1, 3] Cert.Reference4Ideal.Gen.bcast_S4x4352x1024_S4x4352x1x1024_0_1_3 Z) : (⟨Cert.Reference4Ideal.S4x4352x1x1024, .f32⟩ : BufTy).Contents (Elt Ideal))⟩] Cert.Reference4Ideal.Gen.concatenates_S4x4352x1x1024_S4x4352x1x1024_S4x4352x1x1024_S4x4352x3x1024_d2 : (⟨Cert.Reference4Ideal.S4x4352x3x1024, .f32⟩ : BufTy).Contents (Elt Ideal)))
/-- The branches' gates. -/
def SG (P2 : FVec Ideal Cert.Reference4Ideal.S17408x12288 .f32) : FVec Ideal Cert.Reference4Ideal.S4x4352x3x1024 .f32 :=
  (Host.divf (broadcastInDim Cert.Reference4Ideal.S4x4352x3x1024 ![] Cert.Reference4Ideal.Gen.bcast_S_S4x4352x3x1024 (constant (F := Ideal) Cert.Reference4Ideal.S_ .f32 0x3F800000#32)) (addf (broadcastInDim Cert.Reference4Ideal.S4x4352x3x1024 ![] Cert.Reference4Ideal.Gen.bcast_S_S4x4352x3x1024 (constant (F := Ideal) Cert.Reference4Ideal.S_ .f32 0x3F800000#32)) (Host.exp (Host.negf (shapeCast _ (extractStridedSlice Cert.Reference4Ideal.S17408x3072 ![0, 3072] P2 Cert.Reference4Ideal.Gen.slices_S17408x12288_S17408x3072_0_3072) Cert.Reference4Ideal.Gen.shapeCasts_S17408x3072_S4x4352x3x1024)))))
/-- The gated sum of the branches' products. -/
def ACC (G Y : FVec Ideal Cert.Reference4Ideal.S4x4352x3x1024 .f32) (WB : FVec Ideal Cert.Reference4Ideal.S3x1024x1024 .f32) : FVec Ideal Cert.Reference4Ideal.S4x4352x1024 .f32 :=
  (Host.reduceAdd (mulf G (transpose Cert.Reference4Ideal.S4x4352x3x1024 [2, 3, 0, 1] (Host.dotGeneral Cert.Reference4Ideal.dot_S3x1024x1024_S4x4352x3x1024_S3x1024x4x4352_1_3_2_01_0_2 none WB Y) Cert.Reference4Ideal.Gen.transposes_S3x1024x4x4352_S4x4352x3x1024_2_3_0_1)) (constant (F := Ideal) Cert.Reference4Ideal.S_ .f32 0x00000000#32) Cert.Reference4Ideal.Gen.reducesTo_S4x4352x3x1024_S4x4352x1024_d2 Cert.Reference4Ideal.Gen.h_S_)
/-- The output product. -/
def MM (AC : FVec Ideal Cert.Reference4Ideal.S4x4352x1024 .f32) (WO : FVec Ideal Cert.Reference4Ideal.S1024x1024 .f32) : FVec Ideal Cert.Reference4Ideal.S4x4352x1024 .f32 :=
  (Host.dotGeneral Cert.Reference4Ideal.dot_S4x4352x1024_S1024x1024_S4x4352x1024_2_0_01_1_n_n none AC WO)
/-- The context's rows of the residual. -/
def HC (H : FVec Ideal Cert.Reference4Ideal.S17408x1024 .f32) (MOD : FVec Ideal Cert.Reference4Ideal.S8x6144 .f32) (M : FVec Ideal Cert.Reference4Ideal.S4x4352x1024 .f32) : FVec Ideal Cert.Reference4Ideal.S4x256x1024 .f32 :=
  (addf (extractStridedSlice Cert.Reference4Ideal.S4x256x1024 ![0, 0, 0] (shapeCast _ H Cert.Reference4Ideal.Gen.shapeCasts_S17408x1024_S4x4352x1024) Cert.Reference4Ideal.Gen.slices_S4x4352x1024_S4x256x1024_0_0_0) (mulf (broadcastInDim Cert.Reference4Ideal.S4x256x1024 ![0, 1, 2] Cert.Reference4Ideal.Gen.bcast_S1x1x1024_S4x256x1024_0_1_2 (broadcastInDim Cert.Reference4Ideal.S1x1x1024 ![2] Cert.Reference4Ideal.Gen.bcast_S1024_S1x1x1024_2 (extractStridedSlice Cert.Reference4Ideal.S1024 ![2048] (shapeCast _ (extractStridedSlice Cert.Reference4Ideal.S1x6144 ![0, 0] MOD Cert.Reference4Ideal.Gen.slices_S8x6144_S1x6144_0_0) Cert.Reference4Ideal.Gen.shapeCasts_S1x6144_S6144) Cert.Reference4Ideal.Gen.slices_S6144_S1024_2048))) (extractStridedSlice Cert.Reference4Ideal.S4x256x1024 ![0, 0, 0] M Cert.Reference4Ideal.Gen.slices_S4x4352x1024_S4x256x1024_0_0_0)))
/-- The latents' rows of the residual. -/
def HL (H : FVec Ideal Cert.Reference4Ideal.S17408x1024 .f32) (MOD : FVec Ideal Cert.Reference4Ideal.S8x6144 .f32) (M : FVec Ideal Cert.Reference4Ideal.S4x4352x1024 .f32) : FVec Ideal Cert.Reference4Ideal.S4x4096x1024 .f32 :=
  (addf (extractStridedSlice Cert.Reference4Ideal.S4x4096x1024 ![0, 256, 0] (shapeCast _ H Cert.Reference4Ideal.Gen.shapeCasts_S17408x1024_S4x4352x1024) Cert.Reference4Ideal.Gen.slices_S4x4352x1024_S4x4096x1024_0_256_0) (mulf (broadcastInDim Cert.Reference4Ideal.S4x4096x1024 ![0, 1, 2] Cert.Reference4Ideal.Gen.bcast_S4x1x1024_S4x4096x1024_0_1_2 (extractStridedSlice Cert.Reference4Ideal.S4x1x1024 ![0, 0, 2048] (broadcastInDim Cert.Reference4Ideal.S4x1x6144 ![0, 2] Cert.Reference4Ideal.Gen.bcast_S4x6144_S4x1x6144_0_2 (extractStridedSlice Cert.Reference4Ideal.S4x6144 ![1, 0] MOD Cert.Reference4Ideal.Gen.slices_S8x6144_S4x6144_1_0)) Cert.Reference4Ideal.Gen.slices_S4x1x6144_S4x1x1024_0_0_2048)) (extractStridedSlice Cert.Reference4Ideal.S4x4096x1024 ![0, 256, 0] M Cert.Reference4Ideal.Gen.slices_S4x4352x1024_S4x4096x1024_0_256_0)))
/-- The context's rows of the feed-forward's input. -/
def FC (HC : FVec Ideal Cert.Reference4Ideal.S4x256x1024 .f32) (MOD : FVec Ideal Cert.Reference4Ideal.S8x6144 .f32) (N2 : FVec Ideal Cert.Reference4Ideal.S1024 .f32) : FVec Ideal Cert.Reference4Ideal.S4x256x1024 .f32 :=
  (addf (mulf (mulf (mulf (HC) (broadcastInDim Cert.Reference4Ideal.S4x256x1024 ![0, 1, 2] Cert.Reference4Ideal.Gen.bcast_S4x256x1_S4x256x1024_0_1_2 (Host.rsqrt (addf (Host.divf (broadcastInDim Cert.Reference4Ideal.S4x256x1 ![0, 1] Cert.Reference4Ideal.Gen.bcast_S4x256_S4x256x1_0_1 (Host.reduceAdd (mulf (HC) (HC)) (constant (F := Ideal) Cert.Reference4Ideal.S_ .f32 0x00000000#32) Cert.Reference4Ideal.Gen.reducesTo_S4x256x1024_S4x256_d2 Cert.Reference4Ideal.Gen.h_S_)) (broadcastInDim Cert.Reference4Ideal.S4x256x1 ![] Cert.Reference4Ideal.Gen.bcast_S_S4x256x1 (constant (F := Ideal) Cert.Reference4Ideal.S_ .f32 0x44800000#32))) (broadcastInDim Cert.Reference4Ideal.S4x256x1 ![] Cert.Reference4Ideal.Gen.bcast_S_S4x256x1 (constant (F := Ideal) Cert.Reference4Ideal.S_ .f32 0x358637BD#32)))))) (broadcastInDim Cert.Reference4Ideal.S4x256x1024 ![0, 1, 2] Cert.Reference4Ideal.Gen.bcast_S1x1x1024_S4x256x1024_0_1_2 (broadcastInDim Cert.Reference4Ideal.S1x1x1024 ![2] Cert.Reference4Ideal.Gen.bcast_S1024_S1x1x1024_2 N2))) (broadcastInDim Cert.Reference4Ideal.S4x256x1024 ![0, 1, 2] Cert.Reference4Ideal.Gen.bcast_S1x1x1024_S4x256x1024_0_1_2 (broadcastInDim Cert.Reference4Ideal.S1x1x1024 ![2] Cert.Reference4Ideal.Gen.bcast_S1024_S1x1x1024_2 (addf (broadcastInDim Cert.Reference4Ideal.S1024 ![] Cert.Reference4Ideal.Gen.bcast_S_S1024 (constant (F := Ideal) Cert.Reference4Ideal.S_ .f32 0x3F800000#32)) (extractStridedSlice Cert.Reference4Ideal.S1024 ![4096] (shapeCast _ (extractStridedSlice Cert.Reference4Ideal.S1x6144 ![0, 0] MOD Cert.Reference4Ideal.Gen.slices_S8x6144_S1x6144_0_0) Cert.Reference4Ideal.Gen.shapeCasts_S1x6144_S6144) Cert.Reference4Ideal.Gen.slices_S6144_S1024_4096))))) (broadcastInDim Cert.Reference4Ideal.S4x256x1024 ![0, 1, 2] Cert.Reference4Ideal.Gen.bcast_S1x1x1024_S4x256x1024_0_1_2 (broadcastInDim Cert.Reference4Ideal.S1x1x1024 ![2] Cert.Reference4Ideal.Gen.bcast_S1024_S1x1x1024_2 (extractStridedSlice Cert.Reference4Ideal.S1024 ![3072] (shapeCast _ (extractStridedSlice Cert.Reference4Ideal.S1x6144 ![0, 0] MOD Cert.Reference4Ideal.Gen.slices_S8x6144_S1x6144_0_0) Cert.Reference4Ideal.Gen.shapeCasts_S1x6144_S6144) Cert.Reference4Ideal.Gen.slices_S6144_S1024_3072))))
/-- The latents' rows of the feed-forward's input. -/
def FL (HL : FVec Ideal Cert.Reference4Ideal.S4x4096x1024 .f32) (MOD : FVec Ideal Cert.Reference4Ideal.S8x6144 .f32) (N2 : FVec Ideal Cert.Reference4Ideal.S1024 .f32) : FVec Ideal Cert.Reference4Ideal.S4x4096x1024 .f32 :=
  (addf (mulf (mulf (mulf (HL) (broadcastInDim Cert.Reference4Ideal.S4x4096x1024 ![0, 1, 2] Cert.Reference4Ideal.Gen.bcast_S4x4096x1_S4x4096x1024_0_1_2 (Host.rsqrt (addf (Host.divf (broadcastInDim Cert.Reference4Ideal.S4x4096x1 ![0, 1] Cert.Reference4Ideal.Gen.bcast_S4x4096_S4x4096x1_0_1 (Host.reduceAdd (mulf (HL) (HL)) (constant (F := Ideal) Cert.Reference4Ideal.S_ .f32 0x00000000#32) Cert.Reference4Ideal.Gen.reducesTo_S4x4096x1024_S4x4096_d2 Cert.Reference4Ideal.Gen.h_S_)) (broadcastInDim Cert.Reference4Ideal.S4x4096x1 ![] Cert.Reference4Ideal.Gen.bcast_S_S4x4096x1 (constant (F := Ideal) Cert.Reference4Ideal.S_ .f32 0x44800000#32))) (broadcastInDim Cert.Reference4Ideal.S4x4096x1 ![] Cert.Reference4Ideal.Gen.bcast_S_S4x4096x1 (constant (F := Ideal) Cert.Reference4Ideal.S_ .f32 0x358637BD#32)))))) (broadcastInDim Cert.Reference4Ideal.S4x4096x1024 ![0, 1, 2] Cert.Reference4Ideal.Gen.bcast_S1x1x1024_S4x4096x1024_0_1_2 (broadcastInDim Cert.Reference4Ideal.S1x1x1024 ![2] Cert.Reference4Ideal.Gen.bcast_S1024_S1x1x1024_2 N2))) (broadcastInDim Cert.Reference4Ideal.S4x4096x1024 ![0, 1, 2] Cert.Reference4Ideal.Gen.bcast_S4x1x1024_S4x4096x1024_0_1_2 (addf (broadcastInDim Cert.Reference4Ideal.S4x1x1024 ![] Cert.Reference4Ideal.Gen.bcast_S_S4x1x1024 (constant (F := Ideal) Cert.Reference4Ideal.S_ .f32 0x3F800000#32)) (extractStridedSlice Cert.Reference4Ideal.S4x1x1024 ![0, 0, 4096] (broadcastInDim Cert.Reference4Ideal.S4x1x6144 ![0, 2] Cert.Reference4Ideal.Gen.bcast_S4x6144_S4x1x6144_0_2 (extractStridedSlice Cert.Reference4Ideal.S4x6144 ![1, 0] MOD Cert.Reference4Ideal.Gen.slices_S8x6144_S4x6144_1_0)) Cert.Reference4Ideal.Gen.slices_S4x1x6144_S4x1x1024_0_0_4096)))) (broadcastInDim Cert.Reference4Ideal.S4x4096x1024 ![0, 1, 2] Cert.Reference4Ideal.Gen.bcast_S4x1x1024_S4x4096x1024_0_1_2 (extractStridedSlice Cert.Reference4Ideal.S4x1x1024 ![0, 0, 3072] (broadcastInDim Cert.Reference4Ideal.S4x1x6144 ![0, 2] Cert.Reference4Ideal.Gen.bcast_S4x6144_S4x1x6144_0_2 (extractStridedSlice Cert.Reference4Ideal.S4x6144 ![1, 0] MOD Cert.Reference4Ideal.Gen.slices_S8x6144_S4x6144_1_0)) Cert.Reference4Ideal.Gen.slices_S4x1x6144_S4x1x1024_0_0_3072)))
/-- The rows, joined in a batch's order. -/
def R0 (C : FVec Ideal Cert.Reference4Ideal.S4x256x1024 .f32) (L : FVec Ideal Cert.Reference4Ideal.S4x4096x1024 .f32) : FVec Ideal Cert.Reference4Ideal.S17408x1024 .f32 :=
  shapeCast Cert.Reference4Ideal.S17408x1024 (concatenate Cert.Reference4Ideal.S4x4352x1024 1 [⟨Cert.Reference4Ideal.S4x256x1024, (C)⟩, ⟨Cert.Reference4Ideal.S4x4096x1024, (L)⟩] Cert.Reference4Ideal.Gen.concatenates_S4x256x1024_S4x4096x1024_S4x4352x1024_d1) Cert.Reference4Ideal.Gen.shapeCasts_S4x4352x1024_S17408x1024
/-- The rows, joined in a batch's order and rounded. -/
def R1 (C : FVec Ideal Cert.Reference4Ideal.S4x256x1024 .f32) (L : FVec Ideal Cert.Reference4Ideal.S4x4096x1024 .f32) : FVec Ideal Cert.Reference4Ideal.S17408x1024 .bf16 :=
  truncf .bf16 (shapeCast Cert.Reference4Ideal.S17408x1024 (concatenate Cert.Reference4Ideal.S4x4352x1024 1 [⟨Cert.Reference4Ideal.S4x256x1024, (C)⟩, ⟨Cert.Reference4Ideal.S4x4096x1024, (L)⟩] Cert.Reference4Ideal.Gen.concatenates_S4x256x1024_S4x4096x1024_S4x4352x1024_d1) Cert.Reference4Ideal.Gen.shapeCasts_S4x4352x1024_S17408x1024) Cert.Reference4Ideal.Gen.bitsLt_bf16_f32

/-- A gate. -/
abbrev lg (u : EReal) : EReal := FloatOps.logistic (F := Ideal) (φ := .f32) u

/-- A row of the gated sum, of the branches' rows, their gates and weights. -/
def accS (y0 y1 y2 g0 g1 g2 : Fin 1024 → EReal) (w : Fin 3 → Fin 1024 → Fin 1024 → EReal) (d : Fin 1024) : EReal :=
  lg (g0 d) * (∑ e, y0 e * w 0 e d) + lg (g1 d) * (∑ e, y1 e * w 1 e d) + lg (g2 d) * (∑ e, y2 e * w 2 e d)

/-- A row of the residual, of its old value, the gate and the gated sum. -/
def hS (h g a : Fin 1024 → EReal) (wo : Fin 1024 → Fin 1024 → EReal) (d : Fin 1024) : EReal :=
  h d + g d * ∑ e, a e * wo e d

/-- A row of the feed-forward's input, of the residual's row. -/
def fS (h n sc sh : Fin 1024 → EReal) (d : Fin 1024) : EReal :=
  (h d * FloatOps.rsqrt (F := Ideal) (φ := .f32) (FloatOps.divf (F := Ideal) (φ := .f32) (∑ e, h e * h e) (FloatOps.ofBits .f32 0x44800000#32) + FloatOps.ofBits (F := Ideal) .f32 0x358637BD#32) * n d) * (1 + sc d) + sh d

theorem da_at (A2 : FVec Ideal Cert.Reference4Ideal.S16384x1024 .f32) (A3 : FVec Ideal Cert.Reference4Ideal.S1024x1024 .f32) (b : Fin 4) (l : Fin 4352) (d : Fin 1024) :
    DA A2 A3 (ix3 b l d) = if h : l.val < 256 then A3 (ix2 ⟨b.val * 256 + l.val, by omega⟩ d) else A2 (ix2 ⟨b.val * 4096 + (l.val - 256), by omega⟩ d) := by
  pointwise [DA]

theorem acc_at (A0 A1 : FVec Ideal Cert.Reference4Ideal.S17408x1024 .f32) (Z : FVec Ideal Cert.Reference4Ideal.S4x4352x1024 .f32) (P2 : FVec Ideal Cert.Reference4Ideal.S17408x12288 .f32) (WB : FVec Ideal Cert.Reference4Ideal.S3x1024x1024 .f32) (b : Fin 4) (l : Fin 4352) (d : Fin 1024) :
    ACC (SG P2) (YS A0 A1 Z) WB (ix3 b l d) = accS (fun e => A0 (ix2 ⟨b.val * 4352 + l.val, by omega⟩ e)) (fun e => A1 (ix2 ⟨b.val * 4352 + l.val, by omega⟩ e)) (fun e => Z (ix3 b l e))
      (fun e => P2 (ix2 ⟨b.val * 4352 + l.val, by omega⟩ ⟨3072 + e.val, by omega⟩)) (fun e => P2 (ix2 ⟨b.val * 4352 + l.val, by omega⟩ ⟨4096 + e.val, by omega⟩)) (fun e => P2 (ix2 ⟨b.val * 4352 + l.val, by omega⟩ ⟨5120 + e.val, by omega⟩))
      (fun i e d => WB (ix3 i e d)) d := by
  pointwise [ACC, SG, YS]
  rw [Fin.sum_univ_three]
  unfold accS
  refine congrArg₂ (· + ·) (congrArg₂ (· + ·) (congrArg₂ (· * ·) ?_ ?_) (congrArg₂ (· * ·) ?_ ?_)) (congrArg₂ (· * ·) ?_ ?_)
  · exact congrArg lg (congrArg P2 (congrArg₂ ix2 rfl (Fin.ext (by simp))))
  · exact Finset.sum_congr rfl fun e _ => mul_comm _ _
  · exact congrArg lg (congrArg P2 (congrArg₂ ix2 rfl (Fin.ext (by simp <;> omega))))
  · exact Finset.sum_congr rfl fun e _ => mul_comm _ _
  · exact congrArg lg (congrArg P2 (congrArg₂ ix2 rfl (Fin.ext (by simp <;> omega))))
  · exact Finset.sum_congr rfl fun e _ => mul_comm _ _

theorem mm_at (AC : FVec Ideal Cert.Reference4Ideal.S4x4352x1024 .f32) (WO : FVec Ideal Cert.Reference4Ideal.S1024x1024 .f32) (b : Fin 4) (l : Fin 4352) (d : Fin 1024) :
    MM AC WO (ix3 b l d) = ∑ e : Fin 1024, AC (ix3 b l e) * WO (ix2 e d) := by
  pointwise [MM]

theorem hc_at (H : FVec Ideal Cert.Reference4Ideal.S17408x1024 .f32) (MOD : FVec Ideal Cert.Reference4Ideal.S8x6144 .f32) (M : FVec Ideal Cert.Reference4Ideal.S4x4352x1024 .f32) (b : Fin 4) (l : Fin 256) (d : Fin 1024) :
    HC H MOD M (ix3 b l d) = H (ix2 ⟨b.val * 4352 + l.val, by omega⟩ d) + MOD (ix2 0 ⟨2048 + d.val, by omega⟩) * M (ix3 b ⟨l.val, by omega⟩ d) := by
  pointwise [HC]

theorem hl_at (H : FVec Ideal Cert.Reference4Ideal.S17408x1024 .f32) (MOD : FVec Ideal Cert.Reference4Ideal.S8x6144 .f32) (M : FVec Ideal Cert.Reference4Ideal.S4x4352x1024 .f32) (b : Fin 4) (l : Fin 4096) (d : Fin 1024) :
    HL H MOD M (ix3 b l d) = H (ix2 ⟨b.val * 4352 + (256 + l.val), by omega⟩ d) + MOD (ix2 ⟨1 + b.val, by omega⟩ ⟨2048 + d.val, by omega⟩) * M (ix3 b ⟨256 + l.val, by omega⟩ d) := by
  pointwise [HL]

theorem fc_at (X : FVec Ideal Cert.Reference4Ideal.S4x256x1024 .f32) (MOD : FVec Ideal Cert.Reference4Ideal.S8x6144 .f32) (N2 : FVec Ideal Cert.Reference4Ideal.S1024 .f32) (b : Fin 4) (l : Fin 256) (d : Fin 1024) :
    FC X MOD N2 (ix3 b l d) = fS (fun e => X (ix3 b l e)) (fun e => N2 (ix1 e)) (fun e => MOD (ix2 0 ⟨4096 + e.val, by omega⟩)) (fun e => MOD (ix2 0 ⟨3072 + e.val, by omega⟩)) d := by
  pointwise [FC, fS]

theorem fl_at (X : FVec Ideal Cert.Reference4Ideal.S4x4096x1024 .f32) (MOD : FVec Ideal Cert.Reference4Ideal.S8x6144 .f32) (N2 : FVec Ideal Cert.Reference4Ideal.S1024 .f32) (b : Fin 4) (l : Fin 4096) (d : Fin 1024) :
    FL X MOD N2 (ix3 b l d) = fS (fun e => X (ix3 b l e)) (fun e => N2 (ix1 e)) (fun e => MOD (ix2 ⟨1 + b.val, by omega⟩ ⟨4096 + e.val, by omega⟩)) (fun e => MOD (ix2 ⟨1 + b.val, by omega⟩ ⟨3072 + e.val, by omega⟩)) d := by
  pointwise [FL, fS]

theorem r0_at (C : FVec Ideal Cert.Reference4Ideal.S4x256x1024 .f32) (L : FVec Ideal Cert.Reference4Ideal.S4x4096x1024 .f32) (r : Fin 17408) (d : Fin 1024) :
    R0 C L (ix2 r d) = if h : r.val % 4352 < 256 then C (ix3 ⟨r.val / 4352, by omega⟩ ⟨r.val % 4352, h⟩ d) else L (ix3 ⟨r.val / 4352, by omega⟩ ⟨r.val % 4352 - 256, by omega⟩ d) := by
  pointwise [R0]

theorem r1_at (C : FVec Ideal Cert.Reference4Ideal.S4x256x1024 .f32) (L : FVec Ideal Cert.Reference4Ideal.S4x4096x1024 .f32) (r : Fin 17408) (d : Fin 1024) :
    R1 C L (ix2 r d) = if h : r.val % 4352 < 256 then C (ix3 ⟨r.val / 4352, by omega⟩ ⟨r.val % 4352, h⟩ d) else L (ix3 ⟨r.val / 4352, by omega⟩ ⟨r.val % 4352 - 256, by omega⟩ d) := by
  pointwise [R1]

theorem pay4 (x g : FVec Ideal S256x1024 .bf16) (w : FVec Ideal S1x1024x1024 .bf16) (y : S256x1024.Idx) :
    k0_pay4 (F := Ideal) x g w y = lg (g y) * ∑ e : Fin 1024, x (ix2 (y 0) e) * w (ix3 0 e (y 1)) := by
  pointwise [k0_pay4, lg]

theorem pay5 (g : FVec Ideal S256x1024 .bf16) (y : S256x1024.Idx) : k0_pay5 (F := Ideal) g y = lg (g y) := by
  pointwise [k0_pay5, lg]

theorem pay6 (z x : FVec Ideal S256x1024 .bf16) (u s : FVec Ideal S256x1024 .f32) (w1 : FVec Ideal S1x1024x1024 .bf16) (g2 : FVec Ideal S256x1024 .bf16)
    (w2 : FVec Ideal S1x1024x1024 .bf16) (h : FVec Ideal S256x1024 .f32) (g : FVec Ideal S1x1x1024 .f32) (wo : FVec Ideal S1024x1024 .bf16) (p : Fin 256) (q : Fin 1024) :
    k0_pay6 (F := Ideal) z x u s w1 g2 w2 h g wo (ix2 p q) = hS (fun e => h (ix2 p e)) (fun e => g (ix3 0 0 e))
      (fun d => u (ix2 p d) + s (ix2 p d) * (∑ e : Fin 1024, x (ix2 p e) * w1 (ix3 0 e d)) + lg (g2 (ix2 p d)) * (∑ e : Fin 1024, z (ix2 p e) * w2 (ix3 0 e d)))
      (fun e d => wo (ix2 e d)) q := by
  pointwise [k0_pay6, hS, lg]

theorem pay7 (z x : FVec Ideal S256x1024 .bf16) (u s : FVec Ideal S256x1024 .f32) (w1 : FVec Ideal S1x1024x1024 .bf16) (g2 : FVec Ideal S256x1024 .bf16)
    (w2 : FVec Ideal S1x1024x1024 .bf16) (h : FVec Ideal S256x1024 .f32) (g : FVec Ideal S1x1x1024 .f32) (wo : FVec Ideal S1024x1024 .bf16)
    (n : FVec Ideal S1x1024 .f32) (sc sh : FVec Ideal S1x1x1024 .f32) (p : Fin 256) (q : Fin 1024) :
    k0_pay1 (F := Ideal) (k0_pay7 (F := Ideal) z x u s w1 g2 w2 h g wo n) sc sh (ix2 p q)
      = fS (fun e => k0_pay6 (F := Ideal) z x u s w1 g2 w2 h g wo (ix2 p e)) (fun e => n (ix2 0 e)) (fun e => sc (ix3 0 0 e)) (fun e => sh (ix3 0 0 e)) q := by
  unfold k0_pay7
  generalize k0_pay6 (F := Ideal) z x u s w1 g2 w2 h g wo = X
  pointwise [k0_pay1, fS]

theorem place : ∀ q : Fin 68, Scalar.cmpi CmpIPredicate.eq (Scalar.select (Scalar.andi (Scalar.xori (Scalar.cmpi CmpIPredicate.slt (Scalar.remsi (BitVec.ofNat 32 q.val) (Scalar.select (Scalar.cmpi CmpIPredicate.eq 17#32 0#32) 1#32 17#32)) 0#32) (Scalar.cmpi CmpIPredicate.slt (Scalar.select (Scalar.cmpi CmpIPredicate.eq 17#32 0#32) 1#32 17#32) 0#32)) (Scalar.cmpi CmpIPredicate.ne (Scalar.remsi (BitVec.ofNat 32 q.val) (Scalar.select (Scalar.cmpi CmpIPredicate.eq 17#32 0#32) 1#32 17#32)) 0#32)) (Scalar.addi (Scalar.remsi (BitVec.ofNat 32 q.val) (Scalar.select (Scalar.cmpi CmpIPredicate.eq 17#32 0#32) 1#32 17#32)) (Scalar.select (Scalar.cmpi CmpIPredicate.eq 17#32 0#32) 1#32 17#32)) (Scalar.remsi (BitVec.ofNat 32 q.val) (Scalar.select (Scalar.cmpi CmpIPredicate.eq 17#32 0#32) 1#32 17#32))) 0#32
    = if q.val % 17 = 0 then 1#1 else 0#1 := by
  decide +kernel

theorem pay2 (i : grid0.Coords) (a b : FVec Ideal S256x1024 .bf16) : k0_pay2 (F := Ideal) i a b = if (i 0).val % 17 = 0 then b else a := by
  have hi : (i 0).val < 68 := (i 0).isLt
  have p := place ⟨(i 0).val, hi⟩
  dsimp only at p
  unfold k0_pay2
  rw [shapeCast_self, shapeCast_self]
  dsimp only
  rw [p]
  split_ifs <;> rfl

theorem e_v3 (c : Dev nD) : V m c main_v3 = (truncf .bf16 (m ((c : Thread nD τ).loc main_arg0) : FVec Ideal S17408x1024 .f32) bitsLt_bf16_f32 : FVec Ideal S17408x1024 .bf16) := by
  entry_read
  rfl
theorem e_v4 (c : Dev nD) : V m c main_v4 = (truncf .bf16 (m ((c : Thread nD τ).loc main_arg1) : FVec Ideal S17408x1024 .f32) bitsLt_bf16_f32 : FVec Ideal S17408x1024 .bf16) := by
  entry_read
  rfl
theorem e_v5 (c : Dev nD) : V m c main_v5 = (truncf .bf16 (m ((c : Thread nD τ).loc main_arg2) : FVec Ideal S16384x1024 .f32) bitsLt_bf16_f32 : FVec Ideal S16384x1024 .bf16) := by
  entry_read
  rfl
theorem e_v6 (c : Dev nD) : V m c main_v6 = (truncf .bf16 (m ((c : Thread nD τ).loc main_arg3) : FVec Ideal S1024x1024 .f32) bitsLt_bf16_f32 : FVec Ideal S1024x1024 .bf16) := by
  entry_read
  rfl
theorem e_v7 (c : Dev nD) : V m c main_v7 = (truncf .bf16 (m ((c : Thread nD τ).loc main_arg4) : FVec Ideal S17408x12288 .f32) bitsLt_bf16_f32 : FVec Ideal S17408x12288 .bf16) := by
  entry_read
  rfl
theorem e_v1 (c : Dev nD) : V m c main_v1 = (truncf .bf16 (m ((c : Thread nD τ).loc main_arg6) : FVec Ideal S3x1024x1024 .f32) bitsLt_bf16_f32 : FVec Ideal S3x1024x1024 .bf16) := by
  entry_read
  rfl
theorem e_v2 (c : Dev nD) : V m c main_v2 = (truncf .bf16 (m ((c : Thread nD τ).loc main_arg7) : FVec Ideal S1024x1024 .f32) bitsLt_bf16_f32 : FVec Ideal S1024x1024 .bf16) := by
  entry_read
  rfl
theorem e_v0 (c : Dev nD) : V m c main_v0 = (shapeCast S48x1x1024 (m ((c : Thread nD τ).loc main_arg8) : FVec Ideal S8x6144 .f32) shapeCasts_S8x6144_S48x1x1024 : FVec Ideal S48x1x1024 .f32) := by
  entry_read
  rfl
theorem e_v8 (c : Dev nD) : V m c main_v8 = (broadcastInDim S1x1024 ![1] bcast_S1024_S1x1024_1 (m ((c : Thread nD τ).loc main_arg9) : FVec Ideal S1024 .f32) : FVec Ideal S1x1024 .f32) := by
  entry_read
  rfl
theorem e_h (c : Dev nD) : V m c main_arg5 = m ((c : Thread nD τ).loc main_arg5) := by
  entry_read
  rfl

/-- A row's part of its batch's modulation. -/
def gt (MOD : FVec Ideal S8x6144 .f32) (k : Fin 6) (r : Fin 17408) (e : Fin 1024) : EReal :=
  if r.val % 4352 < 256 then MOD (ix2 0 ⟨k.val * 1024 + e.val, by omega⟩) else MOD (ix2 ⟨1 + r.val / 4352, by omega⟩ ⟨k.val * 1024 + e.val, by omega⟩)

/-- A row of the attention's output. -/
def da (A2 : FVec Ideal S16384x1024 .f32) (A3 : FVec Ideal S1024x1024 .f32) (r : Fin 17408) (e : Fin 1024) : EReal :=
  if h : r.val % 4352 < 256 then A3 (ix2 ⟨r.val / 4352 * 256 + r.val % 4352, by omega⟩ e) else A2 (ix2 ⟨r.val / 4352 * 4096 + (r.val % 4352 - 256), by omega⟩ e)

/-- A row of the gated sum. -/
def arow (A0 A1 : FVec Ideal S17408x1024 .f32) (A2 : FVec Ideal S16384x1024 .f32) (A3 : FVec Ideal S1024x1024 .f32) (P2 : FVec Ideal S17408x12288 .f32) (WB : FVec Ideal S3x1024x1024 .f32) (r : Fin 17408) : Fin 1024 → EReal :=
  accS (fun e => A0 (ix2 r e)) (fun e => A1 (ix2 r e)) (da A2 A3 r)
      (fun e => P2 (ix2 r ⟨3072 + e.val, by omega⟩)) (fun e => P2 (ix2 r ⟨4096 + e.val, by omega⟩)) (fun e => P2 (ix2 r ⟨5120 + e.val, by omega⟩))
      (fun i e d => WB (ix3 i e d))

/-- A row of the residual. -/
def hrow (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (r : Fin 17408) : Fin 1024 → EReal :=
  hS (fun e => H (ix2 r e)) (gt MOD 2 r) (arow A0 A1 A2 A3 P2 WB r) (fun e d => WO (ix2 e d))

/-- A row of the feed-forward's input. -/
def frow (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (N2 : FVec Ideal S1024 .f32) (r : Fin 17408) : Fin 1024 → EReal :=
  fS (hrow A0 A1 A2 A3 P2 H WB WO MOD r) (fun e => N2 (ix1 e)) (gt MOD 4 r) (gt MOD 3 r)

/-- The output product, of the arguments. -/
abbrev MALL (A0 A1 : FVec Ideal S17408x1024 .f32) (A2 : FVec Ideal S16384x1024 .f32) (A3 : FVec Ideal S1024x1024 .f32) (P2 : FVec Ideal S17408x12288 .f32) (WB : FVec Ideal S3x1024x1024 .f32) (WO : FVec Ideal S1024x1024 .f32) : FVec Ideal Cert.Reference4Ideal.S4x4352x1024 .f32 :=
  MM (ACC (SG P2) (YS A0 A1 (DA A2 A3)) WB) WO

/-- The reference's first result, of its arguments. -/
abbrev REF0 (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) : FVec Ideal S17408x1024 .f32 :=
  R0 (HC H MOD (MALL A0 A1 A2 A3 P2 WB WO)) (HL H MOD (MALL A0 A1 A2 A3 P2 WB WO))

/-- The reference's second result, of its arguments. -/
abbrev REF1 (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (N2 : FVec Ideal S1024 .f32) : FVec Ideal S17408x1024 .bf16 :=
  R1 (FC (HC H MOD (MALL A0 A1 A2 A3 P2 WB WO)) MOD N2) (FL (HL H MOD (MALL A0 A1 A2 A3 P2 WB WO)) MOD N2)

theorem arow_at (A0 A1 : FVec Ideal S17408x1024 .f32) (A2 : FVec Ideal S16384x1024 .f32) (A3 : FVec Ideal S1024x1024 .f32) (P2 : FVec Ideal S17408x12288 .f32) (WB : FVec Ideal S3x1024x1024 .f32)
    (b : Fin 4) (l : Fin 4352) (r : Fin 17408) (hr : r.val = b.val * 4352 + l.val) (d : Fin 1024) :
    ACC (SG P2) (YS A0 A1 (DA A2 A3)) WB (ix3 b l d) = arow A0 A1 A2 A3 P2 WB r d := by
  have er : (⟨b.val * 4352 + l.val, by omega⟩ : Fin 17408) = r := Fin.ext hr.symm
  have e : (fun e => DA A2 A3 (ix3 b l e)) = da A2 A3 r := by
    funext e
    have h1 : r.val / 4352 = b.val := by omega
    have h2 : r.val % 4352 = l.val := by omega
    rw [da_at, da]
    simp only [h1, h2]
  rw [acc_at, e]
  simp only [er]
  rfl

theorem mall_at (A0 A1 : FVec Ideal S17408x1024 .f32) (A2 : FVec Ideal S16384x1024 .f32) (A3 : FVec Ideal S1024x1024 .f32) (P2 : FVec Ideal S17408x12288 .f32) (WB : FVec Ideal S3x1024x1024 .f32) (WO : FVec Ideal S1024x1024 .f32)
    (b : Fin 4) (l : Fin 4352) (r : Fin 17408) (hr : r.val = b.val * 4352 + l.val) (d : Fin 1024) :
    MALL A0 A1 A2 A3 P2 WB WO (ix3 b l d) = ∑ e : Fin 1024, arow A0 A1 A2 A3 P2 WB r e * WO (ix2 e d) := by
  refine (mm_at _ _ _ _ _).trans (Finset.sum_congr rfl fun e _ => ?_)
  rw [arow_at A0 A1 A2 A3 P2 WB b l r hr]

theorem hc_row (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (b : Fin 4) (l : Fin 256) (r : Fin 17408) (hr : r.val = b.val * 4352 + l.val) (d : Fin 1024) :
    HC H MOD (MALL A0 A1 A2 A3 P2 WB WO) (ix3 b l d) = hrow A0 A1 A2 A3 P2 H WB WO MOD r d := by
  have h2 : r.val % 4352 < 256 := by omega
  have er : (⟨b.val * 4352 + l.val, by omega⟩ : Fin 17408) = r := Fin.ext hr.symm
  rw [hc_at, mall_at A0 A1 A2 A3 P2 WB WO b ⟨l.val, by omega⟩ r hr, er]
  unfold hrow hS gt
  rw [if_pos h2]
  rfl

theorem hl_row (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (b : Fin 4) (l : Fin 4096) (r : Fin 17408) (hr : r.val = b.val * 4352 + (256 + l.val)) (d : Fin 1024) :
    HL H MOD (MALL A0 A1 A2 A3 P2 WB WO) (ix3 b l d) = hrow A0 A1 A2 A3 P2 H WB WO MOD r d := by
  have h2 : ¬ r.val % 4352 < 256 := by omega
  have h1 : r.val / 4352 = b.val := by omega
  have er : (⟨b.val * 4352 + (256 + l.val), by omega⟩ : Fin 17408) = r := Fin.ext hr.symm
  rw [hl_at, mall_at A0 A1 A2 A3 P2 WB WO b ⟨256 + l.val, by omega⟩ r hr, er]
  unfold hrow hS gt
  rw [if_neg h2]
  simp only [h1]
  rfl

theorem ref0 (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (r : Fin 17408) (d : Fin 1024) : REF0 A0 A1 A2 A3 P2 H WB WO MOD (ix2 r d) = hrow A0 A1 A2 A3 P2 H WB WO MOD r d := by
  rw [REF0, r0_at]
  split_ifs with h
  · exact hc_row A0 A1 A2 A3 P2 H WB WO MOD _ _ r (by dsimp only; omega) d
  · exact hl_row A0 A1 A2 A3 P2 H WB WO MOD _ _ r (by dsimp only; omega) d

theorem fS_congr {h h' n n' sc sc' sh sh' : Fin 1024 → EReal} (e1 : ∀ e, h e = h' e) (e2 : ∀ e, n e = n' e) (e3 : ∀ e, sc e = sc' e) (e4 : ∀ e, sh e = sh' e) (d : Fin 1024) :
    fS h n sc sh d = fS h' n' sc' sh' d := by
  rw [funext e1, funext e2, funext e3, funext e4]

theorem ref1 (A0 A1 : FVec Ideal S17408x1024 .f32) (A2 : FVec Ideal S16384x1024 .f32) (A3 : FVec Ideal S1024x1024 .f32) (P2 : FVec Ideal S17408x12288 .f32) (H : FVec Ideal S17408x1024 .f32) (WB : FVec Ideal S3x1024x1024 .f32) (WO : FVec Ideal S1024x1024 .f32) (MOD : FVec Ideal S8x6144 .f32) (N2 : FVec Ideal S1024 .f32) (r : Fin 17408) (d : Fin 1024) : REF1 A0 A1 A2 A3 P2 H WB WO MOD N2 (ix2 r d) = frow A0 A1 A2 A3 P2 H WB WO MOD N2 r d := by
  rw [REF1, r1_at]
  by_cases h : r.val % 4352 < 256
  · rw [dif_pos h, fc_at]
    refine fS_congr (fun e => hc_row A0 A1 A2 A3 P2 H WB WO MOD _ _ r (by dsimp only; omega) e) (fun _ => rfl) (fun e => ?_) (fun e => ?_) d
    · exact (if_pos h).symm
    · exact (if_pos h).symm
  · rw [dif_neg h, fl_at]
    refine fS_congr (fun e => hl_row A0 A1 A2 A3 P2 H WB WO MOD _ _ r (by dsimp only; omega) e) (fun _ => rfl) (fun e => ?_) (fun e => ?_) d
    · exact (if_neg h).symm
    · exact (if_neg h).symm

theorem lt68 (t : Fin cfg0.N) : t.val < 68 := lt_of_lt_of_eq t.isLt (show cfg0.N = 68 from N_0)

/-- The row of the whole that a tile's row is. -/
def row (t : Fin cfg0.N) (p : Fin 256) : Fin 17408 := ⟨t.val * 256 + p.val, by have := lt68 t; omega⟩

theorem gate (MOD : FVec Ideal S8x6144 .f32) (t : ℕ) (ht : t < 68) (p : Fin 256) (q : Fin 1024) (k : Fin 6) (r : Fin 17408) (hr : r.val = t * 256 + p.val) :
    (shapeCast S48x1x1024 MOD shapeCasts_S8x6144_S48x1x1024 : FVec Ideal S48x1x1024 .f32) (ix3 ⟨(if t % 17 = 0 then 0 else t / 17 + 1) * 6 + k.val, by split_ifs <;> omega⟩ 0 q)
      = gt MOD k r q := by
  have hq := q.isLt
  have hk := k.isLt
  unfold gt
  by_cases h : t % 17 = 0
  · rw [if_pos (show r.val % 4352 < 256 by omega)]
    simp only [if_pos h]
    pointwise
    exact congrArg MOD (congrArg₂ ix2 (Fin.ext (by simp <;> omega)) (Fin.ext (by dsimp only; omega)))
  · rw [if_neg (show ¬ r.val % 4352 < 256 by omega)]
    simp only [if_neg h]
    pointwise
    exact congrArg MOD (congrArg₂ ix2 (Fin.ext (by dsimp only; omega)) (Fin.ext (by dsimp only; omega)))

theorem b0 (c : Dev nD) (t : Fin cfg0.N) (p : Fin 256) (e : Fin 1024) : iblk m c 0 t (ix2 p e) = m ((c : Thread nD τ).loc main_arg0) (ix2 (row t p) e) := by
  have h : iblk m c 0 t (ix2 p e) = V m c main_v3 (ix2 (row t p) e) := by blk_ext [iblk, idx t, row]
  rw [h, e_v3]
  rfl

theorem b1 (c : Dev nD) (t : Fin cfg0.N) (p : Fin 256) (e : Fin 1024) : iblk m c 1 t (ix2 p e) = m ((c : Thread nD τ).loc main_arg1) (ix2 (row t p) e) := by
  have h : iblk m c 1 t (ix2 p e) = V m c main_v4 (ix2 (row t p) e) := by blk_ext [iblk, idx t, row]
  rw [h, e_v4]
  rfl

theorem b4 (c : Dev nD) (t : Fin cfg0.N) (p : Fin 256) (e : Fin 1024) : iblk m c 4 t (ix2 p e) = m ((c : Thread nD τ).loc main_arg4) (ix2 (row t p) (⟨3072 + e.val, by omega⟩ : Fin 12288)) := by
  have h : iblk m c 4 t (ix2 p e) = V m c main_v7 (ix2 (row t p) (⟨3072 + e.val, by omega⟩ : Fin 12288)) := by blk_ext [iblk, idx t, row]
  rw [h, e_v7]
  rfl

theorem b5 (c : Dev nD) (t : Fin cfg0.N) (p : Fin 256) (e : Fin 1024) : iblk m c 5 t (ix2 p e) = m ((c : Thread nD τ).loc main_arg4) (ix2 (row t p) (⟨4096 + e.val, by omega⟩ : Fin 12288)) := by
  have h : iblk m c 5 t (ix2 p e) = V m c main_v7 (ix2 (row t p) (⟨4096 + e.val, by omega⟩ : Fin 12288)) := by blk_ext [iblk, idx t, row]
  rw [h, e_v7]
  rfl

theorem b6 (c : Dev nD) (t : Fin cfg0.N) (p : Fin 256) (e : Fin 1024) : iblk m c 6 t (ix2 p e) = m ((c : Thread nD τ).loc main_arg4) (ix2 (row t p) (⟨5120 + e.val, by omega⟩ : Fin 12288)) := by
  have h : iblk m c 6 t (ix2 p e) = V m c main_v7 (ix2 (row t p) (⟨5120 + e.val, by omega⟩ : Fin 12288)) := by blk_ext [iblk, idx t, row]
  rw [h, e_v7]
  rfl

theorem b7 (c : Dev nD) (t : Fin cfg0.N) (p : Fin 256) (e : Fin 1024) : iblk m c 7 t (ix2 p e) = m ((c : Thread nD τ).loc main_arg5) (ix2 (row t p) e) := by
  have h : iblk m c 7 t (ix2 p e) = V m c main_arg5 (ix2 (row t p) e) := by blk_ext [iblk, idx t, row]
  rw [h, e_h]

theorem bz (c : Dev nD) (t : Fin cfg0.N) (p : Fin 256) (e : Fin 1024) : k0_pay2 (F := Ideal) (grid0.coords t) (iblk m c 2 t) (iblk m c 3 t) (ix2 p e)
    = da (m ((c : Thread nD τ).loc main_arg2)) (m ((c : Thread nD τ).loc main_arg3)) (row t p) e := by
  have hN := lt68 t
  have hr : (row t p).val = t.val * 256 + p.val := rfl
  rw [pay2, co0]
  unfold da
  by_cases h : t.val % 17 = 0
  · have h' : (row t p).val % 4352 < 256 := by omega
    have hb : iblk m c 3 t (ix2 p e) = V m c main_v6 (ix2 (⟨(row t p).val / 4352 * 256 + (row t p).val % 4352, by omega⟩ : Fin 1024) e) := by
      blk_ext [iblk, idx t, row]
    rw [if_pos h, dif_pos h', hb, e_v6]
    rfl
  · have h' : ¬ (row t p).val % 4352 < 256 := by omega
    have hb : iblk m c 2 t (ix2 p e) = V m c main_v5 (ix2 (⟨(row t p).val / 4352 * 4096 + ((row t p).val % 4352 - 256), by omega⟩ : Fin 16384) e) := by
      blk_ext [iblk, idx t, row]
    rw [if_neg h, dif_neg h', hb, e_v5]
    rfl

theorem b10 (c : Dev nD) (t : Fin cfg0.N) (p : Fin 256) (e : Fin 1024) : iblk m c 10 t (ix3 0 0 e) = gt (m ((c : Thread nD τ).loc main_arg8)) 2 (row t p) e := by
  have hN := lt68 t
  have h : iblk m c 10 t (ix3 0 0 e) = V m c main_v0 (ix3 (⟨(if t.val % 17 = 0 then 0 else t.val / 17 + 1) * 6 + 2, by split_ifs <;> omega⟩ : Fin 48) (0 : Fin 1) e) := by blk_ext [iblk, idx t, row]
  rw [h, e_v0]
  exact gate _ t.val hN p e 2 _ rfl

theorem b12 (c : Dev nD) (t : Fin cfg0.N) (p : Fin 256) (e : Fin 1024) : iblk m c 12 t (ix3 0 0 e) = gt (m ((c : Thread nD τ).loc main_arg8)) 3 (row t p) e := by
  have hN := lt68 t
  have h : iblk m c 12 t (ix3 0 0 e) = V m c main_v0 (ix3 (⟨(if t.val % 17 = 0 then 0 else t.val / 17 + 1) * 6 + 3, by split_ifs <;> omega⟩ : Fin 48) (0 : Fin 1) e) := by blk_ext [iblk, idx t, row]
  rw [h, e_v0]
  exact gate _ t.val hN p e 3 _ rfl

theorem b13 (c : Dev nD) (t : Fin cfg0.N) (p : Fin 256) (e : Fin 1024) : iblk m c 13 t (ix3 0 0 e) = gt (m ((c : Thread nD τ).loc main_arg8)) 4 (row t p) e := by
  have hN := lt68 t
  have h : iblk m c 13 t (ix3 0 0 e) = V m c main_v0 (ix3 (⟨(if t.val % 17 = 0 then 0 else t.val / 17 + 1) * 6 + 4, by split_ifs <;> omega⟩ : Fin 48) (0 : Fin 1) e) := by blk_ext [iblk, idx t, row]
  rw [h, e_v0]
  exact gate _ t.val hN p e 4 _ rfl

theorem b11 (c : Dev nD) (t : Fin cfg0.N) (e : Fin 1024) : iblk m c 11 t (ix2 0 e) = m ((c : Thread nD τ).loc main_arg9) (ix1 e) := by
  have h : iblk m c 11 t (ix2 0 e) = V m c main_v8 (ix2 (0 : Fin 1) e) := by blk_ext [iblk, idx t, row]
  rw [h, e_v8]
  pointwise

theorem b9 (c : Dev nD) (t : Fin cfg0.N) (p e : Fin 1024) : iblk m c 9 t (ix2 p e) = m ((c : Thread nD τ).loc main_arg7) (ix2 p e) := by
  have h : iblk m c 9 t (ix2 p e) = V m c main_v2 (ix2 p e) := by blk_ext [iblk, idx t, row]
  rw [h, e_v2]
  rfl

theorem b8 (c : Dev nD) (t : Fin cfg0.N) (i : Fin 3) (p e : Fin 1024) : iblk m c 8 t (ix3 i p e) = m ((c : Thread nD τ).loc main_arg6) (ix3 i p e) := by
  have h : iblk m c 8 t (ix3 i p e) = V m c main_v1 (ix3 i p e) := by blk_ext [iblk, idx t, row]
  rw [h, e_v1]
  rfl

theorem ld0 (x : Vec Ideal S3x1024x1024 .bf16) (p e : Fin 1024) : View.ld x r0_1 (ix3 0 p e) = x (ix3 0 p e) := by
  pointwise [r0_1]

theorem ld1 (x : Vec Ideal S3x1024x1024 .bf16) (p e : Fin 1024) : View.ld x r0_2 (ix3 0 p e) = x (ix3 1 p e) := by
  pointwise [r0_2]

theorem ld2 (x : Vec Ideal S3x1024x1024 .bf16) (p e : Fin 1024) : View.ld x r0_3 (ix3 0 p e) = x (ix3 2 p e) := by
  pointwise [r0_3]

theorem hS_congr {h h' g g' a a' : Fin 1024 → EReal} {w w' : Fin 1024 → Fin 1024 → EReal} (e1 : ∀ e, h e = h' e) (e2 : ∀ e, g e = g' e) (e3 : ∀ e, a e = a' e) (e4 : ∀ e d, w e d = w' e d) (d : Fin 1024) :
    hS h g a w d = hS h' g' a' w' d := by
  rw [funext e1, funext e2, funext e3, funext fun e => funext (e4 e)]

/-- The first result's row, of the memory. -/
abbrev hm (c : Dev nD) := hrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem kern (c : Dev nD) (t : Fin cfg0.N) (p : Fin 256) (q : Fin 1024) :
    k0_pay6 (F := Ideal) (k0_pay2 (grid0.coords t) (iblk m c 2 t) (iblk m c 3 t)) (iblk m c 1 t) (k0_pay4 (iblk m c 0 t) (iblk m c 4 t) (View.ld (iblk m c 8 t) r0_1)) (k0_pay5 (iblk m c 5 t))
      (View.ld (iblk m c 8 t) r0_2) (iblk m c 6 t) (View.ld (iblk m c 8 t) r0_3) (iblk m c 7 t) (iblk m c 10 t) (iblk m c 9 t) (ix2 p q) = hm m c (row t p) q := by
  refine (pay6 _ _ _ _ _ _ _ _ _ _ p q).trans ?_
  unfold hm hrow
  refine hS_congr (fun e => b7 m c t p e) (fun e => b10 m c t p e) (fun d => ?_) (fun e d => b9 m c t e d) q
  unfold arow accS
  refine congrArg₂ (· + ·) (congrArg₂ (· + ·) ?_ (congrArg₂ (· * ·) ?_ (Finset.sum_congr rfl fun e _ => ?_))) (congrArg₂ (· * ·) (congrArg lg (b6 m c t p d)) (Finset.sum_congr rfl fun e _ => ?_))
  · refine (pay4 _ _ _ _).trans (congrArg₂ (· * ·) (congrArg lg (b4 m c t p d)) (Finset.sum_congr rfl fun e _ => ?_))
    exact congrArg₂ (· * ·) (b0 m c t p e) ((ld0 _ e d).trans (b8 m c t 0 e d))
  · exact (pay5 _ _).trans (congrArg lg (b5 m c t p d))
  · exact congrArg₂ (· * ·) (b1 m c t p e) ((ld1 _ e d).trans (b8 m c t 1 e d))
  · exact congrArg₂ (· * ·) (bz m c t p e) ((ld2 _ e d).trans (b8 m c t 2 e d))

theorem pay3 (a : FVec Ideal S256x1024 .bf16) : k0_pay3 (F := Ideal) a = a := by
  unfold k0_pay3
  rw [shapeCast_self]

theorem emb14 (t : Fin cfg0.N) (p : Fin 256) (q : Fin 1024) : ((cfg0.win 14).blk t).view.emb (ix2 p q) = ix2 (row t p) q := by
  blk_ext [iblk, idx t, row]

theorem emb15 (t : Fin cfg0.N) (p : Fin 256) (q : Fin 1024) : ((cfg0.win 15).blk t).view.emb (ix2 p q) = ix2 (row t p) q := by
  blk_ext [iblk, idx t, row]

theorem final14 (c : Dev nD) : (dats m 0 c).arrAt 14 (cfgs 0).N
    = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  obtain ⟨p, q, rfl⟩ : ∃ (p : Fin 256) (q : Fin 1024), y = ix2 p q := ⟨y 0, y 1, (ix2_eta y).symm⟩
  refine Eq.trans ?_ (congrArg _ (emb14 t p q)).symm
  refine Eq.trans ?_ (ref0 _ _ _ _ _ _ _ _ _ (row t p) q).symm
  blk_simp
  rw [after0_14]; frame_out
  unfold k0_pay8 k0_pay9 k0_pay10 k0_pay11
  frame_out
  rw [pay3]
  exact kern m c t p q

theorem final15 (c : Dev nD) : (dats m 0 c).arrAt 15 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t _ y => ?_
  obtain ⟨p, q, rfl⟩ : ∃ (p : Fin 256) (q : Fin 1024), y = ix2 p q := ⟨y 0, y 1, (ix2_eta y).symm⟩
  refine Eq.trans ?_ (congrArg _ (emb15 t p q)).symm
  refine Eq.trans ?_ (ref1 _ _ _ _ _ _ _ _ _ _ (row t p) q).symm
  blk_simp
  rw [after0_15]; frame_out
  unfold k0_pay8 k0_pay9 k0_pay10 k0_pay11
  frame_out
  rw [pay3]
  refine (pay7 _ _ _ _ _ _ _ _ _ _ _ _ _ p q).trans ?_
  unfold frow
  exact fS_congr (fun e => kern m c t p e) (fun e => b11 m c t e) (fun e => b13 m c t p e) (fun e => b12 m c t p e) q

end Cert.Kernel4Ideal.Mrg

end
-- ==== Proof.Claims4.lean ====
module

public import proofs.«01_k».proof.Defs
public import proofs.«01_k».proof.Proof.Merge
public import proofs.«01_k».proof.Proof.Gen.Kernel4Ideal.Value
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Proof

/-- The side conditions of `Kernel4`, from those of `Kernel4Ideal`, which has the same text. -/
instance facts4 : Cert.Kernel4.Facts :=
  have h := Cert.Kernel4Ideal.Gen.facts
  { shapeCasts_S8x6144_S48x1x1024 := h.shapeCasts_S8x6144_S48x1x1024
    bitsLt_bf16_f32 := h.bitsLt_bf16_f32
    bcast_S1024_S1x1024_1 := h.bcast_S1024_S1x1024_1
    inb_S256x1024_S256x1024_0_0 := h.inb_S256x1024_S256x1024_0_0
    h_S256x1024 := h.h_S256x1024
    shapeCasts_S256x1024_S256x1024 := h.shapeCasts_S256x1024_S256x1024
    inb_S3x1024x1024_S1x1024x1024_0_0_0 := h.inb_S3x1024x1024_S1x1024x1024_0_0_0
    h_S1x1024x1024 := h.h_S1x1024x1024
    shapeCasts_S1x1024x1024_S1024x1024 := h.shapeCasts_S1x1024x1024_S1024x1024
    inb_S3x1024x1024_S1x1024x1024_1_0_0 := h.inb_S3x1024x1024_S1x1024x1024_1_0_0
    inb_S3x1024x1024_S1x1024x1024_2_0_0 := h.inb_S3x1024x1024_S1x1024x1024_2_0_0
    inb_S1x1x1024_S1x1x1024_0_0_0 := h.inb_S1x1x1024_S1x1x1024_0_0_0
    h_S1x1x1024 := h.h_S1x1x1024
    shapeCasts_S1x1x1024_S1x1024 := h.shapeCasts_S1x1x1024_S1x1024
    inb_S1024x1024_S1024x1024_0_0 := h.inb_S1024x1024_S1024x1024_0_0
    h_S1024x1024 := h.h_S1024x1024
    shapeCasts_S1024x1024_S1024x1024 := h.shapeCasts_S1024x1024_S1024x1024
    broadcasts_S1x1024_S256x1024 := h.broadcasts_S1x1024_S256x1024
    reduces_S256x1024_S256 := h.reduces_S256x1024_S256
    shapeCasts_S256_S256x1 := h.shapeCasts_S256_S256x1
    broadcasts_S256x1_S256x1024 := h.broadcasts_S256x1_S256x1024
    inb_S1x1024_S1x1024_0_0 := h.inb_S1x1024_S1x1024_0_0
    h_S1x1024 := h.h_S1x1024
    shapeCasts_S1x1024_S1x1024 := h.shapeCasts_S1x1024_S1x1024
    packedbf16_S256x1024_S256x1024_0_0 := h.packedbf16_S256x1024_S256x1024_0_0
    dot_S256x1024_S1024x1024_S256x1024_1_0_0_1_n_n_wf := h.dot_S256x1024_S1024x1024_S256x1024_1_0_0_1_n_n_wf
    hrank0 := h.hrank0
    hstage0_0 := h.hstage0_0
    nbuf0_0 := h.nbuf0_0
    hreads0_0 := h.hreads0_0
    hinb0_0 := h.hinb0_0
    hwx0_0 := h.hwx0_0
    hstage0_1 := h.hstage0_1
    nbuf0_1 := h.nbuf0_1
    hreads0_1 := h.hreads0_1
    hinb0_1 := h.hinb0_1
    hwx0_1 := h.hwx0_1
    hstage0_2 := h.hstage0_2
    nbuf0_2 := h.nbuf0_2
    hreads0_2 := h.hreads0_2
    hinb0_2 := h.hinb0_2
    hwx0_2 := h.hwx0_2
    hstage0_3 := h.hstage0_3
    nbuf0_3 := h.nbuf0_3
    hreads0_3 := h.hreads0_3
    hinb0_3 := h.hinb0_3
    hwx0_3 := h.hwx0_3
    hstage0_4 := h.hstage0_4
    nbuf0_4 := h.nbuf0_4
    hreads0_4 := h.hreads0_4
    hinb0_4 := h.hinb0_4
    hwx0_4 := h.hwx0_4
    hstage0_5 := h.hstage0_5
    nbuf0_5 := h.nbuf0_5
    hreads0_5 := h.hreads0_5
    hinb0_5 := h.hinb0_5
    hwx0_5 := h.hwx0_5
    hstage0_6 := h.hstage0_6
    nbuf0_6 := h.nbuf0_6
    hreads0_6 := h.hreads0_6
    hinb0_6 := h.hinb0_6
    hwx0_6 := h.hwx0_6
    hstage0_7 := h.hstage0_7
    nbuf0_7 := h.nbuf0_7
    hreads0_7 := h.hreads0_7
    hinb0_7 := h.hinb0_7
    hwx0_7 := h.hwx0_7
    hstage0_8 := h.hstage0_8
    nbuf0_8 := h.nbuf0_8
    hreads0_8 := h.hreads0_8
    hinb0_8 := h.hinb0_8
    hwx0_8 := h.hwx0_8
    hstage0_9 := h.hstage0_9
    nbuf0_9 := h.nbuf0_9
    hreads0_9 := h.hreads0_9
    hinb0_9 := h.hinb0_9
    hwx0_9 := h.hwx0_9
    hstage0_10 := h.hstage0_10
    nbuf0_10 := h.nbuf0_10
    hreads0_10 := h.hreads0_10
    hinb0_10 := h.hinb0_10
    hwx0_10 := h.hwx0_10
    hstage0_11 := h.hstage0_11
    nbuf0_11 := h.nbuf0_11
    hreads0_11 := h.hreads0_11
    hinb0_11 := h.hinb0_11
    hwx0_11 := h.hwx0_11
    hstage0_12 := h.hstage0_12
    nbuf0_12 := h.nbuf0_12
    hreads0_12 := h.hreads0_12
    hinb0_12 := h.hinb0_12
    hwx0_12 := h.hwx0_12
    hstage0_13 := h.hstage0_13
    nbuf0_13 := h.nbuf0_13
    hreads0_13 := h.hreads0_13
    hinb0_13 := h.hinb0_13
    hwx0_13 := h.hwx0_13
    hstage0_14 := h.hstage0_14
    nbuf0_14 := h.nbuf0_14
    hreads0_14 := h.hreads0_14
    hinb0_14 := h.hinb0_14
    hwx0_14 := h.hwx0_14
    hstage0_15 := h.hstage0_15
    nbuf0_15 := h.nbuf0_15
    hreads0_15 := h.hreads0_15
    hinb0_15 := h.hinb0_15
    hwx0_15 := h.hwx0_15 }

/-- The two programs have one text: their kernels' functions are the same, case by case. -/
theorem funs4 : Cert.Kernel4.defs₀ (F := Bits) = Cert.Kernel4Ideal.defs₀ (F := Bits) := by
  refine congrArg Defs.onTc (funext fun l => funext fun x => ?_)
  match l, x with
  | 0, (t, s) => rfl

theorem defs4 : Cert.Kernel4Ideal.defs (F := Bits) = Cert.Kernel4.defs (F := Bits) :=
  congrArg (Pipeline.defs Cert.Kernel4Ideal.pcfgs) funs4.symm

/-- `Kernel4` finishes with its arguments unchanged: the run of `Kernel4Ideal`'s text, at the bit-exact values. -/
theorem frame4 : Cert.quiescent_Kernel4 := fun m ρ _ => by
  have h := Cert.Kernel4Ideal.Gen.frame (F := Bits) m ρ
  rw [defs4] at h
  exact h

theorem frame4i : Cert.quiescent_Kernel4Ideal := fun m ρ _ => Cert.Kernel4Ideal.Gen.frame (F := Ideal) m ρ

/-- `Reference4Ideal`, a line of host operations without a counter, finishes with its arguments unchanged. -/
theorem frame4r : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- `Kernel4Ideal` and `Reference4Ideal` end with equal results from equal arguments. -/
theorem algebraic4 : Cert.algebraic_Kernel4Ideal_Reference4Ideal := by
  pair_intro
  · run_from Cert.Kernel4Ideal.Value.run_blocks m g
  · refine (θ_run Cert.Reference4Ideal.defs _ _).mono (fun r h c => ?_) (Cert.Reference4Ideal.Value.run (F := Ideal) m' g')
    obtain ⟨e0, e1, e2, e3, e4, e5, e6, e7, e8, e9⟩ := hagree c
    obtain ⟨h0, h1, ha⟩ := h c
    refine ⟨h0.trans ?_, h1.trans ?_, ha⟩
    · refine Eq.trans (b := Cert.Kernel4Ideal.Mrg.REF0 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg8))) rfl ?_
      rw [e0, e1, e2, e3, e4, e5, e6, e7, e8]
      exact (Cert.Kernel4Ideal.Mrg.final14 m c).symm
    · refine Eq.trans (b := Cert.Kernel4Ideal.Mrg.REF1 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg8)) (m' ((c : Thread Cert.Reference4Ideal.nD Cert.Reference4Ideal.τ).loc Cert.Reference4Ideal.main_arg9))) rfl ?_
      rw [e0, e1, e2, e3, e4, e5, e6, e7, e8, e9]
      exact (Cert.Kernel4Ideal.Mrg.final15 m c).symm

end Cert.Proof

end
-- ==== Proof.Att5IdealRun.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The attention's body on any staging memrefs: the table's word chooses one of its two branches, and each
   branch stores the whole output block once. -/

@[expose] public section

set_option maxRecDepth 16384

noncomputable section

namespace Cert.Kernel5Ideal.Att

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The prefetched word's memref as the body is handed it. -/
abbrev tm : Memref sig .tc .smem S1 .i32 := Memref.whole main_v10
abbrev htm : tm.IsWhole := Memref.isWhole_whole _
/-- What a buffer read through the word's memref holds on core `c`. -/
abbrev TBuf (c : Dev nD) {S : Shape} {e : EltTy} (M : Memref sig .tc .smem S e) : Type := Buf (Elt F) (M.view.loc (c : Thread nD τ))
/-- That buffer held at half the full share. -/
abbrev tHeld (c : Dev nD) {S : Shape} {e : EltTy} (M : Memref sig .tc .smem S e) (f : TBuf (F := F) c M) : sProp 𝕄 :=
  M.view.loc (c : Thread nD τ) ↦{fullShare.right} f

/-- Rows `o … o + 1023` of the key block. -/
abbrev keys (x5 : Vec F S1x4352x128 .bf16) (o : Nat) (h : ∀ a, (![0, o, 0] : Fin 3 → Nat) a + S1x1024x128.size a ≤ S1x4352x128.size a) : Vec F S1x1024x128 .bf16 :=
  View.ld x5 (Rect.unit (s := S1x4352x128) ![0, o, 0] S1x1024x128.size h)
/-- The last 256 rows of the key block. -/
abbrev keysLast (x5 : Vec F S1x4352x128 .bf16) : Vec F S1x256x128 .bf16 :=
  View.ld x5 (Rect.unit (s := S1x4352x128) ![0, 4096, 0] S1x256x128.size inb_S1x4352x128_S1x256x128_0_4096_0)
/-- Columns `o … o + 1023` of the value block. -/
abbrev vals (x6 : Vec F S1x128x4352 .bf16) (o : Nat) (h : ∀ a, (![0, 0, o] : Fin 3 → Nat) a + S1x128x1024.size a ≤ S1x128x4352.size a) : Vec F S1x128x1024 .bf16 :=
  View.ld x6 (Rect.unit (s := S1x128x4352) ![0, 0, o] S1x128x1024.size h)
/-- The last 256 columns of the value block. -/
abbrev valsLast (x6 : Vec F S1x128x4352 .bf16) : Vec F S1x128x256 .bf16 :=
  View.ld x6 (Rect.unit (s := S1x128x4352) ![0, 0, 4096] S1x128x256.size inb_S1x128x4352_S1x128x256_0_0_4096)

/-- The two halves of the latents' queries, stacked. -/
def qcat (x1 x2 x3 x4 : Vec F S1x256x128 .f32) : FVec F S2048x128 .bf16 :=
  k0_pay1 (k0_pay24 x1 x2 x3 x4) k0_pay25 (Scalar.ofBits .bf16 0x0000#16)

/-- What the branch without the running maximum stores. -/
def outU (l : FVec F S1x1 .f32) (q : FVec F S2048x128 .bf16) (x5 : Vec F S1x4352x128 .bf16) (x6 : Vec F S1x128x4352 .bf16) (x7 : Vec F S128x1 .f32) : FVec F S1x1024x128 .bf16 :=
  let k0 := keys x5 0 inb_S1x4352x128_S1x1024x128_0_0_0
  let k1 := keys x5 1024 inb_S1x4352x128_S1x1024x128_0_1024_0
  let k2 := keys x5 2048 inb_S1x4352x128_S1x1024x128_0_2048_0
  let k3 := keys x5 3072 inb_S1x4352x128_S1x1024x128_0_3072_0
  let v0 := vals x6 0 inb_S1x128x4352_S1x128x1024_0_0_0
  let v1 := vals x6 1024 inb_S1x128x4352_S1x128x1024_0_0_1024
  let v2 := vals x6 2048 inb_S1x128x4352_S1x128x1024_0_0_2048
  let v3 := vals x6 3072 inb_S1x128x4352_S1x128x1024_0_0_3072
  k0_pay2 (k0_pay10 l q (k0_pay5 q k2) (k0_pay7 q k0 k1) (k0_pay8 q k0 k1 v0 v1) (k0_pay9 q k3) v2 (keysLast x5) v3 (valsLast x6))
    (k0_pay11 l q (k0_pay5 q k2) (k0_pay7 q k0 k1) (k0_pay8 q k0 k1 v0 v1) (k0_pay9 q k3) v2 (keysLast x5) v3 (valsLast x6)) x7

/-- What the branch with the maximum subtracted stores. -/
def outP (l : FVec F S1x1 .f32) (q : FVec F S2048x128 .bf16) (x5 : Vec F S1x4352x128 .bf16) (x6 : Vec F S1x128x4352 .bf16) (x7 : Vec F S128x1 .f32) : FVec F S1x1024x128 .bf16 :=
  let k0 := keys x5 0 inb_S1x4352x128_S1x1024x128_0_0_0
  let k1 := keys x5 1024 inb_S1x4352x128_S1x1024x128_0_1024_0
  let k2 := keys x5 2048 inb_S1x4352x128_S1x1024x128_0_2048_0
  let k3 := keys x5 3072 inb_S1x4352x128_S1x1024x128_0_3072_0
  let v0 := vals x6 0 inb_S1x128x4352_S1x128x1024_0_0_0
  let v1 := vals x6 1024 inb_S1x128x4352_S1x128x1024_0_0_1024
  let v2 := vals x6 2048 inb_S1x128x4352_S1x128x1024_0_0_2048
  let v3 := vals x6 3072 inb_S1x128x4352_S1x128x1024_0_0_3072
  let mx := k0_pay12 q k0 k1 k2 k3 (keysLast x5)
  let z : F .f32 := Scalar.ofBits .f32 0x00000000#32
  let zz : FVec F S1024x2048 .f32 := constant S1024x2048 .f32 0x00000000#32
  k0_pay3 l (k0_pay21 q mx (k0_pay15 q k2) (k0_pay17 q mx k0_pay13 k0 k1) (k0_pay18 q mx z k0 k1 v0 v1) (k0_pay19 k3) zz v2 (keysLast x5) v3 (valsLast x6))
    (k0_pay22 q mx (k0_pay15 q k2) (k0_pay17 q mx k0_pay13 k0 k1) (k0_pay18 q mx z k0 k1 v0 v1) (k0_pay19 k3) zz v2 (keysLast x5) v3 (valsLast x6)) x7

/-- What the body stores: the table's word chooses the branch. -/
def out (w : BitVec 32) (x0 : Vec F S4x64 .f32) (x1 : Vec F S1x256x128 .f32) (x2 : Vec F S1x256x128 .f32) (x3 : Vec F S1x256x128 .f32) (x4 : Vec F S1x256x128 .f32) (x5 : Vec F S1x4352x128 .bf16) (x6 : Vec F S1x128x4352 .bf16) (x7 : Vec F S128x1 .f32) : Vec F S1x1024x128 .bf16 :=
  if k0_cond1 w = 1#1 then outU (k0_pay23 x0) (qcat x1 x2 x3 x4) x5 x6 x7 else outP (k0_pay23 x0) (qcat x1 x2 x3 x4) x5 x6 x7

/-- The two branches' conditions are complementary. -/
theorem conds (w : BitVec 32) : k0_cond2 w = 1#1 ↔ ¬ k0_cond1 w = 1#1 := by
  unfold k0_cond1 k0_cond2
  by_cases h : w = 1#32
  · subst h; decide
  · have h1 : (w != 1#32) = true := by simpa using h
    have h2 : (w == 1#32) = false := by simpa using h
    simp only [Scalar.cmpi, Scalar.extui, IntOp.cmpi, h1, h2]; decide

/-- The word the body reads. -/
abbrev word (c : Dev nD) (xt : TBuf (F := F) c tm) : BitVec 32 :=
  (tm.view.readAt (Elt F) (Rect.unit (s := S1) ![0] S1.size inb_S1_S1_0).toLoadRect xt) (fun a => ⟨0, by revert a; decide⟩)

/-- One store of the whole block leaves its payload, whatever the buffer held. -/
theorem read_store {sig' : RefSig} {κ : Kind} {sp : Space} (v : View sig' κ sp S1x1024x128 .bf16) (f : v.ty.Contents (Elt F)) (p : Vec F S1x1024x128 .bf16) :
    v.read (Elt F) (v.writes (Elt F) f [⟨Rect.unit (s := S1x1024x128) ![0, 0, 0] S1x1024x128.size inb_S1x1024x128_S1x1024x128_0_0_0, p⟩]) = p :=
  (View.read_writes_of_cover v f v v.junk _ fun y => View.cover_of_tiledL _ S1x1024x128.size (by sl_kernel_rfl) y).trans (by
    rw [View.read_writes_junk_eq_canon]; exact View.canon_cons_unit_lit' _ _ _ (by decide))

set_option maxHeartbeats 4000000 in
/-- The body's run: the input blocks and the word as they were, the output block at what its branch stores. -/
theorem run (c : Dev nD) (i : grid0.Coords) (a0 : Memref sig .tc .vmem S4x64 .f32) (h0 : a0.IsWhole) (a1 : Memref sig .tc .vmem S1x256x128 .f32) (h1 : a1.IsWhole) (a2 : Memref sig .tc .vmem S1x256x128 .f32) (h2 : a2.IsWhole) (a3 : Memref sig .tc .vmem S1x256x128 .f32) (h3 : a3.IsWhole) (a4 : Memref sig .tc .vmem S1x256x128 .f32) (h4 : a4.IsWhole) (a5 : Memref sig .tc .vmem S1x4352x128 .bf16) (h5 : a5.IsWhole) (a6 : Memref sig .tc .vmem S1x128x4352 .bf16) (h6 : a6.IsWhole) (a7 : Memref sig .tc .vmem S128x1 .f32) (h7 : a7.IsWhole) (a8 : Memref sig .tc .vmem S1x1024x128 .bf16) (h8 : a8.IsWhole)
    (x0 : Vec F S4x64 .f32) (x1 : Vec F S1x256x128 .f32) (x2 : Vec F S1x256x128 .f32) (x3 : Vec F S1x256x128 .f32) (x4 : Vec F S1x256x128 .f32) (x5 : Vec F S1x4352x128 .bf16) (x6 : Vec F S1x128x4352 .bf16) (x7 : Vec F S128x1 .f32) (xt : TBuf (F := F) c tm) (E : Set ℕ) (K : PUnit → sProp 𝕄) :
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ tHeld c tm xt
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out (word c xt) x0 x1 x2 x3 x4 x5 x6 x7) ∗ tHeld c tm xt) -∗ K ⟨⟩))
          ⊢ wp frame (wpE (defs₀ (F := F)) Variants.none c none) E (cc0_daattn i tm htm a0 h0 a1 h1 a2 h2 a3 h3 a4 h4 a5 h5 a6 h6 a7 h7 a8 h8) K := by
    simp only [cc0_daattn_eq_skeleton]; unfold cc0_daattn_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr
      swap; · iexact H8
      ipureintro
      by_cases hw : k0_cond1 (run.sl.r_2 c xt) = 1#1
      · rw [dif_neg (fun h => (conds _).mp h hw), dif_pos hw]
        refine (read_store _ _ _).trans (Eq.trans ?_ (if_pos hw).symm)
        unfold outU qcat
        frame_open
        simp (disch := decide) only [View.ld_unit_lit', View.readAt_eq_ld, Memref.IsWhole.read_unread]
      · rw [dif_pos ((conds _).mpr hw)]
        refine (read_store _ _ _).trans (Eq.trans ?_ (if_neg hw).symm)
        unfold outP qcat
        frame_open
        simp (disch := decide) only [View.ld_unit_lit', View.readAt_eq_ld, Memref.IsWhole.read_unread]
    iexact HT

end Cert.Kernel5Ideal.Att

end
-- ==== Proof.Att5IdealFrame.lean ====
module

public import proofs.«01_k».proof.Proof.Att5IdealRun

/-! The attention's frame: @main up to the kernel call, the pipeline's proof data, the body at every grid point, and the run
   of @main to its end. -/

@[expose] public section

set_option maxRecDepth 16384

noncomputable section

namespace Cert.Kernel5Ideal.Att

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel is called: the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem main_upTo : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ops_fresh main_chain

/-- A buffer that no host operation writes is at the call what it was at launch. -/
theorem V_of (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg4 (c : Dev nD) : V m c main_arg4 = m ((c : Thread nD τ).loc main_arg4) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg5 (c : Dev nD) : V m c main_arg5 = m ((c : Thread nD τ).loc main_arg5) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg6 (c : Dev nD) : V m c main_arg6 = m ((c : Thread nD τ).loc main_arg6) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))

/-- The prefetched word's buffer at the call (the program runs on one device). -/
def words : pre0.Contents (Elt F) := fun j => V m (0 : Dev nD) (pre0.ref j)
theorem V_words (c : Dev nD) (j : Fin 1) : V m c (pre0.ref j) = words m j := by
  obtain rfl : c = 0 := Subsingleton.elim _ _; rfl
/-- No index map reads the word: every contents is admissible. -/
theorem allOk : ok0 (F := F) (words m) := by first | trivial | exact ⟨⟩ | decide
abbrev admT : (pcfg0 (F := F)).Adm := ⟨words m, allOk m⟩
abbrev cfgT : Pipeline.Cfg sig Λ₀ := cfg0 (admT m)

theorem tables_eq (c : Dev nD) : (Pipeline.ΦT pre0 (words m) c : sProp 𝕄) = iprop(tHeld c tm (words m 0)) := by
  unfold Pipeline.ΦT Pipeline.prefHeld
  rw [show (Finset.univ : Finset (Fin 1)) = {(0 : Fin 1)} from by decide, bigSep_singleton]
  rfl

/-- Window `w`'s block at point `t`. -/
def blkAt (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

abbrev st0 (t : Fin (cfgT m).N) : Memref sig .tc .vmem S4x64 .f32 := spec0_0.stage ((cfgT m).slots t 0)
abbrev hst0 (t : Fin (cfgT m).N) : (st0 m t).IsWhole := hstage0_0 (((cfgT m).slots t 0).cast nbuf0_0)
abbrev st1 (t : Fin (cfgT m).N) : Memref sig .tc .vmem S1x256x128 .f32 := spec0_1.stage ((cfgT m).slots t 1)
abbrev hst1 (t : Fin (cfgT m).N) : (st1 m t).IsWhole := hstage0_1 (((cfgT m).slots t 1).cast nbuf0_1)
abbrev st2 (t : Fin (cfgT m).N) : Memref sig .tc .vmem S1x256x128 .f32 := spec0_2.stage ((cfgT m).slots t 2)
abbrev hst2 (t : Fin (cfgT m).N) : (st2 m t).IsWhole := hstage0_2 (((cfgT m).slots t 2).cast nbuf0_2)
abbrev st3 (t : Fin (cfgT m).N) : Memref sig .tc .vmem S1x256x128 .f32 := spec0_3.stage ((cfgT m).slots t 3)
abbrev hst3 (t : Fin (cfgT m).N) : (st3 m t).IsWhole := hstage0_3 (((cfgT m).slots t 3).cast nbuf0_3)
abbrev st4 (t : Fin (cfgT m).N) : Memref sig .tc .vmem S1x256x128 .f32 := spec0_4.stage ((cfgT m).slots t 4)
abbrev hst4 (t : Fin (cfgT m).N) : (st4 m t).IsWhole := hstage0_4 (((cfgT m).slots t 4).cast nbuf0_4)
abbrev st5 (t : Fin (cfgT m).N) : Memref sig .tc .vmem S1x4352x128 .bf16 := spec0_5.stage ((cfgT m).slots t 5)
abbrev hst5 (t : Fin (cfgT m).N) : (st5 m t).IsWhole := hstage0_5 (((cfgT m).slots t 5).cast nbuf0_5)
abbrev st6 (t : Fin (cfgT m).N) : Memref sig .tc .vmem S1x128x4352 .bf16 := spec0_6.stage ((cfgT m).slots t 6)
abbrev hst6 (t : Fin (cfgT m).N) : (st6 m t).IsWhole := hstage0_6 (((cfgT m).slots t 6).cast nbuf0_6)
abbrev st7 (t : Fin (cfgT m).N) : Memref sig .tc .vmem S128x1 .f32 := spec0_7.stage ((cfgT m).slots t 7)
abbrev hst7 (t : Fin (cfgT m).N) : (st7 m t).IsWhole := hstage0_7 (((cfgT m).slots t 7).cast nbuf0_7)
abbrev st8 (t : Fin (cfgT m).N) : Memref sig .tc .vmem S1x1024x128 .bf16 := spec0_8.stage ((cfgT m).slots t 8)
abbrev hst8 (t : Fin (cfgT m).N) : (st8 m t).IsWhole := hstage0_8 (((cfgT m).slots t 8).cast nbuf0_8)

/-- What the output's staging buffer holds after point `t`. -/
def outAt (c : Dev nD) (t : Fin (cfgT m).N) : Vec F S1x1024x128 .bf16 := out (word c (words m 0)) (blkAt m c 0 t) (blkAt m c 1 t) (blkAt m c 2 t) (blkAt m c 3 t) (blkAt m c 4 t) (blkAt m c 5 t) (blkAt m c 6 t) (blkAt m c 7 t)

/-- The pipeline's proof data. -/
def dat (_ : Fin 1) (c : Dev nD) : Dat τ (Elt F) Unit ℕ (UR sig nD τ) ℕ (cfgT m) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => blkAt m c 6 t
    | ⟨7, _⟩ => blkAt m c 7 t
    | ⟨8, _⟩ => outAt m c t
  Φ _ := iprop(Pipeline.ΦA spec0 c ∗ Pipeline.ΦT pre0 (words m) c)
  q w := Pipeline.shareOf spec0 w
  owed _ := 0

theorem dat_A (c : Dev nD) (w : Fin (cfgT m).W) : (dat m 0 c).A w = V m c (Pipeline.arrRef spec0 w) := by dsimp only [dat]

theorem after0 (c : Dev nD) (t : Fin (cfgT m).N) : (dat m 0 c).after 0 t = blkAt m c 0 t := by dsimp only [dat]; try rfl
theorem after1 (c : Dev nD) (t : Fin (cfgT m).N) : (dat m 0 c).after 1 t = blkAt m c 1 t := by dsimp only [dat]; try rfl
theorem after2 (c : Dev nD) (t : Fin (cfgT m).N) : (dat m 0 c).after 2 t = blkAt m c 2 t := by dsimp only [dat]; try rfl
theorem after3 (c : Dev nD) (t : Fin (cfgT m).N) : (dat m 0 c).after 3 t = blkAt m c 3 t := by dsimp only [dat]; try rfl
theorem after4 (c : Dev nD) (t : Fin (cfgT m).N) : (dat m 0 c).after 4 t = blkAt m c 4 t := by dsimp only [dat]; try rfl
theorem after5 (c : Dev nD) (t : Fin (cfgT m).N) : (dat m 0 c).after 5 t = blkAt m c 5 t := by dsimp only [dat]; try rfl
theorem after6 (c : Dev nD) (t : Fin (cfgT m).N) : (dat m 0 c).after 6 t = blkAt m c 6 t := by dsimp only [dat]; try rfl
theorem after7 (c : Dev nD) (t : Fin (cfgT m).N) : (dat m 0 c).after 7 t = blkAt m c 7 t := by dsimp only [dat]; try rfl
theorem after8 (c : Dev nD) (t : Fin (cfgT m).N) : (dat m 0 c).after 8 t = outAt m c t := by dsimp only [dat]; try rfl

/-- An input window's buffer holds its block at every point, fetched there or not. -/
theorem before0 (c : Dev nD) (t : Fin (cfgT m).N) (d) : (dat m 0 c).before 0 t d = blkAt m c 0 t :=
  ((dat m 0 c).before_in_eq_fetched 0 rfl (fun _ => rfl) (fun _ _ _ => rfl) (fun t => by rw [after0]; unfold Dat.blockOf blkAt; rw [dat_A]; try rfl) t d).trans
    (by unfold Dat.fetched Dat.blockOf blkAt; rw [dat_A]; try rfl)
theorem before1 (c : Dev nD) (t : Fin (cfgT m).N) (d) : (dat m 0 c).before 1 t d = blkAt m c 1 t :=
  ((dat m 0 c).before_in_eq_fetched 1 rfl (fun _ => rfl) (fun _ _ _ => rfl) (fun t => by rw [after1]; unfold Dat.blockOf blkAt; rw [dat_A]; try rfl) t d).trans
    (by unfold Dat.fetched Dat.blockOf blkAt; rw [dat_A]; try rfl)
theorem before2 (c : Dev nD) (t : Fin (cfgT m).N) (d) : (dat m 0 c).before 2 t d = blkAt m c 2 t :=
  ((dat m 0 c).before_in_eq_fetched 2 rfl (fun _ => rfl) (fun _ _ _ => rfl) (fun t => by rw [after2]; unfold Dat.blockOf blkAt; rw [dat_A]; try rfl) t d).trans
    (by unfold Dat.fetched Dat.blockOf blkAt; rw [dat_A]; try rfl)
theorem before3 (c : Dev nD) (t : Fin (cfgT m).N) (d) : (dat m 0 c).before 3 t d = blkAt m c 3 t :=
  ((dat m 0 c).before_in_eq_fetched 3 rfl (fun _ => rfl) (fun _ _ _ => rfl) (fun t => by rw [after3]; unfold Dat.blockOf blkAt; rw [dat_A]; try rfl) t d).trans
    (by unfold Dat.fetched Dat.blockOf blkAt; rw [dat_A]; try rfl)
theorem before4 (c : Dev nD) (t : Fin (cfgT m).N) (d) : (dat m 0 c).before 4 t d = blkAt m c 4 t :=
  ((dat m 0 c).before_in_eq_fetched 4 rfl (fun _ => rfl) (fun _ _ _ => rfl) (fun t => by rw [after4]; unfold Dat.blockOf blkAt; rw [dat_A]; try rfl) t d).trans
    (by unfold Dat.fetched Dat.blockOf blkAt; rw [dat_A]; try rfl)
theorem before5 (c : Dev nD) (t : Fin (cfgT m).N) (d) : (dat m 0 c).before 5 t d = blkAt m c 5 t :=
  ((dat m 0 c).before_in_eq_fetched 5 rfl (fun _ => rfl) (fun _ _ _ => rfl) (fun t => by rw [after5]; unfold Dat.blockOf blkAt; rw [dat_A]; try rfl) t d).trans
    (by unfold Dat.fetched Dat.blockOf blkAt; rw [dat_A]; try rfl)
theorem before6 (c : Dev nD) (t : Fin (cfgT m).N) (d) : (dat m 0 c).before 6 t d = blkAt m c 6 t :=
  ((dat m 0 c).before_in_eq_fetched 6 rfl (fun _ => rfl) (fun _ _ _ => rfl) (fun t => by rw [after6]; unfold Dat.blockOf blkAt; rw [dat_A]; try rfl) t d).trans
    (by unfold Dat.fetched Dat.blockOf blkAt; rw [dat_A]; try rfl)
theorem before7 (c : Dev nD) (t : Fin (cfgT m).N) (d) : (dat m 0 c).before 7 t d = blkAt m c 7 t :=
  ((dat m 0 c).before_in_eq_fetched 7 rfl (fun _ => rfl) (fun _ _ _ => rfl) (fun t => by rw [after7]; unfold Dat.blockOf blkAt; rw [dat_A]; try rfl) t d).trans
    (by unfold Dat.fetched Dat.blockOf blkAt; rw [dat_A]; try rfl)

/-- The body at point `t`. -/
abbrev bodyT (t : Fin (cfgT m).N) : Prog (TpuEff nD τ sig (Elt F) Λ₀ .tc) PUnit := cc0_daattn (grid0.coords t) tm htm (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t)

set_option maxHeartbeats 1600000 in
/-- The body at any point, from the input blocks to the stored output block. -/
theorem body_at (c : Dev nD) (t : Fin (cfgT m).N) :
    iprop((dat m 0 c).Φ t.castSucc ∗ (dat m 0 c).owesAt () t.castSucc ∗ (∃ d, owns (c : Thread nD τ) (st0 m t) fullShare ((dat m 0 c).before 0 t d)) ∗ (∃ d, owns (c : Thread nD τ) (st1 m t) fullShare ((dat m 0 c).before 1 t d)) ∗ (∃ d, owns (c : Thread nD τ) (st2 m t) fullShare ((dat m 0 c).before 2 t d)) ∗ (∃ d, owns (c : Thread nD τ) (st3 m t) fullShare ((dat m 0 c).before 3 t d)) ∗ (∃ d, owns (c : Thread nD τ) (st4 m t) fullShare ((dat m 0 c).before 4 t d)) ∗ (∃ d, owns (c : Thread nD τ) (st5 m t) fullShare ((dat m 0 c).before 5 t d)) ∗ (∃ d, owns (c : Thread nD τ) (st6 m t) fullShare ((dat m 0 c).before 6 t d)) ∗ (∃ d, owns (c : Thread nD τ) (st7 m t) fullShare ((dat m 0 c).before 7 t d)) ∗ (∃ d, owns (c : Thread nD τ) (st8 m t) fullShare ((dat m 0 c).before 8 t d)))
      ⊢ wp frame (wpE (defs₀ (F := F)) Variants.none c none) Set.univ (bodyT m t) (fun _ =>
        iprop((dat m 0 c).Φ t.succ ∗ (dat m 0 c).owesAt () t.succ ∗ owns (c : Thread nD τ) (st0 m t) fullShare ((dat m 0 c).after 0 t) ∗ owns (c : Thread nD τ) (st1 m t) fullShare ((dat m 0 c).after 1 t) ∗ owns (c : Thread nD τ) (st2 m t) fullShare ((dat m 0 c).after 2 t) ∗ owns (c : Thread nD τ) (st3 m t) fullShare ((dat m 0 c).after 3 t) ∗ owns (c : Thread nD τ) (st4 m t) fullShare ((dat m 0 c).after 4 t) ∗ owns (c : Thread nD τ) (st5 m t) fullShare ((dat m 0 c).after 5 t) ∗ owns (c : Thread nD τ) (st6 m t) fullShare ((dat m 0 c).after 6 t) ∗ owns (c : Thread nD τ) (st7 m t) fullShare ((dat m 0 c).after 7 t) ∗ owns (c : Thread nD τ) (st8 m t) fullShare ((dat m 0 c).after 8 t))) := by
  unfold bodyT
  simp only [before0, before1, before2, before3, before4, before5, before6, before7]
  rw [show (dat m 0 c).Φ t.succ = (dat m 0 c).Φ t.castSucc from rfl,
    show (dat m 0 c).owesAt () t.succ = (dat m 0 c).owesAt () t.castSucc from rfl,
    after0, after1, after2, after3, after4, after5, after6, after7, after8]
  rw [show (dat m 0 c).Φ t.castSucc = iprop(Pipeline.ΦA spec0 c ∗ Pipeline.ΦT pre0 (words m) c) from rfl, tables_eq]
  unfold outAt
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) (st0 m t) (hst0 m t) (st1 m t) (hst1 m t) (st2 m t) (hst2 m t) (st3 m t) (hst3 m t) (st4 m t) (hst4 m t) (st5 m t) (hst5 m t) (st6 m t) (hst6 m t) (st7 m t) (hst7 m t) (st8 m t) (hst8 m t) (blkAt m c 0 t) (blkAt m c 1 t) (blkAt m c 2 t) (blkAt m c 3 t) (blkAt m c 4 t) (blkAt m c 5 t) (blkAt m c 6 t) (blkAt m c 7 t) (words m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT]; · iexact HT
  iintro ⟨H0, H1, H2, H3, H4, H5, H6, H7, H8, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin (cfgT m).N) :
    defs₀ (F := F) .tc (cfgT m).body ((cfgT m).bodyArgs t ((cfgT m).slots t)) = bodyT m t := by
  unfold defs₀; rw [Defs.onTc_tc]

/-- The output is stored at every point: one of the two branches runs. -/
theorem live_word (w : BitVec 32) : (!(k0_cond1 w == 1#1) && !(k0_cond2 w == 1#1)) = false := by
  by_cases h : k0_cond1 w = 1#1
  · simp [h]
  · simp [(conds _).mpr h]
theorem live_any (pf : pre0.Contents (Elt F)) (i : grid0.Coords) : idle0 pf 8 i = false := live_word (pf.atD 0 ![0])
theorem live8 (a : (pcfg0 (F := F)).Adm) (i : grid0.Coords) : (cfg0 a).idle 8 i = false := live_any a.1 i

theorem leaves8 (a : (pcfg0 (F := F)).Adm) (c : Dev nD) (d : Dat τ (Elt F) Unit ℕ (UR sig nD τ) ℕ (cfg0 a) c) (t : Fin (cfg0 a).N) :
    owns (c : Thread nD τ) (((cfg0 a).win 8).stage ((cfg0 a).slots t 8)) fullShare (d.after 8 t) ⊢ (d.leavesExact 8 t : sProp 𝕄) := by
  unfold Dat.leavesExact
  rw [live8]

set_option maxHeartbeats 4000000 in
theorem body_ok (c : Dev nD) : BodyObligation (dat (F := F) m 0 c) (defs₀ (F := F)) Variants.none () Set.univ := fun t => by
  rw [bigSep_W0, bigSep_W0, row_eq m]
  exact triple_restated (body_at m c t) rfl .rfl fun _ =>
    sep_mono .rfl (sep_mono .rfl (sep_mono .rfl (sep_mono .rfl (sep_mono .rfl (sep_mono .rfl (sep_mono .rfl (sep_mono .rfl (sep_mono .rfl (sep_mono .rfl (leaves8 (admT m) c (dat m 0 c) t))))))))))

set_option maxHeartbeats 4000000 in
set_option backward.isDefEq.respectTransparency.types false in
/-- @main runs to its end, every array of the call at what the proof data say and every other buffer as it was at the call,
    and every counter at zero again. -/
theorem runs_quiet : θ_run defs (onTc (τ := τ) (main (F := F))) (s₀ m ρ) (fun r => Pipeline.FramePost (Pipeline.pin pcfgs fun _ => admT m) (dat m) 0 (V m) r ∧ r.2.sem = fun _ => 0) :=
  Pipeline.θ_run_frameP_shared (Q' := _) pcfgs (fun _ => admT m) (dat m) (0 : Fin 1) launch₀0 defs₀ Variants.none m ρ main
    (hbody := fun c => (body_ok m c).loose) (hq := fun _ _ _ => rfl)
    (howed := fun _ _ => rfl) (V := V m) (hmain := main_upTo m) (hA := dat_A m) (hpf := V_words m)
    (hΦ := fun _ _ => rfl)

theorem runs : θ_run defs (onTc (τ := τ) (main (F := F))) (s₀ m ρ) (Pipeline.FramePost (Pipeline.pin pcfgs fun _ => admT m) (dat m) 0 (V m)) :=
  (θ_run defs _ _).mono (fun _ h => h.1) (runs_quiet m ρ)

/-- @main runs to its end, the output at what the proof data say and every argument as it was. -/
theorem runs_out : θ_run defs (onTc (τ := τ) (main (F := F))) ⟨m, fun _ => 0, ρ⟩ (fun r => ∀ c : Dev nD,
      r.2.mem ((c.tc : Thread nD τ).loc main_v13) = (dat m 0 c).arrAt 8 (cfgT m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 8,
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dat m 0 c).arrAt_in 0 rfl _).trans ((dat_A m c 0).trans (V_arg2 m c))),
      ((h c).1 1).trans (((dat m 0 c).arrAt_in 1 rfl _).trans ((dat_A m c 1).trans (V_arg3 m c))),
      ((h c).2 main_arg4 (by decide : main_arg4 ∈ Pipeline.restRefs sig spec0)).trans (V_arg4 m c),
      ((h c).2 main_arg5 (by decide : main_arg5 ∈ Pipeline.restRefs sig spec0)).trans (V_arg5 m c),
      ((h c).2 main_arg6 (by decide : main_arg6 ∈ Pipeline.restRefs sig spec0)).trans (V_arg6 m c)⟩) (runs m ρ)

/-- The frame: every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (runs_out m ρ)) ((θ_run defs _ _).mono (fun _ h => h.2) (runs_quiet m ρ))

end Cert.Kernel5Ideal.Att

end
-- ==== Proof.Att5Ref.lean ====
module

public import proofs.«01_k».proof.Proof.AttMath
public import proofs.«01_k».proof.Proof.Gen.Reference5Ideal.Run
public import Idealize.ShloMosaic.Lib.Pipeline.ValueKit
public import Idealize.ShloMosaic.Lib.Claim

/-! The reference's attention, in parts, and each part at a point. -/

@[expose] public section

set_option maxRecDepth 16384

noncomputable section

open Idealize.ShloMosaic Idealize.ShloMosaic.TcCoe Idealize.SL.Sem

namespace Cert.Reference5Ideal.Att

open Cert.Reference5Ideal Cert.Reference5Ideal.Gen

/-- The mixing weight, of its four vectors. -/
def LAM (L : FVec Ideal S4x64 .f32) : FVec Ideal S_ .f32 :=
  addf (subf (Host.exp (Host.reduceAdd (mulf (shapeCast S64 (extractStridedSlice S1x64 ![0, 0] L slices_S4x64_S1x64_0_0) shapeCasts_S1x64_S64) (shapeCast S64 (extractStridedSlice S1x64 ![1, 0] L slices_S4x64_S1x64_1_0) shapeCasts_S1x64_S64)) (constant S_ .f32 0x00000000#32) reducesTo_S64_S_d0 h_S_))
    (Host.exp (Host.reduceAdd (mulf (shapeCast S64 (extractStridedSlice S1x64 ![2, 0] L slices_S4x64_S1x64_2_0) shapeCasts_S1x64_S64) (shapeCast S64 (extractStridedSlice S1x64 ![3, 0] L slices_S4x64_S1x64_3_0) shapeCasts_S1x64_S64)) (constant S_ .f32 0x00000000#32) reducesTo_S64_S_d0 h_S_)))
    (constant S_ .f32 0x3EF1014C#32)

/-- The scores. -/
def SC (Q K : FVec Ideal S4x4352x1024 .f32) : FVec Ideal S4x8x2x4096x4352 .f32 :=
  mulf (Host.dotGeneral dot_S4x4096x8x2x64_S4x4352x8x2x64_S4x8x2x4096x4352_4_4_1_1_023_023 none
    (shapeCast S4x4096x8x2x64 (extractStridedSlice S4x4096x1024 ![0, 256, 0] Q slices_S4x4352x1024_S4x4096x1024_0_256_0) shapeCasts_S4x4096x1024_S4x4096x8x2x64)
    (shapeCast S4x4352x8x2x64 K shapeCasts_S4x4352x1024_S4x4352x8x2x64))
    (broadcastInDim S4x8x2x4096x4352 ![] bcast_S_S4x8x2x4096x4352 (constant S_ .f32 0x3E000000#32))

/-- Every row's maximum. -/
def MX (S : FVec Ideal S4x8x2x4096x4352 .f32) : FVec Ideal S4x8x2x4096 .f32 :=
  maximumf (broadcastInDim S4x8x2x4096 ![] bcast_S_S4x8x2x4096 (constant S_ .f32 0xFF800000#32))
    (Host.reduce FloatOps.maximumf S (constant S_ .f32 0xFF800000#32) reducesTo_S4x8x2x4096x4352_S4x8x2x4096_d4 h_S_)

/-- The weights before they are divided by their sum. -/
def EX (S : FVec Ideal S4x8x2x4096x4352 .f32) (M : FVec Ideal S4x8x2x4096 .f32) : FVec Ideal S4x8x2x4096x4352 .f32 :=
  Host.exp (subf S (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 M)))

/-- The weights. -/
def PR (E : FVec Ideal S4x8x2x4096x4352 .f32) : FVec Ideal S4x8x2x4096x4352 .f32 :=
  Host.divf E (broadcastInDim S4x8x2x4096x4352 ![0, 1, 2, 3, 4] bcast_S4x8x2x4096x1_S4x8x2x4096x4352_0_1_2_3_4 (broadcastInDim S4x8x2x4096x1 ![0, 1, 2, 3] bcast_S4x8x2x4096_S4x8x2x4096x1_0_1_2_3 (Host.reduceAdd E (constant S_ .f32 0x00000000#32) reducesTo_S4x8x2x4096x4352_S4x8x2x4096_d4 h_S_)))

/-- The first half's weights less the mixing weight times the second's. -/
def MIX (l : FVec Ideal S_ .f32) (P : FVec Ideal S4x8x2x4096x4352 .f32) : FVec Ideal S4x8x4096x4352 .f32 :=
  subf (shapeCast S4x8x4096x4352 (extractStridedSlice S4x8x1x4096x4352 ![0, 0, 0, 0, 0] P slices_S4x8x2x4096x4352_S4x8x1x4096x4352_0_0_0_0_0) shapeCasts_S4x8x1x4096x4352_S4x8x4096x4352)
    (mulf (broadcastInDim S4x8x4096x4352 ![] bcast_S_S4x8x4096x4352 l) (shapeCast S4x8x4096x4352 (extractStridedSlice S4x8x1x4096x4352 ![0, 0, 1, 0, 0] P slices_S4x8x2x4096x4352_S4x8x1x4096x4352_0_0_1_0_0) shapeCasts_S4x8x1x4096x4352_S4x8x4096x4352))

/-- The values, weighed. -/
def AV (V : FVec Ideal S4x4352x1024 .f32) (A : FVec Ideal S4x8x4096x4352 .f32) : FVec Ideal S4x4096x8x128 .f32 :=
  transpose S4x4096x8x128 [0, 3, 1, 2] (Host.dotGeneral dot_S4x4352x8x128_S4x8x4096x4352_S4x8x128x4096_1_3_3_2_02_01 none (shapeCast S4x4352x8x128 V shapeCasts_S4x4352x1024_S4x4352x8x128) A) transposes_S4x8x128x4096_S4x4096x8x128_0_3_1_2

/-- The norm over a head's lanes and the gain. -/
def NRM (o : FVec Ideal S4x4096x8x128 .f32) (g : FVec Ideal S128 .f32) : FVec Ideal S4x4096x8x128 .f32 :=
  mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 g)))
    (broadcastInDim S4x4096x8x128 ![] bcast_S_S4x4096x8x128 (constant S_ .f32 0x3F077F5A#32))

/-- The weights of a row of scores. -/
abbrev WT (Q K : FVec Ideal S4x4352x1024 .f32) : FVec Ideal S4x8x2x4096x4352 .f32 := EX (SC Q K) (MX (SC Q K))

/-- The reference's result, of its arguments. -/
def REF (L : FVec Ideal S4x64 .f32) (Q K V : FVec Ideal S4x4352x1024 .f32) (g : FVec Ideal S128 .f32) : FVec Ideal S4x4096x1024 .bf16 :=
  truncf .bf16 (shapeCast S4x4096x1024 (NRM (AV V (MIX (LAM L) (PR (WT Q K)))) g) shapeCasts_S4x4096x8x128_S4x4096x1024) bitsLt_bf16_f32

theorem res_eq (m : (ℓ : Loc nD τ sig) → Buf (Elt Ideal) ℓ) (c : Dev nD) :
    Cert.Reference5Ideal.Value.res_main_v59 m c = REF (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference5Ideal.Att

end
-- ==== Proof.Att5Pay.lean ====
module

public import proofs.«01_k».proof.Proof.AttMath
public import proofs.«01_k».proof.Proof.Att5IdealRun
public import Idealize.ShloMosaic.Lib.Pipeline.ValueKit

/-! What the attention's body stores, at a point, over the extended reals: its five key blocks joined to one sum. -/

@[expose] public section

set_option maxRecDepth 16384

noncomputable section

open Idealize.ShloMosaic Idealize.ShloMosaic.TcCoe Idealize.SL.Sem

namespace Cert.Kernel5Ideal.Att

open Cert.Kernel5Ideal Cert.Kernel5Ideal.Gen

/-- A sum over the keys, from its five blocks. -/
theorem blocks (f : Fin 4352 → EReal) :
    (∑ x : Fin 1024, f ⟨x.val, by omega⟩) + (∑ x : Fin 1024, f ⟨1024 + x.val, by omega⟩) + (∑ x : Fin 1024, f ⟨2048 + x.val, by omega⟩)
      + (∑ x : Fin 1024, f ⟨3072 + x.val, by omega⟩) + (∑ x : Fin 256, f ⟨4096 + x.val, by omega⟩) = ∑ x, f x := by
  have h : ∀ g : ℕ → EReal, ∑ x ∈ Finset.range 4352, g x = (∑ x ∈ Finset.range 1024, g x) + (∑ x ∈ Finset.range 1024, g (1024 + x))
      + (∑ x ∈ Finset.range 1024, g (2048 + x)) + (∑ x ∈ Finset.range 1024, g (3072 + x)) + (∑ x ∈ Finset.range 256, g (4096 + x)) := fun g => by
    rw [show 4352 = 4096 + 256 from rfl, Finset.sum_range_add, show 4096 = 3072 + 1024 from rfl, Finset.sum_range_add,
      show 3072 = 2048 + 1024 from rfl, Finset.sum_range_add, show 2048 = 1024 + 1024 from rfl, Finset.sum_range_add]
  have e := h fun n => if hn : n < 4352 then f ⟨n, hn⟩ else 0
  simp only [Finset.sum_range] at e
  refine Eq.trans ?_ (e.symm.trans ?_)
  · refine congrArg₂ (· + ·) (congrArg₂ (· + ·) (congrArg₂ (· + ·) (congrArg₂ (· + ·) ?_ ?_) ?_) ?_) ?_ <;>
      exact Finset.sum_congr rfl fun x _ => by rw [dif_pos (by omega)]
  · exact Finset.sum_congr rfl fun x _ => by rw [dif_pos x.isLt]

/-- The score of key `j` and stacked query `r`. -/
def sc (q : FVec Ideal S2048x128 .bf16) (x5 : Vec Ideal S1x4352x128 .bf16) (j : Fin 4352) (r : Fin 2048) : EReal :=
  ∑ d : Fin 128, x5 (ix3 0 j d) * q (ix2 r d)

/-- The two halves' averages and their difference, at lane `e` and query `r`, of the weights `w`. -/
def mixO (w : Fin 4352 → Fin 2048 → EReal) (l : EReal) (x6 : Vec Ideal S1x128x4352 .bf16) (e : Fin 128) (r : Fin 1024) : EReal :=
  Ideal.div (∑ j, x6 (ix3 0 e j) * w j ⟨r.val, by omega⟩) (∑ j, w j ⟨r.val, by omega⟩)
    - l * Ideal.div (∑ j, x6 (ix3 0 e j) * w j ⟨1024 + r.val, by omega⟩) (∑ j, w j ⟨1024 + r.val, by omega⟩)

/-- The norm over the lanes and the gain. -/
def fin (o : Fin 128 → Fin 1024 → EReal) (x7 : Vec Ideal S128x1 .f32) (e : Fin 128) (r : Fin 1024) : EReal :=
  o e r * Ideal.rsqrt (Ideal.div (∑ x, o x r * o x r) (Ideal.ofBits .f32 0x43000000#32) + Ideal.ofBits .f32 0x358637BD#32)
    * x7 (ix2 e 0) * Ideal.ofBits .f32 0x3F077F5A#32

/-- The weights of the branch without the running maximum. -/
def wU (q : FVec Ideal S2048x128 .bf16) (x5 : Vec Ideal S1x4352x128 .bf16) (j : Fin 4352) (r : Fin 2048) : EReal :=
  FloatOps.exp2 (F := Ideal) (φ := .f32) (sc q x5 j r)

/-- The weights of the branch with the maximum subtracted. -/
def wP (q : FVec Ideal S2048x128 .bf16) (x5 : Vec Ideal S1x4352x128 .bf16) (mx : FVec Ideal S1x2048 .f32) (j : Fin 4352) (r : Fin 2048) : EReal :=
  FloatOps.exp2 (F := Ideal) (φ := .f32) (sc q x5 j r - mx (ix2 0 r))

theorem o_U (l : FVec Ideal S1x1 .f32) (q : FVec Ideal S2048x128 .bf16) (x5 : Vec Ideal S1x4352x128 .bf16) (x6 : Vec Ideal S1x128x4352 .bf16) (y : S128x1024.Idx) :
    k0_pay10 (F := Ideal) l q (k0_pay5 q (keys x5 2048 inb_S1x4352x128_S1x1024x128_0_2048_0))
      (k0_pay7 q (keys x5 0 inb_S1x4352x128_S1x1024x128_0_0_0) (keys x5 1024 inb_S1x4352x128_S1x1024x128_0_1024_0))
      (k0_pay8 q (keys x5 0 inb_S1x4352x128_S1x1024x128_0_0_0) (keys x5 1024 inb_S1x4352x128_S1x1024x128_0_1024_0)
        (vals x6 0 inb_S1x128x4352_S1x128x1024_0_0_0) (vals x6 1024 inb_S1x128x4352_S1x128x1024_0_0_1024))
      (k0_pay9 q (keys x5 3072 inb_S1x4352x128_S1x1024x128_0_3072_0))
      (vals x6 2048 inb_S1x128x4352_S1x128x1024_0_0_2048) (keysLast x5) (vals x6 3072 inb_S1x128x4352_S1x128x1024_0_0_3072) (valsLast x6) y
      = mixO (wU q x5) (l (ix2 0 0)) x6 (y 0) (y 1) := by
  unfold mixO
  simp only [← blocks]
  unfold wU sc
  pointwise [k0_pay10, k0_pay8, k0_pay7, k0_pay5, k0_pay9, k0_pay4, k0_pay6, keys, keysLast, vals, valsLast]

theorem o_P (q : FVec Ideal S2048x128 .bf16) (mx : FVec Ideal S1x2048 .f32) (x5 : Vec Ideal S1x4352x128 .bf16) (x6 : Vec Ideal S1x128x4352 .bf16) (y : S128x2048.Idx) :
    k0_pay20 (F := Ideal) q mx (k0_pay15 q (keys x5 2048 inb_S1x4352x128_S1x1024x128_0_2048_0))
      (k0_pay17 q mx k0_pay13 (keys x5 0 inb_S1x4352x128_S1x1024x128_0_0_0) (keys x5 1024 inb_S1x4352x128_S1x1024x128_0_1024_0))
      (k0_pay18 q mx (Scalar.ofBits .f32 0x00000000#32) (keys x5 0 inb_S1x4352x128_S1x1024x128_0_0_0) (keys x5 1024 inb_S1x4352x128_S1x1024x128_0_1024_0)
        (vals x6 0 inb_S1x128x4352_S1x128x1024_0_0_0) (vals x6 1024 inb_S1x128x4352_S1x128x1024_0_0_1024))
      (k0_pay19 (keys x5 3072 inb_S1x4352x128_S1x1024x128_0_3072_0)) (constant S1024x2048 .f32 0x00000000#32)
      (vals x6 2048 inb_S1x128x4352_S1x128x1024_0_0_2048) (keysLast x5) (vals x6 3072 inb_S1x128x4352_S1x128x1024_0_0_3072) (valsLast x6) y
      = Ideal.div (∑ j, x6 (ix3 0 (y 0) j) * wP q x5 mx j (y 1)) (∑ j, wP q x5 mx j (y 1)) := by
  simp only [← blocks]
  unfold wP sc
  pointwise [k0_pay20, k0_pay18, k0_pay17, k0_pay15, k0_pay19, k0_pay14, k0_pay16, k0_pay13, keys, keysLast, vals, valsLast]

theorem pay2_at (o : FVec Ideal S128x1024 .f32) (s : FVec Ideal S1x1024 .f32) (x7 : FVec Ideal S128x1 .f32) (y : S1x1024x128.Idx) :
    k0_pay2 (F := Ideal) o s x7 y = o (ix2 (y 2) (y 1)) * Ideal.rsqrt (Ideal.div (s (ix2 0 (y 1))) (Ideal.ofBits .f32 0x43000000#32) + Ideal.ofBits .f32 0x358637BD#32)
      * x7 (ix2 (y 2) 0) * Ideal.ofBits .f32 0x3F077F5A#32 := by
  pointwise [k0_pay2]

theorem pay11_at (l : FVec Ideal S1x1 .f32) (q : FVec Ideal S2048x128 .bf16) (a : FVec Ideal S1024x2048 .f32) (b : FVec Ideal S1x2048 .f32) (c : FVec Ideal S128x2048 .f32) (d : FVec Ideal S1024x2048 .f32)
    (v2 : Vec Ideal S1x128x1024 .bf16) (kl : Vec Ideal S1x256x128 .bf16) (v3 : Vec Ideal S1x128x1024 .bf16) (vl : Vec Ideal S1x128x256 .bf16) (y : S1x1024.Idx) :
    k0_pay11 (F := Ideal) l q a b c d v2 kl v3 vl y = ∑ x : Fin 128, k0_pay10 (F := Ideal) l q a b c d v2 kl v3 vl (ix2 x (y 1)) * k0_pay10 (F := Ideal) l q a b c d v2 kl v3 vl (ix2 x (y 1)) := by
  unfold k0_pay11
  generalize k0_pay10 (F := Ideal) l q a b c d v2 kl v3 vl = w
  pointwise []

theorem outU_at (l : FVec Ideal S1x1 .f32) (q : FVec Ideal S2048x128 .bf16) (x5 : Vec Ideal S1x4352x128 .bf16) (x6 : Vec Ideal S1x128x4352 .bf16) (x7 : Vec Ideal S128x1 .f32) (y : S1x1024x128.Idx) :
    outU l q x5 x6 x7 y = fin (mixO (wU q x5) (l (ix2 0 0)) x6) x7 (y 2) (y 1) := by
  unfold outU fin
  refine (pay2_at _ _ _ y).trans ?_
  refine congrArg (fun t => t * _ * _) (congrArg₂ (fun o s => o * Ideal.rsqrt (Ideal.div s _ + _)) (o_U l q x5 x6 (ix2 (y 2) (y 1))) ?_)
  refine (pay11_at ..).trans (Finset.sum_congr rfl fun x _ => ?_)
  exact congrArg₂ (· * ·) (o_U ..) (o_U ..)

theorem pay3_at (l : FVec Ideal S1x1 .f32) (o1 o2 : FVec Ideal S128x1024 .f32) (x7 : FVec Ideal S128x1 .f32) (y : S1x1024x128.Idx) :
    k0_pay3 (F := Ideal) l o1 o2 x7 y = fin (fun e r => o1 (ix2 e r) - l (ix2 0 0) * o2 (ix2 e r)) x7 (y 2) (y 1) := by
  pointwise [k0_pay3, fin]

theorem pay21_at (q : FVec Ideal S2048x128 .bf16) (mx : FVec Ideal S1x2048 .f32) (a : FVec Ideal S1024x2048 .f32) (b : FVec Ideal S1x2048 .f32) (d : FVec Ideal S128x2048 .f32) (k : FVec Ideal S1024x128 .bf16)
    (z : FVec Ideal S1024x2048 .f32) (v2 : Vec Ideal S1x128x1024 .bf16) (kl : Vec Ideal S1x256x128 .bf16) (v3 : Vec Ideal S1x128x1024 .bf16) (vl : Vec Ideal S1x128x256 .bf16) (y : S128x1024.Idx) :
    k0_pay21 (F := Ideal) q mx a b d k z v2 kl v3 vl y = k0_pay20 (F := Ideal) q mx a b d k z v2 kl v3 vl (ix2 (y 0) ⟨(y 1).val, by have := (y 1).isLt; change _ < 1024 at this; omega⟩) := by
  unfold k0_pay21
  generalize k0_pay20 (F := Ideal) q mx a b d k z v2 kl v3 vl = w
  pointwise []
theorem pay22_at (q : FVec Ideal S2048x128 .bf16) (mx : FVec Ideal S1x2048 .f32) (a : FVec Ideal S1024x2048 .f32) (b : FVec Ideal S1x2048 .f32) (d : FVec Ideal S128x2048 .f32) (k : FVec Ideal S1024x128 .bf16)
    (z : FVec Ideal S1024x2048 .f32) (v2 : Vec Ideal S1x128x1024 .bf16) (kl : Vec Ideal S1x256x128 .bf16) (v3 : Vec Ideal S1x128x1024 .bf16) (vl : Vec Ideal S1x128x256 .bf16) (y : S128x1024.Idx) :
    k0_pay22 (F := Ideal) q mx a b d k z v2 kl v3 vl y = k0_pay20 (F := Ideal) q mx a b d k z v2 kl v3 vl (ix2 (y 0) ⟨1024 + (y 1).val, by have := (y 1).isLt; change _ < 1024 at this; omega⟩) := by
  unfold k0_pay22
  generalize k0_pay20 (F := Ideal) q mx a b d k z v2 kl v3 vl = w
  pointwise []

/-- The maximum of each stacked query's scores. -/
def mxK (q : FVec Ideal S2048x128 .bf16) (x5 : Vec Ideal S1x4352x128 .bf16) : FVec Ideal S1x2048 .f32 :=
  k0_pay12 (F := Ideal) q (keys x5 0 inb_S1x4352x128_S1x1024x128_0_0_0) (keys x5 1024 inb_S1x4352x128_S1x1024x128_0_1024_0)
    (keys x5 2048 inb_S1x4352x128_S1x1024x128_0_2048_0) (keys x5 3072 inb_S1x4352x128_S1x1024x128_0_3072_0) (keysLast x5)

theorem outP_at (l : FVec Ideal S1x1 .f32) (q : FVec Ideal S2048x128 .bf16) (x5 : Vec Ideal S1x4352x128 .bf16) (x6 : Vec Ideal S1x128x4352 .bf16) (x7 : Vec Ideal S128x1 .f32) (y : S1x1024x128.Idx) :
    outP l q x5 x6 x7 y = fin (mixO (wP q x5 (mxK q x5)) (l (ix2 0 0)) x6) x7 (y 2) (y 1) := by
  unfold outP
  refine (pay3_at _ _ _ _ y).trans ?_
  refine congrArg (fun o => fin o x7 (y 2) (y 1)) (funext fun e => funext fun r => ?_)
  exact congrArg₂ (fun a b => a - l (ix2 0 0) * b) ((pay21_at ..).trans (o_P ..)) ((pay22_at ..).trans (o_P ..))

end Cert.Kernel5Ideal.Att

end
-- ==== Proof.Att5Max.lean ====
module

public import proofs.«01_k».proof.Proof.AttMax
public import proofs.«01_k».proof.Proof.Att5Ref
public import proofs.«01_k».proof.Proof.Att5Pay

/-! A maximum of real numbers, taken from minus infinity up, is a real number. -/

@[expose] public section

set_option maxRecDepth 16384

noncomputable section

open Idealize.ShloMosaic Idealize.ShloMosaic.TcCoe Idealize.SL.Sem

namespace Cert.Reference5Ideal.Att

open Cert.Reference5Ideal Cert.Reference5Ideal.Gen

theorem RD_real (S : FVec Ideal S4x8x2x4096x4352 .f32) (h : ∀ i, ∃ r : ℝ, S i = (r : EReal)) (j : S4x8x2x4096.Idx) :
    ∃ r : ℝ, Host.reduce (FloatOps.maximumf (F := Ideal) (φ := .f32)) S (constant S_ .f32 0xFF800000#32) reducesTo_S4x8x2x4096x4352_S4x8x2x4096_d4 h_S_ j = (r : EReal) :=
  Cert.Att.hostRed_real (n4 := 4352) (Nat.succ_pos _) S (constant S_ .f32 0xFF800000#32) (fun _ => Cert.Att.neg_inf) reducesTo_S4x8x2x4096x4352_S4x8x2x4096_d4 h_S_ h j

theorem MX_real (S : FVec Ideal S4x8x2x4096x4352 .f32) (h : ∀ i, ∃ r : ℝ, S i = (r : EReal)) (j : S4x8x2x4096.Idx) : ∃ r : ℝ, MX S j = (r : EReal) := by
  unfold MX
  exact Cert.Att.max_at_real _ _ j (.inl Cert.Att.neg_inf) (RD_real S h j)

end Cert.Reference5Ideal.Att

namespace Cert.Kernel5Ideal.Att

open Cert.Kernel5Ideal Cert.Kernel5Ideal.Gen

theorem red_real (v : FVec Ideal S1024x2048 .f32) (h : ∀ i, ∃ r : ℝ, v i = (r : EReal)) (j : S2048.Idx) :
    ∃ r : ℝ, multiReduction (F := Ideal) .maximumf [0] S2048 v 0xFF800000#32 reduces_S1024x2048_S2048 (.inl rfl) rfl j = (r : EReal) :=
  Cert.Att.kernRed_real (Nat.succ_pos _) v reduces_S1024x2048_S2048 h j

theorem red_real' (v : FVec Ideal S256x2048 .f32) (h : ∀ i, ∃ r : ℝ, v i = (r : EReal)) (j : S2048.Idx) :
    ∃ r : ℝ, multiReduction (F := Ideal) .maximumf [0] S2048 v 0xFF800000#32 reduces_S256x2048_S2048 (.inl rfl) rfl j = (r : EReal) :=
  Cert.Att.kernRed_real (Nat.succ_pos _) v reduces_S256x2048_S2048 h j

theorem mm_at (q : FVec Ideal S2048x128 .bf16) (k : Vec Ideal S1x1024x128 .bf16) (i : S1024x2048.Idx) :
    matmul (F := Ideal) dot_S1024x128_S2048x128_S1024x2048_1_1_0_0_n_n none (shapeCast S1024x128 k shapeCasts_S1x1024x128_S1024x128 : FVec Ideal S1024x128 .bf16) q (constant S1024x2048 .f32 0x00000000#32 : FVec Ideal S1024x2048 .f32) i
      = ∑ x : Fin 128, k (ix3 0 (i 0) x) * q (ix2 (i 1) x) := by
  pointwise []

theorem mm_at' (q : FVec Ideal S2048x128 .bf16) (k : Vec Ideal S1x256x128 .bf16) (i : S256x2048.Idx) :
    matmul (F := Ideal) dot_S256x128_S2048x128_S256x2048_1_1_0_0_n_n none (shapeCast S256x128 k shapeCasts_S1x256x128_S256x128 : FVec Ideal S256x128 .bf16) q (constant S256x2048 .f32 0x00000000#32 : FVec Ideal S256x2048 .f32) i
      = ∑ x : Fin 128, k (ix3 0 (i 0) x) * q (ix2 (i 1) x) := by
  pointwise []

theorem key_at (x5 : Vec Ideal S1x4352x128 .bf16) (q : FVec Ideal S2048x128 .bf16) (o : Nat) (h) (j : Fin 1024) (r : Fin 2048) (ho : o + 1024 ≤ 4352) :
    ∑ x : Fin 128, keys x5 o h (ix3 0 j x) * q (ix2 r x) = sc q x5 ⟨o + j.val, by omega⟩ r :=
  Finset.sum_congr rfl fun x _ => congrArg (· * _) (by pointwise [keys])

theorem keyLast_at (x5 : Vec Ideal S1x4352x128 .bf16) (q : FVec Ideal S2048x128 .bf16) (j : Fin 256) (r : Fin 2048) :
    ∑ x : Fin 128, keysLast x5 (ix3 0 j x) * q (ix2 r x) = sc q x5 ⟨4096 + j.val, by omega⟩ r :=
  Finset.sum_congr rfl fun x _ => congrArg (· * _) (by pointwise [keysLast])

theorem mxK_real (q : FVec Ideal S2048x128 .bf16) (x5 : Vec Ideal S1x4352x128 .bf16) (h : ∀ j r, ∃ s : ℝ, sc q x5 j r = (s : EReal)) (y : S1x2048.Idx) :
    ∃ s : ℝ, mxK q x5 y = (s : EReal) := by
  have key : ∀ (o : Nat) (hi) (ho : o + 1024 ≤ 4352) (j : S2048.Idx), ∃ r : ℝ, multiReduction (F := Ideal) .maximumf [0] S2048
      (matmul (F := Ideal) dot_S1024x128_S2048x128_S1024x2048_1_1_0_0_n_n none (shapeCast S1024x128 (keys x5 o hi) shapeCasts_S1x1024x128_S1024x128 : FVec Ideal S1024x128 .bf16) q (constant S1024x2048 .f32 0x00000000#32 : FVec Ideal S1024x2048 .f32))
      0xFF800000#32 reduces_S1024x2048_S2048 (.inl rfl) rfl j = (r : EReal) := fun o hi ho j => red_real _ (fun i => by
        obtain ⟨s, hs⟩ := h ⟨o + (i 0).val, by have := (i 0).isLt; change _ < 1024 at this; omega⟩ (i 1)
        exact ⟨s, ((mm_at ..).trans (key_at x5 q o hi (i 0) (i 1) ho)).trans hs⟩) j
  have last : ∀ (j : S2048.Idx), ∃ r : ℝ, multiReduction (F := Ideal) .maximumf [0] S2048
      (matmul (F := Ideal) dot_S256x128_S2048x128_S256x2048_1_1_0_0_n_n none (shapeCast S256x128 (keysLast x5) shapeCasts_S1x256x128_S256x128 : FVec Ideal S256x128 .bf16) q (constant S256x2048 .f32 0x00000000#32 : FVec Ideal S256x2048 .f32))
      0xFF800000#32 reduces_S256x2048_S2048 (.inl rfl) rfl j = (r : EReal) := fun j => red_real' _ (fun i => by
        obtain ⟨s, hs⟩ := h ⟨4096 + (i 0).val, by have := (i 0).isLt; change _ < 256 at this; omega⟩ (i 1)
        exact ⟨s, ((mm_at' ..).trans (keyLast_at x5 q (i 0) (i 1))).trans hs⟩) j
  unfold mxK k0_pay12
  refine Cert.Att.max_at_real _ _ y (.inr (Cert.Att.max_at_real _ _ y (.inr (Cert.Att.max_at_real _ _ y (.inr (Cert.Att.max_at_real _ _ y (.inr (Cert.Att.max_at_real _ _ y (.inl Cert.Att.neg_inf)
    ?_)) ?_)) ?_)) ?_)) ?_
  · exact key _ _ (by decide) _
  · exact key _ _ (by decide) _
  · exact key _ _ (by decide) _
  · exact key _ _ (by decide) _
  · exact last _

end Cert.Kernel5Ideal.Att
end
-- ==== Proof.Att5Val.lean ====
module

public import proofs.«01_k».proof.Proof.Att5Max

/-! The attention's stored block over the real numbers, against the reference's weights. -/

@[expose] public section

set_option maxRecDepth 16384

noncomputable section

open Idealize.ShloMosaic Idealize.ShloMosaic.TcCoe Idealize.SL.Sem

namespace Cert.Reference5Ideal.Att

open Cert.Reference5Ideal Cert.Reference5Ideal.Gen

theorem SC_at (Q K : FVec Ideal S4x4352x1024 .f32) (b : Fin 4) (h : Fin 8) (c : Fin 2) (n : Fin 4096) (j : Fin 4352) :
    SC Q K (ix5 b h c n j) = (∑ x : Fin 64, Q (ix3 b ⟨256 + n.val, by omega⟩ ⟨h.val * 128 + c.val * 64 + x.val, by omega⟩) * K (ix3 b j ⟨h.val * 128 + c.val * 64 + x.val, by omega⟩))
      * Ideal.ofBits .f32 0x3E000000#32 := by
  pointwise [SC]

theorem EX_at (S : FVec Ideal S4x8x2x4096x4352 .f32) (M : FVec Ideal S4x8x2x4096 .f32) (b : Fin 4) (h : Fin 8) (c : Fin 2) (n : Fin 4096) (j : Fin 4352) :
    EX S M (ix5 b h c n j) = Ideal.exp (S (ix5 b h c n j) - M (ix4 b h c n)) := by
  pointwise [EX]

theorem PR_at (E : FVec Ideal S4x8x2x4096x4352 .f32) (b : Fin 4) (h : Fin 8) (c : Fin 2) (n : Fin 4096) (j : Fin 4352) :
    PR E (ix5 b h c n j) = Ideal.div (E (ix5 b h c n j)) (∑ x, E (ix5 b h c n x)) := by
  pointwise [PR]

theorem MIX_at (l : FVec Ideal S_ .f32) (P : FVec Ideal S4x8x2x4096x4352 .f32) (b : Fin 4) (h : Fin 8) (n : Fin 4096) (j : Fin 4352) :
    MIX l P (ix4 b h n j) = P (ix5 b h 0 n j) - l ix0 * P (ix5 b h 1 n j) := by
  pointwise [MIX]

theorem LAM_at (L : FVec Ideal S4x64 .f32) :
    LAM L ix0 = Ideal.exp (∑ x : Fin 64, L (ix2 0 x) * L (ix2 1 x)) - Ideal.exp (∑ x : Fin 64, L (ix2 2 x) * L (ix2 3 x)) + Ideal.ofBits .f32 0x3EF1014C#32 := by
  pointwise [LAM]

theorem AV_at (V : FVec Ideal S4x4352x1024 .f32) (A : FVec Ideal S4x8x4096x4352 .f32) (b : Fin 4) (n : Fin 4096) (h : Fin 8) (e : Fin 128) :
    AV V A (ix4 b n h e) = ∑ x : Fin 4352, V (ix3 b x ⟨h.val * 128 + e.val, by omega⟩) * A (ix4 b h n x) := by
  pointwise [AV]

theorem NRM_at (o : FVec Ideal S4x4096x8x128 .f32) (g : FVec Ideal S128 .f32) (b : Fin 4) (n : Fin 4096) (h : Fin 8) (e : Fin 128) :
    NRM o g (ix4 b n h e) = o (ix4 b n h e) * Ideal.rsqrt (Ideal.div (∑ x, o (ix4 b n h x) * o (ix4 b n h x)) (Ideal.ofBits .f32 0x43000000#32) + Ideal.ofBits .f32 0x358637BD#32)
      * g (ix1 e) * Ideal.ofBits .f32 0x3F077F5A#32 := by
  pointwise [NRM]

theorem REF_at (L : FVec Ideal S4x64 .f32) (Q K V : FVec Ideal S4x4352x1024 .f32) (g : FVec Ideal S128 .f32) (b : Fin 4) (n : Fin 4096) (h : Fin 8) (e : Fin 128) :
    REF L Q K V g (ix3 b n ⟨h.val * 128 + e.val, by omega⟩) = NRM (AV V (MIX (LAM L) (PR (WT Q K)))) g (ix4 b n h e) := by
  unfold REF
  generalize NRM (AV V (MIX (LAM L) (PR (WT Q K)))) g = w
  pointwise []

/-- The score of query `n` and key `j` in half `c` of head `h`. -/
def SR (q k : S4x4352x1024.Idx → ℝ) (b : Fin 4) (h : Fin 8) (c : Fin 2) (n : Fin 4096) (j : Fin 4352) : ℝ :=
  (∑ x : Fin 64, q (ix3 b ⟨256 + n.val, by omega⟩ ⟨h.val * 128 + c.val * 64 + x.val, by omega⟩) * k (ix3 b j ⟨h.val * 128 + c.val * 64 + x.val, by omega⟩)) * (1 / 8)

theorem SC_real (Q K : FVec Ideal S4x4352x1024 .f32) (q k : S4x4352x1024.Idx → ℝ) (hQ : ∀ i, Q i = (q i : EReal)) (hK : ∀ i, K i = (k i : EReal))
    (b : Fin 4) (h : Fin 8) (c : Fin 2) (n : Fin 4096) (j : Fin 4352) : SC Q K (ix5 b h c n j) = (SR q k b h c n j : EReal) := by
  refine (SC_at Q K b h c n j).trans ?_
  rw [Cert.Att.eighth]
  unfold SR
  rw [EReal.coe_mul, ← Cert.Att.sum_real]
  refine congrArg (· * _) (Finset.sum_congr rfl fun x _ => ?_)
  rw [hQ, hK, EReal.coe_mul]

theorem LAM_real (L : FVec Ideal S4x64 .f32) (l : S4x64.Idx → ℝ) (hL : ∀ i, L i = (l i : EReal)) : ∃ r : ℝ, LAM L ix0 = (r : EReal) := by
  obtain ⟨r, hr⟩ := Cert.Att.lam_real5
  refine ⟨Real.exp (∑ x : Fin 64, l (ix2 0 x) * l (ix2 1 x)) - Real.exp (∑ x : Fin 64, l (ix2 2 x) * l (ix2 3 x)) + r, ?_⟩
  refine (LAM_at L).trans ?_
  rw [hr, EReal.coe_add, EReal.coe_sub, ← Ideal.exp_coe, ← Ideal.exp_coe, ← Cert.Att.sum_real, ← Cert.Att.sum_real]
  simp only [hL, EReal.coe_mul]

theorem AV_real (L : FVec Ideal S4x64 .f32) (Q K V : FVec Ideal S4x4352x1024 .f32) (q k : S4x4352x1024.Idx → ℝ) (hQ : ∀ i, Q i = (q i : EReal)) (hK : ∀ i, K i = (k i : EReal))
    (b : Fin 4) (n : Fin 4096) (h : Fin 8) : ∃ M0 M1 : ℝ, ∀ e, AV V (MIX (LAM L) (PR (WT Q K))) (ix4 b n h e)
      = ∑ x : Fin 4352, V (ix3 b x ⟨h.val * 128 + e.val, by omega⟩) * (Ideal.div ((Real.exp (SR q k b h 0 n x - M0) : ℝ) : EReal) (∑ y, ((Real.exp (SR q k b h 0 n y - M0) : ℝ) : EReal))
        - LAM L ix0 * Ideal.div ((Real.exp (SR q k b h 1 n x - M1) : ℝ) : EReal) (∑ y, ((Real.exp (SR q k b h 1 n y - M1) : ℝ) : EReal))) := by
  have hS : ∀ i, ∃ r : ℝ, SC Q K i = (r : EReal) := fun i => by
    obtain ⟨r, hr⟩ : ∃ r : ℝ, SC Q K (ix5 (i 0) (i 1) (i 2) (i 3) (i 4)) = (r : EReal) := ⟨_, SC_real Q K q k hQ hK (i 0) (i 1) (i 2) (i 3) (i 4)⟩
    exact ⟨r, (congrArg (SC Q K) (ix5_eta i)).symm.trans hr⟩
  obtain ⟨M0, h0⟩ := MX_real (SC Q K) hS (ix4 b h 0 n)
  obtain ⟨M1, h1⟩ := MX_real (SC Q K) hS (ix4 b h 1 n)
  have w0 : ∀ x, WT Q K (ix5 b h 0 n x) = ((Real.exp (SR q k b h 0 n x - M0) : ℝ) : EReal) := fun x =>
    (EX_at _ _ b h 0 n x).trans (by rw [h0, SC_real Q K q k hQ hK, ← EReal.coe_sub, Ideal.exp_coe])
  have w1 : ∀ x, WT Q K (ix5 b h 1 n x) = ((Real.exp (SR q k b h 1 n x - M1) : ℝ) : EReal) := fun x =>
    (EX_at _ _ b h 1 n x).trans (by rw [h1, SC_real Q K q k hQ hK, ← EReal.coe_sub, Ideal.exp_coe])
  refine ⟨M0, M1, fun e => (AV_at V _ b n h e).trans (Finset.sum_congr rfl fun x _ => congrArg (_ * ·) ?_)⟩
  refine (MIX_at _ _ b h n x).trans ?_
  rw [PR_at, PR_at]
  simp only [w0, w1]

end Cert.Reference5Ideal.Att

namespace Cert.Kernel5Ideal.Att

open Cert.Kernel5Ideal Cert.Kernel5Ideal.Gen

/-- The two halves' averages and their difference, at weights that are powers of two of the scores less a number of each row. -/
theorem mixO_eq (w : Fin 4352 → Fin 2048 → EReal) (l : ℝ) (x6 : Vec Ideal S1x128x4352 .bf16) (e : Fin 128) (r : Fin 1024) (v s0 s1 : Fin 4352 → ℝ) (M0 M1 m0 m1 : ℝ)
    (hv : ∀ j, x6 (ix3 0 e j) = (v j : EReal))
    (h0 : ∀ j, w j ⟨r.val, by omega⟩ = ((Real.rpow 2 (s0 j * (Real.log 2)⁻¹ - m0) : ℝ) : EReal))
    (h1 : ∀ j, w j ⟨1024 + r.val, by omega⟩ = ((Real.rpow 2 (s1 j * (Real.log 2)⁻¹ - m1) : ℝ) : EReal)) :
    mixO w (l : EReal) x6 e r = ∑ j, (v j : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal))) := by
  haveI : Nonempty (Fin 4352) := ⟨0⟩
  unfold mixO
  simp only [hv, h0, h1]
  exact Cert.Att.mixed v l _ _ _ _ _ _ (Real.exp_pos (M0 - m0 * Real.log 2)) (Real.exp_pos (M1 - m1 * Real.log 2)) (fun _ => Real.exp_pos _) (fun _ => Real.exp_pos _)
    (fun j => Cert.Att.two_pow (s0 j) m0 M0) (fun j => Cert.Att.two_pow (s1 j) m1 M1)

/-- The number the scale of the queries is named. -/
theorem kappa : (Named.named (F := Ideal) κ "score_scale" (φ := .f32) 0x3E38AA3B#32 : EReal) = (((8 * Real.log 2)⁻¹ : ℝ) : EReal) := rfl

/-- The query blocks, one behind the other. -/
def qrow (x1 x2 x3 x4 : Vec Ideal S1x256x128 .f32) (r : Fin 1024) (d : Fin 128) : EReal :=
  if h : r.val < 256 then x1 (ix3 0 ⟨r.val, h⟩ d) else if h2 : r.val - 256 < 256 then x2 (ix3 0 ⟨r.val - 256, h2⟩ d)
  else if h3 : r.val - 256 - 256 < 256 then x3 (ix3 0 ⟨r.val - 256 - 256, h3⟩ d) else x4 (ix3 0 ⟨r.val - 256 - 256 - 256, by have := r.isLt; omega⟩ d)

theorem lt64 : ∀ d : Fin 128, IntOp.cmpi .slt (BitVec.ofNat 32 d.val) 64#32 = if d.val < 64 then 1#1 else 0#1 := by decide +kernel

theorem qcat_lo (x1 x2 x3 x4 : Vec Ideal S1x256x128 .f32) (r : Fin 1024) (d : Fin 128) :
    qcat (F := Ideal) x1 x2 x3 x4 (ix2 ⟨r.val, by omega⟩ d) = if d.val < 64 then qrow x1 x2 x3 x4 r d * (((8 * Real.log 2)⁻¹ : ℝ) : EReal) else 0 := by
  have hr := r.isLt
  rw [← kappa]
  unfold qrow
  pointwise [qcat, k0_pay1, k0_pay24, k0_pay25]
  rw [lt64]
  by_cases h : d.val < 64
  · rw [if_pos h, if_pos h]; rfl
  · rw [if_neg h, if_neg h]; rfl

theorem qcat_hi (x1 x2 x3 x4 : Vec Ideal S1x256x128 .f32) (r : Fin 1024) (d : Fin 128) :
    qcat (F := Ideal) x1 x2 x3 x4 (ix2 ⟨1024 + r.val, by omega⟩ d) = if d.val < 64 then 0 else qrow x1 x2 x3 x4 r d * (((8 * Real.log 2)⁻¹ : ℝ) : EReal) := by
  have hr := r.isLt
  rw [← kappa]
  unfold qrow
  pointwise [qcat, k0_pay1, k0_pay24, k0_pay25]
  rw [lt64]
  by_cases h : d.val < 64
  · rw [if_pos h, if_pos h]; rfl
  · rw [if_neg h, if_neg h]; rfl

theorem half (f : Fin 128 → EReal) : ∑ d, f d = (∑ x : Fin 64, f ⟨x.val, by omega⟩) + ∑ x : Fin 64, f ⟨64 + x.val, by omega⟩ :=
  Fin.sum_univ_add (a := 64) (b := 64) f

theorem scale_real (a b : Fin 64 → ℝ) : (∑ x, (b x : EReal) * ((a x : EReal) * (((8 * Real.log 2)⁻¹ : ℝ) : EReal)))
    = ((((∑ x, a x * b x) * (1 / 8)) * (Real.log 2)⁻¹ : ℝ) : EReal) := by
  have e : ((∑ x, a x * b x) * (1 / 8)) * (Real.log 2)⁻¹ = ∑ x, b x * (a x * (8 * Real.log 2)⁻¹) := by
    rw [mul_assoc, Finset.sum_mul]
    refine Finset.sum_congr rfl fun x _ => ?_
    rw [mul_inv]; ring
  rw [e, ← Cert.Att.sum_real]
  refine Finset.sum_congr rfl fun x _ => ?_
  rw [EReal.coe_mul, EReal.coe_mul]

theorem sc_lo (x1 x2 x3 x4 : Vec Ideal S1x256x128 .f32) (x5 : Vec Ideal S1x4352x128 .bf16) (j : Fin 4352) (r : Fin 1024) (q k : Fin 128 → ℝ)
    (hq : ∀ d, qrow x1 x2 x3 x4 r d = (q d : EReal)) (hk : ∀ d, x5 (ix3 0 j d) = (k d : EReal)) :
    sc (qcat (F := Ideal) x1 x2 x3 x4) x5 j ⟨r.val, by omega⟩
      = ((((∑ x : Fin 64, q ⟨x.val, by omega⟩ * k ⟨x.val, by omega⟩) * (1 / 8)) * (Real.log 2)⁻¹ : ℝ) : EReal) := by
  unfold sc
  rw [half, ← scale_real, ← add_zero (∑ x : Fin 64, _ * (_ * _))]
  refine congrArg₂ (· + ·) (Finset.sum_congr rfl fun x _ => ?_) (Finset.sum_eq_zero fun x _ => ?_)
  · rw [hk, qcat_lo, if_pos x.isLt, hq]
  · rw [qcat_lo, if_neg (by simp), mul_zero]

theorem sc_hi (x1 x2 x3 x4 : Vec Ideal S1x256x128 .f32) (x5 : Vec Ideal S1x4352x128 .bf16) (j : Fin 4352) (r : Fin 1024) (q k : Fin 128 → ℝ)
    (hq : ∀ d, qrow x1 x2 x3 x4 r d = (q d : EReal)) (hk : ∀ d, x5 (ix3 0 j d) = (k d : EReal)) :
    sc (qcat (F := Ideal) x1 x2 x3 x4) x5 j ⟨1024 + r.val, by omega⟩
      = ((((∑ x : Fin 64, q ⟨64 + x.val, by omega⟩ * k ⟨64 + x.val, by omega⟩) * (1 / 8)) * (Real.log 2)⁻¹ : ℝ) : EReal) := by
  unfold sc
  rw [half, ← scale_real, ← zero_add (∑ x : Fin 64, _ * (_ * _))]
  refine congrArg₂ (· + ·) (Finset.sum_eq_zero fun x _ => ?_) (Finset.sum_congr rfl fun x _ => ?_)
  · rw [qcat_hi, if_pos x.isLt, mul_zero]
  · rw [hk, qcat_hi, if_neg (by simp), hq]

theorem fin_congr (o o' : Fin 128 → Fin 1024 → EReal) (x7 : Vec Ideal S128x1 .f32) (e : Fin 128) (r : Fin 1024) (h : ∀ e, o e r = o' e r) : fin o x7 e r = fin o' x7 e r := by
  unfold fin
  simp only [h]

theorem wU_eq (q : FVec Ideal S2048x128 .bf16) (x5 : Vec Ideal S1x4352x128 .bf16) (j : Fin 4352) (r : Fin 2048) (s : ℝ) (h : sc q x5 j r = (s : EReal)) :
    wU q x5 j r = ((Real.rpow 2 (s - 0) : ℝ) : EReal) := by
  unfold wU
  rw [h, sub_zero]
  exact Ideal.exp2_coe _

theorem wP_eq (q : FVec Ideal S2048x128 .bf16) (x5 : Vec Ideal S1x4352x128 .bf16) (mx : FVec Ideal S1x2048 .f32) (j : Fin 4352) (r : Fin 2048) (s m : ℝ) (h : sc q x5 j r = (s : EReal)) (hm : mx (ix2 0 r) = (m : EReal)) :
    wP q x5 mx j r = ((Real.rpow 2 (s - m) : ℝ) : EReal) := by
  unfold wP
  rw [h, hm, ← EReal.coe_sub]
  exact Ideal.exp2_coe _

/-- The block a grid point stores, over the real numbers: whichever branch runs, it is the norm of the reference's difference of averages. -/
theorem out_eq (w : BitVec 32) (x0 : Vec Ideal S4x64 .f32) (x1 x2 x3 x4 : Vec Ideal S1x256x128 .f32) (x5 : Vec Ideal S1x4352x128 .bf16) (x6 : Vec Ideal S1x128x4352 .bf16) (x7 : Vec Ideal S128x1 .f32)
    (l : ℝ) (q : Fin 1024 → Fin 128 → ℝ) (k v : Fin 4352 → Fin 128 → ℝ) (hl : k0_pay23 (F := Ideal) x0 (ix2 0 0) = (l : EReal))
    (hq : ∀ r d, qrow x1 x2 x3 x4 r d = (q r d : EReal)) (hk : ∀ j d, x5 (ix3 0 j d) = (k j d : EReal)) (hv : ∀ e j, x6 (ix3 0 e j) = (v j e : EReal))
    (r : Fin 1024) (e : Fin 128) (s0 s1 : Fin 4352 → ℝ)
    (h0 : ∀ j, s0 j = (∑ x : Fin 64, q r ⟨x.val, by omega⟩ * k j ⟨x.val, by omega⟩) * (1 / 8))
    (h1 : ∀ j, s1 j = (∑ x : Fin 64, q r ⟨64 + x.val, by omega⟩ * k j ⟨64 + x.val, by omega⟩) * (1 / 8)) (M0 M1 : ℝ) :
    out (F := Ideal) w x0 x1 x2 x3 x4 x5 x6 x7 (ix3 0 r e) = fin (fun e _ => ∑ j, (v j e : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal)))) x7 e r := by
  have c0 : ∀ j, sc (qcat (F := Ideal) x1 x2 x3 x4) x5 j ⟨r.val, by omega⟩ = ((s0 j * (Real.log 2)⁻¹ : ℝ) : EReal) := fun j => by
    rw [h0]; exact sc_lo x1 x2 x3 x4 x5 j r (q r) (k j) (hq r) (hk j)
  have c1 : ∀ j, sc (qcat (F := Ideal) x1 x2 x3 x4) x5 j ⟨1024 + r.val, by omega⟩ = ((s1 j * (Real.log 2)⁻¹ : ℝ) : EReal) := fun j => by
    rw [h1]; exact sc_hi x1 x2 x3 x4 x5 j r (q r) (k j) (hq r) (hk j)
  unfold out
  by_cases hw : k0_cond1 w = 1#1
  · rw [if_pos hw]
    refine (outU_at _ _ x5 x6 x7 (ix3 0 r e)).trans (fin_congr _ _ x7 e r fun e => ?_)
    rw [hl]
    exact mixO_eq _ l x6 e r (fun j => v j e) s0 s1 M0 M1 0 0 (hv e) (fun j => wU_eq _ x5 j _ _ (c0 j)) (fun j => wU_eq _ x5 j _ _ (c1 j))
  · rw [if_neg hw]
    have hS : ∀ j r', ∃ s : ℝ, sc (qcat (F := Ideal) x1 x2 x3 x4) x5 j r' = (s : EReal) := fun j r' => by
      by_cases h : r'.val < 1024
      · exact ⟨_, sc_lo x1 x2 x3 x4 x5 j ⟨r'.val, h⟩ (q _) (k j) (hq _) (hk j)⟩
      · have e : r' = ⟨1024 + (r'.val - 1024), by omega⟩ := Fin.ext (by simp; omega)
        rw [e]
        exact ⟨_, sc_hi x1 x2 x3 x4 x5 j ⟨r'.val - 1024, by omega⟩ (q _) (k j) (hq _) (hk j)⟩
    obtain ⟨m0, hm0⟩ := mxK_real _ x5 hS (ix2 0 ⟨r.val, by omega⟩)
    obtain ⟨m1, hm1⟩ := mxK_real _ x5 hS (ix2 0 ⟨1024 + r.val, by omega⟩)
    refine (outP_at _ _ x5 x6 x7 (ix3 0 r e)).trans (fin_congr _ _ x7 e r fun e => ?_)
    rw [hl]
    exact mixO_eq _ l x6 e r (fun j => v j e) s0 s1 M0 M1 m0 m1 (hv e) (fun j => wP_eq _ x5 _ j _ _ _ (c0 j) hm0) (fun j => wP_eq _ x5 _ j _ _ _ (c1 j) hm1)

theorem lam_eq (x0 : Vec Ideal S4x64 .f32) (L : FVec Ideal Cert.Reference5Ideal.S4x64 .f32) (h : ∀ i, x0 i = L i) : k0_pay23 (F := Ideal) x0 (ix2 0 0) = Cert.Reference5Ideal.Att.LAM L Idealize.ShloMosaic.ix0 := by
  refine Eq.trans ?_ (Cert.Reference5Ideal.Att.LAM_at L).symm
  obtain rfl : x0 = L := funext h
  pointwise [k0_pay23]
  simp only [Fin.sum_univ_one]

end Cert.Kernel5Ideal.Att

end
-- ==== Proof.Att5Final.lean ====
module

public import proofs.«01_k».proof.Proof.Att5Val
public import proofs.«01_k».proof.Proof.Att5IdealFrame

/-! The attention's result array against the reference's. -/

@[expose] public section

set_option maxRecDepth 16384

noncomputable section

open Idealize.ShloMosaic Idealize.ShloMosaic.TcCoe Idealize.SL.Sem
open Idealize.ShloMosaic.Pipeline (Dat Cfg Window)

namespace Cert.Kernel5Ideal.Att

open Cert.Kernel5Ideal Cert.Kernel5Ideal.Gen

theorem idxs : ∀ t : Fin grid0.N, cc0_transform_0 (grid0.coords t) = ![0, 0]
    ∧ cc0_transform_1 (grid0.coords t) = ![t.val / 32, 1 + 4 * (t.val % 4), t.val / 4 % 8]
    ∧ cc0_transform_2 (grid0.coords t) = ![t.val / 32, 2 + 4 * (t.val % 4), t.val / 4 % 8]
    ∧ cc0_transform_3 (grid0.coords t) = ![t.val / 32, 3 + 4 * (t.val % 4), t.val / 4 % 8]
    ∧ cc0_transform_4 (grid0.coords t) = ![t.val / 32, 4 + 4 * (t.val % 4), t.val / 4 % 8]
    ∧ cc0_transform_5 (grid0.coords t) = ![t.val / 32, 0, t.val / 4 % 8]
    ∧ cc0_transform_6 (grid0.coords t) = ![t.val / 32, t.val / 4 % 8, 0]
    ∧ cc0_transform_7 (grid0.coords t) = ![0, 0]
    ∧ cc0_transform_8 (grid0.coords t) = ![t.val / 32, t.val % 4, t.val / 4 % 8] := by decide +kernel

/-- No index map reads the word: the blocks are those of any word. -/
abbrev adm0 : (pcfg0 (F := Ideal)).Adm := ⟨fun | ⟨0, _⟩ => fun _ => (0#32 : BitVec 32) | ⟨_ + 1, h⟩ => absurd h (Nat.not_lt.2 (Nat.le_add_left _ _)), by first | trivial | exact ⟨⟩ | decide⟩

theorem covers0 : ((cfg0 adm0).win 8).Covers := by decide +kernel

theorem covers (a : (pcfg0 (F := Ideal)).Adm) : ((cfg0 a).win 8).Covers := covers0

variable (m : (ℓ : Loc nD τ sig) → Buf (Elt Ideal) ℓ)

theorem idx (t : Fin (cfgT m).N) : ((cfgT m).win 0).index t = ![0, 0]
    ∧ ((cfgT m).win 1).index t = ![t.val / 32, 1 + 4 * (t.val % 4), t.val / 4 % 8]
    ∧ ((cfgT m).win 2).index t = ![t.val / 32, 2 + 4 * (t.val % 4), t.val / 4 % 8]
    ∧ ((cfgT m).win 3).index t = ![t.val / 32, 3 + 4 * (t.val % 4), t.val / 4 % 8]
    ∧ ((cfgT m).win 4).index t = ![t.val / 32, 4 + 4 * (t.val % 4), t.val / 4 % 8]
    ∧ ((cfgT m).win 5).index t = ![t.val / 32, 0, t.val / 4 % 8]
    ∧ ((cfgT m).win 6).index t = ![t.val / 32, t.val / 4 % 8, 0]
    ∧ ((cfgT m).win 7).index t = ![0, 0]
    ∧ ((cfgT m).win 8).index t = ![t.val / 32, t.val % 4, t.val / 4 % 8] := idxs t

theorem entry11 (c : Dev nD) : V m c main_v11 = (truncf .bf16 (m ((c : Thread nD τ).loc main_arg4) : FVec Ideal S4x4352x1024 .f32) bitsLt_bf16_f32 : FVec Ideal S4x4352x1024 .bf16) := by
  entry_read
  rfl

theorem entry1 (c : Dev nD) (y : S4x1024x4352.Idx) : V m c main_v1 y = m ((c : Thread nD τ).loc main_arg5) (ix3 (y 0) (y 2) (y 1)) := by
  entry_read
  pointwise []

theorem entry12 (c : Dev nD) (y : S128x1.Idx) : V m c main_v12 y = m ((c : Thread nD τ).loc main_arg6) (ix1 (y 0)) := by
  entry_read
  pointwise []

theorem blk0 (c : Dev nD) (t : Fin (cfgT m).N) (i : S4x64.Idx) : blkAt m c 0 t i = m ((c : Thread nD τ).loc main_arg2) i := by
  rw [← V_arg2 m c]
  blk_ext [blkAt, idx m t]

theorem blk1 (c : Dev nD) (t : Fin (cfgT m).N) (r : Fin 256) (d : Fin 128) : blkAt m c 1 t (ix3 0 r d)
    = m ((c : Thread nD τ).loc main_arg3) (ix3 ⟨t.val / 32, by have := t.isLt; change _ < 128 at this; omega⟩ ⟨256 + (1024 * (t.val % 4) + (0 + r.val)), by omega⟩ ⟨t.val / 4 % 8 * 128 + d.val, by omega⟩) := by
  rw [← V_arg3 m c]
  blk_ext [blkAt, idx m t]

theorem blk2 (c : Dev nD) (t : Fin (cfgT m).N) (r : Fin 256) (d : Fin 128) : blkAt m c 2 t (ix3 0 r d)
    = m ((c : Thread nD τ).loc main_arg3) (ix3 ⟨t.val / 32, by have := t.isLt; change _ < 128 at this; omega⟩ ⟨256 + (1024 * (t.val % 4) + (256 + r.val)), by omega⟩ ⟨t.val / 4 % 8 * 128 + d.val, by omega⟩) := by
  rw [← V_arg3 m c]
  blk_ext [blkAt, idx m t]

theorem blk3 (c : Dev nD) (t : Fin (cfgT m).N) (r : Fin 256) (d : Fin 128) : blkAt m c 3 t (ix3 0 r d)
    = m ((c : Thread nD τ).loc main_arg3) (ix3 ⟨t.val / 32, by have := t.isLt; change _ < 128 at this; omega⟩ ⟨256 + (1024 * (t.val % 4) + (512 + r.val)), by omega⟩ ⟨t.val / 4 % 8 * 128 + d.val, by omega⟩) := by
  rw [← V_arg3 m c]
  blk_ext [blkAt, idx m t]

theorem blk4 (c : Dev nD) (t : Fin (cfgT m).N) (r : Fin 256) (d : Fin 128) : blkAt m c 4 t (ix3 0 r d)
    = m ((c : Thread nD τ).loc main_arg3) (ix3 ⟨t.val / 32, by have := t.isLt; change _ < 128 at this; omega⟩ ⟨256 + (1024 * (t.val % 4) + (768 + r.val)), by omega⟩ ⟨t.val / 4 % 8 * 128 + d.val, by omega⟩) := by
  rw [← V_arg3 m c]
  blk_ext [blkAt, idx m t]

theorem blk5 (c : Dev nD) (t : Fin (cfgT m).N) (j : Fin 4352) (d : Fin 128) : blkAt m c 5 t (ix3 0 j d)
    = m ((c : Thread nD τ).loc main_arg4) (ix3 ⟨t.val / 32, by have := t.isLt; change _ < 128 at this; omega⟩ j ⟨t.val / 4 % 8 * 128 + d.val, by omega⟩) := by
  have h : blkAt m c 5 t (ix3 0 j d) = V m c main_v11 (ix3 ⟨t.val / 32, by have := t.isLt; change _ < 128 at this; omega⟩ j ⟨t.val / 4 % 8 * 128 + d.val, by omega⟩) := by
    blk_ext [blkAt, idx m t]
  exact h.trans (congrFun (entry11 m c) _)

theorem blk6 (c : Dev nD) (t : Fin (cfgT m).N) (e : Fin 128) (j : Fin 4352) : blkAt m c 6 t (ix3 0 e j)
    = m ((c : Thread nD τ).loc main_arg5) (ix3 ⟨t.val / 32, by have := t.isLt; change _ < 128 at this; omega⟩ j ⟨t.val / 4 % 8 * 128 + e.val, by omega⟩) := by
  have h : blkAt m c 6 t (ix3 0 e j) = V m c main_v1 (ix3 ⟨t.val / 32, by have := t.isLt; change _ < 128 at this; omega⟩ ⟨t.val / 4 % 8 * 128 + e.val, by omega⟩ j) := by
    blk_ext [blkAt, idx m t]
  exact h.trans (entry1 m c _)

theorem blk7 (c : Dev nD) (t : Fin (cfgT m).N) (e : Fin 128) : blkAt m c 7 t (ix2 e 0) = m ((c : Thread nD τ).loc main_arg6) (ix1 e) := by
  have h : blkAt m c 7 t (ix2 e 0) = V m c main_v12 (ix2 e 0) := by
    blk_ext [blkAt, idx m t]
  exact h.trans (entry12 m c _)

/-- Where the output's block puts row `r` and lane `e`. -/
theorem emb8 (t : Fin (cfgT m).N) (r : Fin 1024) (e : Fin 128) (G : FVec Ideal S4x4096x1024 .bf16) :
    G ((((cfgT m).win 8).blk t).view.emb (ix3 0 r e)) = G (ix3 ⟨t.val / 32, by have := t.isLt; change _ < 128 at this; omega⟩ ⟨1024 * (t.val % 4) + r.val, by omega⟩ ⟨t.val / 4 % 8 * 128 + e.val, by omega⟩) := by
  blk_ext [idx m t]

theorem move {α : Type} (M : S4x4352x1024.Idx → α) (b : Fin 4) (p p' : Fin 4352) (d : Fin 1024) (h : p.val = p'.val) : M (ix3 b p d) = M (ix3 b p' d) :=
  congrArg (fun p => M (ix3 b p d)) (Fin.ext h)

/-- The query rows a grid point reads. -/
theorem qrow_at (c : Dev nD) (t : Fin (cfgT m).N) (r : Fin 1024) (d : Fin 128) :
    qrow (blkAt m c 1 t) (blkAt m c 2 t) (blkAt m c 3 t) (blkAt m c 4 t) r d
      = m ((c : Thread nD τ).loc main_arg3) (ix3 ⟨t.val / 32, by have := t.isLt; change _ < 128 at this; omega⟩ ⟨256 + (1024 * (t.val % 4) + r.val), by omega⟩ ⟨t.val / 4 % 8 * 128 + d.val, by omega⟩) := by
  have hr := r.isLt
  by_cases h1 : r.val < 256
  · exact (dif_pos h1).trans ((blk1 m c t ⟨r.val, h1⟩ d).trans (move _ _ _ _ _ (by dsimp only; omega)))
  refine (dif_neg h1).trans ?_
  by_cases h2 : r.val - 256 < 256
  · exact (dif_pos h2).trans ((blk2 m c t ⟨r.val - 256, h2⟩ d).trans (move _ _ _ _ _ (by dsimp only; omega)))
  refine (dif_neg h2).trans ?_
  by_cases h3 : r.val - 256 - 256 < 256
  · exact (dif_pos h3).trans ((blk3 m c t ⟨r.val - 256 - 256, h3⟩ d).trans (move _ _ _ _ _ (by dsimp only; omega)))
  refine (dif_neg h3).trans ?_
  exact (blk4 m c t ⟨r.val - 256 - 256 - 256, by omega⟩ d).trans (move _ _ _ _ _ (by dsimp only; omega))

theorem point (c : Dev nD) (l : S4x64.Idx → ℝ) (q k v : S4x4352x1024.Idx → ℝ)
    (hL : ∀ i, m ((c : Thread nD τ).loc main_arg2) i = (l i : EReal)) (hQ : ∀ i, m ((c : Thread nD τ).loc main_arg3) i = (q i : EReal))
    (hK : ∀ i, m ((c : Thread nD τ).loc main_arg4) i = (k i : EReal)) (hV : ∀ i, m ((c : Thread nD τ).loc main_arg5) i = (v i : EReal))
    (t : Fin (cfgT m).N) (r : Fin 1024) (e : Fin 128) : outAt m c t (ix3 0 r e)
      = Cert.Reference5Ideal.Att.REF (m ((c : Thread nD τ).loc main_arg2)) (m ((c : Thread nD τ).loc main_arg3)) (m ((c : Thread nD τ).loc main_arg4)) (m ((c : Thread nD τ).loc main_arg5)) (m ((c : Thread nD τ).loc main_arg6))
        (ix3 ⟨t.val / 32, by have := t.isLt; change _ < 128 at this; omega⟩ ⟨1024 * (t.val % 4) + r.val, by omega⟩ ⟨t.val / 4 % 8 * 128 + e.val, by omega⟩) := by
  have ht : t.val < 128 := t.isLt
  obtain ⟨lam, hlam⟩ := Cert.Reference5Ideal.Att.LAM_real (m ((c : Thread nD τ).loc main_arg2)) l hL
  obtain ⟨M0, M1, hAV⟩ := Cert.Reference5Ideal.Att.AV_real (m ((c : Thread nD τ).loc main_arg2)) (m ((c : Thread nD τ).loc main_arg3)) (m ((c : Thread nD τ).loc main_arg4)) (m ((c : Thread nD τ).loc main_arg5))
    q k hQ hK ⟨t.val / 32, by omega⟩ ⟨1024 * (t.val % 4) + r.val, by omega⟩ ⟨t.val / 4 % 8, by omega⟩
  refine (out_eq _ _ _ _ _ _ _ _ _ lam (fun r d => q (ix3 ⟨t.val / 32, by have := t.isLt; change _ < 128 at this; omega⟩ ⟨256 + (1024 * (t.val % 4) + r.val), by omega⟩ ⟨t.val / 4 % 8 * 128 + d.val, by omega⟩))
    (fun j d => k (ix3 ⟨t.val / 32, by have := t.isLt; change _ < 128 at this; omega⟩ j ⟨t.val / 4 % 8 * 128 + d.val, by omega⟩)) (fun j e => v (ix3 ⟨t.val / 32, by have := t.isLt; change _ < 128 at this; omega⟩ j ⟨t.val / 4 % 8 * 128 + e.val, by omega⟩))
    ((lam_eq _ _ (blk0 m c t)).trans hlam) (fun r d => (qrow_at m c t r d).trans (hQ _)) (fun j d => (blk5 m c t j d).trans (hK _)) (fun e j => (blk6 m c t e j).trans (hV _))
    r e (Cert.Reference5Ideal.Att.SR q k ⟨t.val / 32, by omega⟩ ⟨t.val / 4 % 8, by omega⟩ 0 ⟨1024 * (t.val % 4) + r.val, by omega⟩)
    (Cert.Reference5Ideal.Att.SR q k ⟨t.val / 32, by omega⟩ ⟨t.val / 4 % 8, by omega⟩ 1 ⟨1024 * (t.val % 4) + r.val, by omega⟩) (fun j => ?_) (fun j => ?_) M0 M1).trans ?_
  · unfold Cert.Reference5Ideal.Att.SR
    simp
  · unfold Cert.Reference5Ideal.Att.SR
    simp [Nat.add_assoc]
  · refine Eq.trans ?_ (Cert.Reference5Ideal.Att.REF_at _ _ _ _ _ _ _ ⟨t.val / 4 % 8, by omega⟩ e).symm
    refine Eq.trans ?_ (Cert.Reference5Ideal.Att.NRM_at _ _ _ _ _ e).symm
    unfold fin
    simp only [hAV, hlam, hV, blk7 m c t e]

/-- An index of an output block is a row and a lane. -/
theorem rows (y : S1x1024x128.Idx) : ∃ (r : Fin 1024) (e : Fin 128), y = ix3 0 r e :=
  ⟨y 1, y 2, (ix3_eta y).symm.trans (congrArg (fun p => ix3 p (y 1) (y 2)) (Subsingleton.elim (α := Fin 1) _ _))⟩

theorem final (c : Dev nD) (hL : ∀ i, ∃ r : ℝ, m ((c : Thread nD τ).loc main_arg2) i = (r : EReal)) (hQ : ∀ i, ∃ r : ℝ, m ((c : Thread nD τ).loc main_arg3) i = (r : EReal))
    (hK : ∀ i, ∃ r : ℝ, m ((c : Thread nD τ).loc main_arg4) i = (r : EReal)) (hV : ∀ i, ∃ r : ℝ, m ((c : Thread nD τ).loc main_arg5) i = (r : EReal)) :
    (dat m 0 c).arrAt 8 (cfgT m).N
      = Cert.Reference5Ideal.Att.REF (m ((c : Thread nD τ).loc main_arg2)) (m ((c : Thread nD τ).loc main_arg3)) (m ((c : Thread nD τ).loc main_arg4)) (m ((c : Thread nD τ).loc main_arg5)) (m ((c : Thread nD τ).loc main_arg6)) := by
  choose l hl using hL
  choose q hq using hQ
  choose k hk using hK
  choose v hv using hV
  refine (dat m 0 c).arrAt_eq_of_covers 8 _ (covers (admT m)) fun t _ y => ?_
  obtain ⟨r, e, rfl⟩ := rows y
  refine Eq.trans ?_ (emb8 m t r e _).symm
  blk_simp
  rw [after8]
  exact point m c l q k v hl hq hk hv t r e

end Cert.Kernel5Ideal.Att

end
-- ==== Proof.Claims5.lean ====
module

public import proofs.«01_k».proof.Defs
public import proofs.«01_k».proof.Proof.Att5Frame
public import proofs.«01_k».proof.Proof.Att5IdealFrame
public import proofs.«01_k».proof.Proof.Claims1
public import proofs.«01_k».proof.Proof.Att5Final
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Proof

/-- The second layer's attention finishes with its arguments unchanged, at the bit-exact values. -/
theorem frame5 : Cert.quiescent_Kernel5 := fun m ρ _ => Cert.Kernel5.Att.frame (F := Bits) m ρ

/-- The second layer's attention over the reals finishes with its arguments unchanged. -/
theorem frame5i : Cert.quiescent_Kernel5Ideal := fun m ρ _ => Cert.Kernel5Ideal.Att.frame (F := Ideal) m ρ

theorem frame5ip : Cert.quiescent_Kernel5Ideal_pre_finite := fun m ρ _ => Cert.Kernel5Ideal.Att.frame (F := Ideal) m ρ

/-- `Reference5Ideal`, a line of host operations without a counter, finishes with its arguments unchanged. -/
theorem frame5r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame5rp : Cert.quiescent_Reference5Ideal_pre_finite := fun m ρ _ => frame5r m ρ trivial

/-- The one constant that is read as a real number is that number, rounded. -/
theorem preserves5 : Cert.preserves_Kernel5_Kernel5Ideal :=
  IdealRules.named_const.statement Cert.Kernel5Ideal.κ "score_scale" .f32 0x3E38AA3B#32 (((8 * (Real.log 2))⁻¹ : ℝ) : EReal) rfl

/-- On finite arguments the second layer's attention and its reference end with equal results. -/
theorem algebraic5 : Cert.algebraic_Kernel5Ideal_Reference5Ideal_pre_finite := by
  intro m g m' g' hpre hagree
  refine ⟨fun c => (Cert.Kernel5Ideal.Att.dat m 0 c).arrAt 8 (Cert.Kernel5Ideal.Att.cfgT m).N, Cert.Kernel5Ideal.Att.runs_out m g, ?_⟩
  refine (θ_run Cert.Reference5Ideal.defs _ _).mono (fun r h c => ?_) (Cert.Reference5Ideal.Value.run (F := Ideal) m' g')
  obtain ⟨e0, e1, e2, e3, e4, e5, e6⟩ := hagree c
  obtain ⟨h0, ha⟩ := h c
  obtain ⟨hL, hQ, hK, hV⟩ := Cert.Att.reals _ _ _ _ _ _ _ (hpre c)
  refine ⟨h0.trans ?_, ha⟩
  refine (Cert.Reference5Ideal.Att.res_eq m' c).trans ?_
  rw [e2, e3, e4, e5, e6]
  exact (Cert.Kernel5Ideal.Att.final m c hL hQ hK hV).symm

end Cert.Proof

end
-- ==== Proof.Mod.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Mod

open Cert.Kernel6Ideal Cert.Kernel6Ideal.Gen

variable (m : (ℓ : Loc nD τ sig) → Buf (Elt Ideal) ℓ)

/-- The reference's result, of its arguments. -/
def REF (A0 : FVec Ideal Cert.Reference6Ideal.S8x1024 .f32) (A1 : FVec Ideal Cert.Reference6Ideal.S1024x6144 .f32) (A2 : FVec Ideal Cert.Reference6Ideal.S6144 .f32) : FVec Ideal Cert.Reference6Ideal.S8x6144 .f32 :=
  addf (Host.dotGeneral Cert.Reference6Ideal.dot_S8x1024_S1024x6144_S8x6144_1_0_0_1_n_n none (mulf A0 (Host.divf (broadcastInDim Cert.Reference6Ideal.S8x1024 ![] Cert.Reference6Ideal.Gen.bcast_S_S8x1024 (constant (F := Ideal) Cert.Reference6Ideal.S_ .f32 0x3F800000#32)) (addf (broadcastInDim Cert.Reference6Ideal.S8x1024 ![] Cert.Reference6Ideal.Gen.bcast_S_S8x1024 (constant (F := Ideal) Cert.Reference6Ideal.S_ .f32 0x3F800000#32)) (Host.exp (Host.negf A0))))) A1) (broadcastInDim Cert.Reference6Ideal.S8x6144 ![0, 1] Cert.Reference6Ideal.Gen.bcast_S1x6144_S8x6144_0_1 (broadcastInDim Cert.Reference6Ideal.S1x6144 ![1] Cert.Reference6Ideal.Gen.bcast_S6144_S1x6144_1 A2))

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem lt6 (t : Fin cfg0.N) : t.val < 6 := lt_of_lt_of_eq t.isLt (show cfg0.N = 6 from N_0)

theorem e_v0 (c : Dev nD) : V m c main_v0 = (broadcastInDim S1x6144 ![1] bcast_S6144_S1x6144_1 (m ((c : Thread nD τ).loc main_arg2) : FVec Ideal S6144 .f32) : FVec Ideal S1x6144 .f32) := by
  entry_read
  rfl
theorem e_a0 (c : Dev nD) : V m c main_arg0 = m ((c : Thread nD τ).loc main_arg0) := by
  entry_read
  rfl
theorem e_a1 (c : Dev nD) : V m c main_arg1 = m ((c : Thread nD τ).loc main_arg1) := by
  entry_read
  rfl

/-- One activation. -/
abbrev sl (u : EReal) : EReal := u * FloatOps.logistic (F := Ideal) (φ := .f32) u

theorem ref_at (A0 : FVec Ideal S8x1024 .f32) (A1 : FVec Ideal S1024x6144 .f32) (A2 : FVec Ideal S6144 .f32) (p : Fin 8) (q : Fin 6144) :
    REF A0 A1 A2 (ix2 p q) = (∑ k : Fin 1024, sl (A0 (ix2 p k)) * A1 (ix2 k q)) + A2 (ix1 q) := by
  pointwise [REF, sl]
  rfl

theorem pay (x : FVec Ideal S8x1024 .f32) (w : FVec Ideal S1024x1024 .f32) (b : FVec Ideal S1x1024 .f32) (p : Fin 8) (q : Fin 1024) :
    k0_pay1 (F := Ideal) x w b (ix2 p q) = (∑ k : Fin 1024, sl (x (ix2 p k)) * w (ix2 k q)) + b (ix2 0 q) := by
  pointwise [k0_pay1, sl]

/-- A tile's column, among all the columns. -/
def col (t : Fin cfg0.N) (q : Fin 1024) : Fin 6144 := ⟨t.val * 1024 + q.val, by have := lt6 t; omega⟩

theorem emb3 (t : Fin cfg0.N) (p : Fin 8) (q : Fin 1024) : ((cfg0.win 3).blk t).view.emb (ix2 p q) = ix2 p (col t q) := by
  blk_ext [iblk, idx t, col]

theorem b0 (c : Dev nD) (t : Fin cfg0.N) (p : Fin 8) (k : Fin 1024) : iblk m c 0 t (ix2 p k) = m ((c : Thread nD τ).loc main_arg0) (ix2 p k) := by
  have h : iblk m c 0 t (ix2 p k) = V m c main_arg0 (ix2 p k) := by blk_ext [iblk, idx t, col]
  rw [h, e_a0]

theorem b1 (c : Dev nD) (t : Fin cfg0.N) (k q : Fin 1024) : iblk m c 1 t (ix2 k q) = m ((c : Thread nD τ).loc main_arg1) (ix2 k (col t q)) := by
  have h : iblk m c 1 t (ix2 k q) = V m c main_arg1 (ix2 k (col t q)) := by blk_ext [iblk, idx t, col]
  rw [h, e_a1]

theorem b2 (c : Dev nD) (t : Fin cfg0.N) (q : Fin 1024) : iblk m c 2 t (ix2 0 q) = m ((c : Thread nD τ).loc main_arg2) (ix1 (col t q)) := by
  have h : iblk m c 2 t (ix2 0 q) = V m c main_v0 (ix2 (0 : Fin 1) (col t q)) := by blk_ext [iblk, idx t, col]
  rw [h, e_v0]
  pointwise

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨p, q, rfl⟩ : ∃ (p : Fin 8) (q : Fin 1024), y = ix2 p q := ⟨y 0, y 1, (ix2_eta y).symm⟩
  refine Eq.trans ?_ (congrArg _ (emb3 t p q)).symm
  refine Eq.trans ?_ (ref_at _ _ _ p (col t q)).symm
  blk_simp
  rw [after0_3]; frame_out
  refine (pay _ _ _ p q).trans (congrArg₂ (· + ·) (Finset.sum_congr rfl fun k _ => ?_) (b2 m c t q))
  exact congrArg₂ (· * ·) (congrArg sl (b0 m c t p k)) (b1 m c t k q)

end Cert.Kernel6Ideal.Mod

end
-- ==== Proof.Claims6.lean ====
module

public import proofs.«01_k».proof.Defs
public import proofs.«01_k».proof.Proof.Mod
public import proofs.«01_k».proof.Proof.Gen.Kernel6Ideal.Value
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem

namespace Cert.Proof

/-- The side conditions of `Kernel6`, from those of `Kernel6Ideal`, which has the same text. -/
instance facts6 : Cert.Kernel6.Facts :=
  have h := Cert.Kernel6Ideal.Gen.facts
  { bcast_S6144_S1x6144_1 := h.bcast_S6144_S1x6144_1
    inb_S8x1024_S8x1024_0_0 := h.inb_S8x1024_S8x1024_0_0
    h_S8x1024 := h.h_S8x1024
    inb_S1024x1024_S1024x1024_0_0 := h.inb_S1024x1024_S1024x1024_0_0
    h_S1024x1024 := h.h_S1024x1024
    inb_S1x1024_S1x1024_0_0 := h.inb_S1x1024_S1x1024_0_0
    h_S1x1024 := h.h_S1x1024
    shapeCasts_S1x1024_S1x1024 := h.shapeCasts_S1x1024_S1x1024
    broadcasts_S1x1024_S8x1024 := h.broadcasts_S1x1024_S8x1024
    dot_S8x1024_S1024x1024_S8x1024_1_0_0_1_n_n_wf := h.dot_S8x1024_S1024x1024_S8x1024_1_0_0_1_n_n_wf
    hrank0 := h.hrank0
    hstage0_0 := h.hstage0_0
    nbuf0_0 := h.nbuf0_0
    hreads0_0 := h.hreads0_0
    hinb0_0 := h.hinb0_0
    hwx0_0 := h.hwx0_0
    hstage0_1 := h.hstage0_1
    nbuf0_1 := h.nbuf0_1
    hreads0_1 := h.hreads0_1
    hinb0_1 := h.hinb0_1
    hwx0_1 := h.hwx0_1
    hstage0_2 := h.hstage0_2
    nbuf0_2 := h.nbuf0_2
    hreads0_2 := h.hreads0_2
    hinb0_2 := h.hinb0_2
    hwx0_2 := h.hwx0_2
    hstage0_3 := h.hstage0_3
    nbuf0_3 := h.nbuf0_3
    hreads0_3 := h.hreads0_3
    hinb0_3 := h.hinb0_3
    hwx0_3 := h.hwx0_3 }

/-- The two programs have one text: their kernels' functions are the same, case by case. -/
theorem funs6 : Cert.Kernel6.defs₀ (F := Bits) = Cert.Kernel6Ideal.defs₀ (F := Bits) := by
  refine congrArg Defs.onTc (funext fun l => funext fun x => ?_)
  match l, x with
  | 0, (t, s) => rfl

theorem defs6 : Cert.Kernel6Ideal.defs (F := Bits) = Cert.Kernel6.defs (F := Bits) :=
  congrArg (Pipeline.defs Cert.Kernel6Ideal.pcfgs) funs6.symm

/-- `Kernel6` finishes with its arguments unchanged: the run of `Kernel6Ideal`'s text, at the bit-exact values. -/
theorem frame6 : Cert.quiescent_Kernel6 := fun m ρ _ => by
  have h := Cert.Kernel6Ideal.Gen.frame (F := Bits) m ρ
  rw [defs6] at h
  exact h

theorem frame6i : Cert.quiescent_Kernel6Ideal := fun m ρ _ => Cert.Kernel6Ideal.Gen.frame (F := Ideal) m ρ

/-- `Reference6Ideal`, a line of host operations without a counter, finishes with its arguments unchanged. -/
theorem frame6r : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- `Kernel6Ideal` and `Reference6Ideal` end with equal results from equal arguments. -/
theorem algebraic6 : Cert.algebraic_Kernel6Ideal_Reference6Ideal := by
  pair_intro
  · run_from Cert.Kernel6Ideal.Value.run_blocks m g
  · refine (θ_run Cert.Reference6Ideal.defs _ _).mono (fun r h c => ?_) (Cert.Reference6Ideal.Value.run (F := Ideal) m' g')
    obtain ⟨e0, e1, e2⟩ := hagree c
    obtain ⟨h0, ha⟩ := h c
    refine ⟨h0.trans ?_, ha⟩
    · refine Eq.trans (b := Cert.Kernel6Ideal.Mod.REF (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))) rfl ?_
      rw [e0, e1, e2]
      exact (Cert.Kernel6Ideal.Mod.final m c).symm

end Cert.Proof

end
-- ==== Proof.NormMod.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Nrm

open Cert.Kernel7Ideal Cert.Kernel7Ideal.Gen

variable (m : (ℓ : Loc nD τ sig) → Buf (Elt Ideal) ℓ)

/-- The context's rows, under their norm and modulation. -/
def FC (X : FVec Ideal Cert.Reference7Ideal.S4x256x1024 .f32) (A1 : FVec Ideal Cert.Reference7Ideal.S1024 .f32) (A2 : FVec Ideal Cert.Reference7Ideal.S8x6144 .f32) : FVec Ideal Cert.Reference7Ideal.S4x256x1024 .f32 :=
  (addf (mulf (mulf (mulf X (broadcastInDim Cert.Reference7Ideal.S4x256x1024 ![0, 1, 2] Cert.Reference7Ideal.Gen.bcast_S4x256x1_S4x256x1024_0_1_2 (Host.rsqrt (addf (Host.divf (broadcastInDim Cert.Reference7Ideal.S4x256x1 ![0, 1] Cert.Reference7Ideal.Gen.bcast_S4x256_S4x256x1_0_1 (Host.reduceAdd (mulf X X) (constant (F := Ideal) Cert.Reference7Ideal.S_ .f32 0x00000000#32) Cert.Reference7Ideal.Gen.reducesTo_S4x256x1024_S4x256_d2 Cert.Reference7Ideal.Gen.h_S_)) (broadcastInDim Cert.Reference7Ideal.S4x256x1 ![] Cert.Reference7Ideal.Gen.bcast_S_S4x256x1 (constant (F := Ideal) Cert.Reference7Ideal.S_ .f32 0x44800000#32))) (broadcastInDim Cert.Reference7Ideal.S4x256x1 ![] Cert.Reference7Ideal.Gen.bcast_S_S4x256x1 (constant (F := Ideal) Cert.Reference7Ideal.S_ .f32 0x358637BD#32)))))) (broadcastInDim Cert.Reference7Ideal.S4x256x1024 ![0, 1, 2] Cert.Reference7Ideal.Gen.bcast_S1x1x1024_S4x256x1024_0_1_2 (broadcastInDim Cert.Reference7Ideal.S1x1x1024 ![2] Cert.Reference7Ideal.Gen.bcast_S1024_S1x1x1024_2 A1))) (broadcastInDim Cert.Reference7Ideal.S4x256x1024 ![0, 1, 2] Cert.Reference7Ideal.Gen.bcast_S1x1x1024_S4x256x1024_0_1_2 (broadcastInDim Cert.Reference7Ideal.S1x1x1024 ![2] Cert.Reference7Ideal.Gen.bcast_S1024_S1x1x1024_2 (addf (broadcastInDim Cert.Reference7Ideal.S1024 ![] Cert.Reference7Ideal.Gen.bcast_S_S1024 (constant (F := Ideal) Cert.Reference7Ideal.S_ .f32 0x3F800000#32)) (extractStridedSlice Cert.Reference7Ideal.S1024 ![1024] (shapeCast _ (extractStridedSlice Cert.Reference7Ideal.S1x6144 ![0, 0] A2 Cert.Reference7Ideal.Gen.slices_S8x6144_S1x6144_0_0) Cert.Reference7Ideal.Gen.shapeCasts_S1x6144_S6144) Cert.Reference7Ideal.Gen.slices_S6144_S1024_1024))))) (broadcastInDim Cert.Reference7Ideal.S4x256x1024 ![0, 1, 2] Cert.Reference7Ideal.Gen.bcast_S1x1x1024_S4x256x1024_0_1_2 (broadcastInDim Cert.Reference7Ideal.S1x1x1024 ![2] Cert.Reference7Ideal.Gen.bcast_S1024_S1x1x1024_2 (extractStridedSlice Cert.Reference7Ideal.S1024 ![0] (shapeCast _ (extractStridedSlice Cert.Reference7Ideal.S1x6144 ![0, 0] A2 Cert.Reference7Ideal.Gen.slices_S8x6144_S1x6144_0_0) Cert.Reference7Ideal.Gen.shapeCasts_S1x6144_S6144) Cert.Reference7Ideal.Gen.slices_S6144_S1024_0))))

/-- The latents' rows, under their norm and modulation. -/
def FL (X : FVec Ideal Cert.Reference7Ideal.S4x4096x1024 .f32) (A1 : FVec Ideal Cert.Reference7Ideal.S1024 .f32) (A2 : FVec Ideal Cert.Reference7Ideal.S8x6144 .f32) : FVec Ideal Cert.Reference7Ideal.S4x4096x1024 .f32 :=
  (addf (mulf (mulf (mulf X (broadcastInDim Cert.Reference7Ideal.S4x4096x1024 ![0, 1, 2] Cert.Reference7Ideal.Gen.bcast_S4x4096x1_S4x4096x1024_0_1_2 (Host.rsqrt (addf (Host.divf (broadcastInDim Cert.Reference7Ideal.S4x4096x1 ![0, 1] Cert.Reference7Ideal.Gen.bcast_S4x4096_S4x4096x1_0_1 (Host.reduceAdd (mulf X X) (constant (F := Ideal) Cert.Reference7Ideal.S_ .f32 0x00000000#32) Cert.Reference7Ideal.Gen.reducesTo_S4x4096x1024_S4x4096_d2 Cert.Reference7Ideal.Gen.h_S_)) (broadcastInDim Cert.Reference7Ideal.S4x4096x1 ![] Cert.Reference7Ideal.Gen.bcast_S_S4x4096x1 (constant (F := Ideal) Cert.Reference7Ideal.S_ .f32 0x44800000#32))) (broadcastInDim Cert.Reference7Ideal.S4x4096x1 ![] Cert.Reference7Ideal.Gen.bcast_S_S4x4096x1 (constant (F := Ideal) Cert.Reference7Ideal.S_ .f32 0x358637BD#32)))))) (broadcastInDim Cert.Reference7Ideal.S4x4096x1024 ![0, 1, 2] Cert.Reference7Ideal.Gen.bcast_S1x1x1024_S4x4096x1024_0_1_2 (broadcastInDim Cert.Reference7Ideal.S1x1x1024 ![2] Cert.Reference7Ideal.Gen.bcast_S1024_S1x1x1024_2 A1))) (broadcastInDim Cert.Reference7Ideal.S4x4096x1024 ![0, 1, 2] Cert.Reference7Ideal.Gen.bcast_S4x1x1024_S4x4096x1024_0_1_2 (addf (broadcastInDim Cert.Reference7Ideal.S4x1x1024 ![] Cert.Reference7Ideal.Gen.bcast_S_S4x1x1024 (constant (F := Ideal) Cert.Reference7Ideal.S_ .f32 0x3F800000#32)) (extractStridedSlice Cert.Reference7Ideal.S4x1x1024 ![0, 0, 1024] (broadcastInDim Cert.Reference7Ideal.S4x1x6144 ![0, 2] Cert.Reference7Ideal.Gen.bcast_S4x6144_S4x1x6144_0_2 (extractStridedSlice Cert.Reference7Ideal.S4x6144 ![1, 0] A2 Cert.Reference7Ideal.Gen.slices_S8x6144_S4x6144_1_0)) Cert.Reference7Ideal.Gen.slices_S4x1x6144_S4x1x1024_0_0_1024)))) (broadcastInDim Cert.Reference7Ideal.S4x4096x1024 ![0, 1, 2] Cert.Reference7Ideal.Gen.bcast_S4x1x1024_S4x4096x1024_0_1_2 (extractStridedSlice Cert.Reference7Ideal.S4x1x1024 ![0, 0, 0] (broadcastInDim Cert.Reference7Ideal.S4x1x6144 ![0, 2] Cert.Reference7Ideal.Gen.bcast_S4x6144_S4x1x6144_0_2 (extractStridedSlice Cert.Reference7Ideal.S4x6144 ![1, 0] A2 Cert.Reference7Ideal.Gen.slices_S8x6144_S4x6144_1_0)) Cert.Reference7Ideal.Gen.slices_S4x1x6144_S4x1x1024_0_0_0)))

/-- The context's rows of the input. -/
def XC (A0 : FVec Ideal Cert.Reference7Ideal.S17408x1024 .f32) : FVec Ideal Cert.Reference7Ideal.S4x256x1024 .f32 :=
  (extractStridedSlice Cert.Reference7Ideal.S4x256x1024 ![0, 0, 0] (shapeCast _ A0 Cert.Reference7Ideal.Gen.shapeCasts_S17408x1024_S4x4352x1024) Cert.Reference7Ideal.Gen.slices_S4x4352x1024_S4x256x1024_0_0_0)

/-- The latents' rows of the input. -/
def XL (A0 : FVec Ideal Cert.Reference7Ideal.S17408x1024 .f32) : FVec Ideal Cert.Reference7Ideal.S4x4096x1024 .f32 :=
  (extractStridedSlice Cert.Reference7Ideal.S4x4096x1024 ![0, 256, 0] (shapeCast _ A0 Cert.Reference7Ideal.Gen.shapeCasts_S17408x1024_S4x4352x1024) Cert.Reference7Ideal.Gen.slices_S4x4352x1024_S4x4096x1024_0_256_0)

/-- The rows, joined in a batch's order and rounded. -/
def R1 (C : FVec Ideal Cert.Reference7Ideal.S4x256x1024 .f32) (L : FVec Ideal Cert.Reference7Ideal.S4x4096x1024 .f32) : FVec Ideal Cert.Reference7Ideal.S17408x1024 .bf16 :=
  truncf .bf16 (shapeCast _ (concatenate Cert.Reference7Ideal.S4x4352x1024 1 [⟨Cert.Reference7Ideal.S4x256x1024, (C)⟩, ⟨Cert.Reference7Ideal.S4x4096x1024, (L)⟩] Cert.Reference7Ideal.Gen.concatenates_S4x256x1024_S4x4096x1024_S4x4352x1024_d1) Cert.Reference7Ideal.Gen.shapeCasts_S4x4352x1024_S17408x1024) Cert.Reference7Ideal.Gen.bitsLt_bf16_f32

/-- The reference's result, of its arguments. -/
abbrev REF (A0 : FVec Ideal Cert.Reference7Ideal.S17408x1024 .f32) (A1 : FVec Ideal Cert.Reference7Ideal.S1024 .f32) (A2 : FVec Ideal Cert.Reference7Ideal.S8x6144 .f32) : FVec Ideal Cert.Reference7Ideal.S17408x1024 .bf16 :=
  R1 (FC (XC A0) A1 A2) (FL (XL A0) A1 A2)

theorem idx : ∀ t : Fin cfg0.N, win0_0.index t = ![t.val, 0] ∧ win0_1.index t = ![0, 0] ∧ win0_2.index t = ![0, 0, 0] ∧ win0_3.index t = ![1, 0, 0]
    ∧ win0_4.index t = ![(t.val / 4 + 1) * 6 + 0, 0, 0] ∧ win0_5.index t = ![(t.val / 4 + 1) * 6 + 1, 0, 0] ∧ win0_6.index t = ![t.val, 0] :=
  (by decide +kernel : ∀ t : Fin grid0.N, _)

theorem co0 : ∀ t : Fin cfg0.N, (grid0.coords t 0).val = t.val := (by decide +kernel : ∀ t : Fin grid0.N, _)

theorem lt16 (t : Fin cfg0.N) : t.val < 16 := lt_of_lt_of_eq t.isLt (show cfg0.N = 16 from N_0)

/-- A row of the result, of its input's row, the norm's weights, the scale's row and the shift's. -/
def fS (h n sc sh : Fin 1024 → EReal) (d : Fin 1024) : EReal :=
  (h d * FloatOps.rsqrt (F := Ideal) (φ := .f32) (FloatOps.divf (F := Ideal) (φ := .f32) (∑ e, h e * h e) (FloatOps.ofBits .f32 0x44800000#32) + FloatOps.ofBits (F := Ideal) .f32 0x358637BD#32) * n d) * (1 + sc d) + sh d

theorem fS_congr {h h' n n' sc sc' sh sh' : Fin 1024 → EReal} (e1 : ∀ e, h e = h' e) (e2 : ∀ e, n e = n' e) (e3 : ∀ e, sc e = sc' e) (e4 : ∀ e, sh e = sh' e) (d : Fin 1024) :
    fS h n sc sh d = fS h' n' sc' sh' d := by
  rw [funext e1, funext e2, funext e3, funext e4]

theorem fc_at (X : FVec Ideal Cert.Reference7Ideal.S4x256x1024 .f32) (N2 : FVec Ideal Cert.Reference7Ideal.S1024 .f32) (MOD : FVec Ideal Cert.Reference7Ideal.S8x6144 .f32) (b : Fin 4) (l : Fin 256) (d : Fin 1024) :
    FC X N2 MOD (ix3 b l d) = fS (fun e => X (ix3 b l e)) (fun e => N2 (ix1 e)) (fun e => MOD (ix2 0 ⟨1024 + e.val, by omega⟩)) (fun e => MOD (ix2 0 ⟨e.val, by omega⟩)) d := by
  pointwise [FC, fS]

theorem fl_at (X : FVec Ideal Cert.Reference7Ideal.S4x4096x1024 .f32) (N2 : FVec Ideal Cert.Reference7Ideal.S1024 .f32) (MOD : FVec Ideal Cert.Reference7Ideal.S8x6144 .f32) (b : Fin 4) (l : Fin 4096) (d : Fin 1024) :
    FL X N2 MOD (ix3 b l d) = fS (fun e => X (ix3 b l e)) (fun e => N2 (ix1 e)) (fun e => MOD (ix2 ⟨1 + b.val, by omega⟩ ⟨1024 + e.val, by omega⟩)) (fun e => MOD (ix2 ⟨1 + b.val, by omega⟩ ⟨e.val, by omega⟩)) d := by
  pointwise [FL, fS]

theorem xc_at (H : FVec Ideal Cert.Reference7Ideal.S17408x1024 .f32) (b : Fin 4) (l : Fin 256) (d : Fin 1024) :
    XC H (ix3 b l d) = H (ix2 ⟨b.val * 4352 + l.val, by omega⟩ d) := by
  pointwise [XC]

theorem xl_at (H : FVec Ideal Cert.Reference7Ideal.S17408x1024 .f32) (b : Fin 4) (l : Fin 4096) (d : Fin 1024) :
    XL H (ix3 b l d) = H (ix2 ⟨b.val * 4352 + (256 + l.val), by omega⟩ d) := by
  pointwise [XL]

theorem r1_at (C : FVec Ideal Cert.Reference7Ideal.S4x256x1024 .f32) (L : FVec Ideal Cert.Reference7Ideal.S4x4096x1024 .f32) (r : Fin 17408) (d : Fin 1024) :
    R1 C L (ix2 r d) = if h : r.val % 4352 < 256 then C (ix3 ⟨r.val / 4352, by omega⟩ ⟨r.val % 4352, h⟩ d) else L (ix3 ⟨r.val / 4352, by omega⟩ ⟨r.val % 4352 - 256, by omega⟩ d) := by
  pointwise [R1]

/-- A row's part of its batch's modulation. -/
def gt (MOD : FVec Ideal S8x6144 .f32) (k : Fin 6) (r : Fin 17408) (e : Fin 1024) : EReal :=
  if r.val % 4352 < 256 then MOD (ix2 0 ⟨k.val * 1024 + e.val, by omega⟩) else MOD (ix2 ⟨1 + r.val / 4352, by omega⟩ ⟨k.val * 1024 + e.val, by omega⟩)

theorem ref_at (H : FVec Ideal S17408x1024 .f32) (N2 : FVec Ideal S1024 .f32) (MOD : FVec Ideal S8x6144 .f32) (r : Fin 17408) (d : Fin 1024) :
    REF H N2 MOD (ix2 r d) = fS (fun e => H (ix2 r e)) (fun e => N2 (ix1 e)) (gt MOD 1 r) (gt MOD 0 r) d := by
  refine (r1_at _ _ r d).trans ?_
  by_cases h : r.val % 4352 < 256
  · rw [dif_pos h]
    refine (fc_at _ _ _ _ _ _).trans (fS_congr (fun e => (xc_at _ _ _ _).trans (congrArg H (congrArg₂ ix2 (Fin.ext (by dsimp only; omega)) rfl))) (fun e => rfl) (fun e => ?_) (fun e => ?_) d)
    · unfold gt
      rw [if_pos h]
      exact congrArg MOD (congrArg₂ ix2 rfl (Fin.ext (by simp)))
    · unfold gt
      rw [if_pos h]
      exact congrArg MOD (congrArg₂ ix2 rfl (Fin.ext (by simp)))
  · rw [dif_neg h]
    refine (fl_at _ _ _ _ _ _).trans (fS_congr (fun e => (xl_at _ _ _ _).trans (congrArg H (congrArg₂ ix2 (Fin.ext (by dsimp only; omega)) rfl))) (fun e => rfl) (fun e => ?_) (fun e => ?_) d)
    · unfold gt
      rw [if_neg h]
      exact congrArg MOD (congrArg₂ ix2 rfl (Fin.ext (by simp)))
    · unfold gt
      rw [if_neg h]
      exact congrArg MOD (congrArg₂ ix2 rfl (Fin.ext (by simp)))

/-- The word of a tile's place among its batch's four. -/
theorem place : ∀ q : Fin 16, Scalar.select (Scalar.andi (Scalar.xori (Scalar.cmpi CmpIPredicate.slt (Scalar.remsi (BitVec.ofNat 32 q.val) (Scalar.select (Scalar.cmpi CmpIPredicate.eq 4#32 0#32) 1#32 4#32)) 0#32) (Scalar.cmpi CmpIPredicate.slt (Scalar.select (Scalar.cmpi CmpIPredicate.eq 4#32 0#32) 1#32 4#32) 0#32)) (Scalar.cmpi CmpIPredicate.ne (Scalar.remsi (BitVec.ofNat 32 q.val) (Scalar.select (Scalar.cmpi CmpIPredicate.eq 4#32 0#32) 1#32 4#32)) 0#32)) (Scalar.addi (Scalar.remsi (BitVec.ofNat 32 q.val) (Scalar.select (Scalar.cmpi CmpIPredicate.eq 4#32 0#32) 1#32 4#32)) (Scalar.select (Scalar.cmpi CmpIPredicate.eq 4#32 0#32) 1#32 4#32)) (Scalar.remsi (BitVec.ofNat 32 q.val) (Scalar.select (Scalar.cmpi CmpIPredicate.eq 4#32 0#32) 1#32 4#32)) = BitVec.ofNat 32 (q.val % 4) := by
  decide +kernel

/-- The comparison that separates a batch's first 256 rows, at a tile's place and a row of it. -/
theorem first : ∀ (q : Fin 4) (y : Fin 1088), IntOp.cmpi CmpIPredicate.slt (IntOp.addi (Scalar.muli (BitVec.ofNat 32 q.val) 1088#32) (BitVec.ofNat 32 y.val)) 256#32
    = if q.val = 0 ∧ y.val < 256 then 1#1 else 0#1 := by
  decide +kernel

/-- The mask of a tile's rows that are the context's. -/
theorem mask (i : grid0.Coords) (p : Fin 1088) : k0_pay2 i (ix2 p 0) = if (i 0).val % 4 = 0 ∧ p.val < 256 then 1#1 else 0#1 := by
  have hi : (i 0).val < 16 := (i 0).isLt
  have a := place ⟨(i 0).val, hi⟩
  have b := first ⟨(i 0).val % 4, Nat.mod_lt _ (by decide)⟩ p
  dsimp only at a b
  pointwise [k0_pay2]
  rw [a, b]

theorem pay3 (x : FVec Ideal S1088x1024 .f32) (n : FVec Ideal S1x1024 .f32) (p : Fin 1088) (q : Fin 1024) :
    k0_pay3 (F := Ideal) x n (ix2 p q) = x (ix2 p q) * FloatOps.rsqrt (F := Ideal) (φ := .f32) (FloatOps.divf (F := Ideal) (φ := .f32) (∑ e : Fin 1024, x (ix2 p e) * x (ix2 p e)) (FloatOps.ofBits .f32 0x44800000#32) + FloatOps.ofBits (F := Ideal) .f32 0x358637BD#32) * n (ix2 0 q) := by
  pointwise [k0_pay3]

theorem pay1 (w : IVec S1088x1 1) (x : FVec Ideal S1088x1024 .f32) (a b : FVec Ideal S1x1x1024 .f32) (s u : FVec Ideal S1x1x1024 .f32) (p : Fin 1088) (q : Fin 1024) :
    k0_pay1 (F := Ideal) w x (k0_pay4 b) (broadcastTo S1088x1024 (shapeCast S1088x1 w shapeCasts_S1088x1_S1088x1) broadcasts_S1088x1_S1088x1024) (k0_pay6 a) s u (ix2 p q)
      = x (ix2 p q) * (1 + if w (ix2 p 0) = 1#1 then a (ix3 0 0 q) else b (ix3 0 0 q)) + if w (ix2 p 0) = 1#1 then s (ix3 0 0 q) else u (ix3 0 0 q) := by
  pointwise [k0_pay1, k0_pay4, k0_pay6]
  rfl

theorem pay (i : grid0.Coords) (x : FVec Ideal S1088x1024 .f32) (n : FVec Ideal S1x1024 .f32) (a b s u : FVec Ideal S1x1x1024 .f32) (p : Fin 1088) (q : Fin 1024) :
    k0_pay1 (F := Ideal) (k0_pay2 i) (k0_pay3 x n) (k0_pay4 b) (k0_pay5 i) (k0_pay6 a) s u (ix2 p q)
      = fS (fun e => x (ix2 p e)) (fun e => n (ix2 0 e)) (fun e => if (i 0).val % 4 = 0 ∧ p.val < 256 then a (ix3 0 0 e) else b (ix3 0 0 e)) (fun e => if (i 0).val % 4 = 0 ∧ p.val < 256 then s (ix3 0 0 e) else u (ix3 0 0 e)) q := by
  refine (pay1 (k0_pay2 i) (k0_pay3 x n) a b s u p q).trans ?_
  rw [mask, pay3]
  unfold fS
  by_cases h : (i 0).val % 4 = 0 ∧ p.val < 256
  · simp only [if_pos h, if_true]
  · simp only [if_neg h, show ¬ (0#1 : BitVec 1) = 1#1 by decide, if_false]

theorem e_v1 (c : Dev nD) : V m c main_v1 = (shapeCast S48x1x1024 (m ((c : Thread nD τ).loc main_arg2) : FVec Ideal S8x6144 .f32) shapeCasts_S8x6144_S48x1x1024 : FVec Ideal S48x1x1024 .f32) := by
  entry_read
  rfl
theorem e_v0 (c : Dev nD) : V m c main_v0 = (broadcastInDim S1x1024 ![1] bcast_S1024_S1x1024_1 (m ((c : Thread nD τ).loc main_arg1) : FVec Ideal S1024 .f32) : FVec Ideal S1x1024 .f32) := by
  entry_read
  rfl
theorem e_h (c : Dev nD) : V m c main_arg0 = m ((c : Thread nD τ).loc main_arg0) := by
  entry_read
  rfl

/-- A tile's row, among all the rows. -/
def row (t : Fin cfg0.N) (p : Fin 1088) : Fin 17408 := ⟨t.val * 1088 + p.val, by have := lt16 t; omega⟩

theorem emb6 (t : Fin cfg0.N) (p : Fin 1088) (q : Fin 1024) : ((cfg0.win 6).blk t).view.emb (ix2 p q) = ix2 (row t p) q := by
  blk_ext [iblk, idx t, row]

theorem b0 (c : Dev nD) (t : Fin cfg0.N) (p : Fin 1088) (e : Fin 1024) : iblk m c 0 t (ix2 p e) = m ((c : Thread nD τ).loc main_arg0) (ix2 (row t p) e) := by
  have h : iblk m c 0 t (ix2 p e) = V m c main_arg0 (ix2 (row t p) e) := by blk_ext [iblk, idx t, row]
  rw [h, e_h]

theorem b1 (c : Dev nD) (t : Fin cfg0.N) (e : Fin 1024) : iblk m c 1 t (ix2 0 e) = m ((c : Thread nD τ).loc main_arg1) (ix1 e) := by
  have h : iblk m c 1 t (ix2 0 e) = V m c main_v0 (ix2 (0 : Fin 1) e) := by blk_ext [iblk, idx t, row]
  rw [h, e_v0]
  pointwise

theorem b2 (c : Dev nD) (t : Fin cfg0.N) (q : Fin 1024) : iblk m c 2 t (ix3 0 0 q) = (shapeCast S48x1x1024 (m ((c : Thread nD τ).loc main_arg2) : FVec Ideal S8x6144 .f32) shapeCasts_S8x6144_S48x1x1024 : FVec Ideal S48x1x1024 .f32) (ix3 (0 : Fin 48) 0 q) := by
  have h : iblk m c 2 t (ix3 0 0 q) = V m c main_v1 (ix3 (0 : Fin 48) (0 : Fin 1) q) := by blk_ext [iblk, idx t, row]
  rw [h, e_v1]

theorem b3 (c : Dev nD) (t : Fin cfg0.N) (q : Fin 1024) : iblk m c 3 t (ix3 0 0 q) = (shapeCast S48x1x1024 (m ((c : Thread nD τ).loc main_arg2) : FVec Ideal S8x6144 .f32) shapeCasts_S8x6144_S48x1x1024 : FVec Ideal S48x1x1024 .f32) (ix3 (1 : Fin 48) 0 q) := by
  have h : iblk m c 3 t (ix3 0 0 q) = V m c main_v1 (ix3 (1 : Fin 48) (0 : Fin 1) q) := by blk_ext [iblk, idx t, row]
  rw [h, e_v1]

theorem b4 (c : Dev nD) (t : Fin cfg0.N) (q : Fin 1024) : iblk m c 4 t (ix3 0 0 q) = (shapeCast S48x1x1024 (m ((c : Thread nD τ).loc main_arg2) : FVec Ideal S8x6144 .f32) shapeCasts_S8x6144_S48x1x1024 : FVec Ideal S48x1x1024 .f32) (ix3 (⟨(t.val / 4 + 1) * 6 + 0, by have := lt16 t; omega⟩ : Fin 48) 0 q) := by
  have h : iblk m c 4 t (ix3 0 0 q) = V m c main_v1 (ix3 (⟨(t.val / 4 + 1) * 6 + 0, by have := lt16 t; omega⟩ : Fin 48) (0 : Fin 1) q) := by blk_ext [iblk, idx t, row]
  rw [h, e_v1]

theorem b5 (c : Dev nD) (t : Fin cfg0.N) (q : Fin 1024) : iblk m c 5 t (ix3 0 0 q) = (shapeCast S48x1x1024 (m ((c : Thread nD τ).loc main_arg2) : FVec Ideal S8x6144 .f32) shapeCasts_S8x6144_S48x1x1024 : FVec Ideal S48x1x1024 .f32) (ix3 (⟨(t.val / 4 + 1) * 6 + 1, by have := lt16 t; omega⟩ : Fin 48) 0 q) := by
  have h : iblk m c 5 t (ix3 0 0 q) = V m c main_v1 (ix3 (⟨(t.val / 4 + 1) * 6 + 1, by have := lt16 t; omega⟩ : Fin 48) (0 : Fin 1) q) := by blk_ext [iblk, idx t, row]
  rw [h, e_v1]

theorem gate (MOD : FVec Ideal S8x6144 .f32) (t : ℕ) (ht : t < 16) (p : Fin 1088) (q : Fin 1024) (k : Fin 6) (r : Fin 17408) (hr : r.val = t * 1088 + p.val) :
    (if t % 4 = 0 ∧ p.val < 256 then (shapeCast S48x1x1024 MOD shapeCasts_S8x6144_S48x1x1024 : FVec Ideal S48x1x1024 .f32) (ix3 ⟨k.val, by omega⟩ 0 q)
      else (shapeCast S48x1x1024 MOD shapeCasts_S8x6144_S48x1x1024 : FVec Ideal S48x1x1024 .f32) (ix3 ⟨(t / 4 + 1) * 6 + k.val, by omega⟩ 0 q))
      = gt MOD k r q := by
  have hp := p.isLt
  have hq := q.isLt
  have hk := k.isLt
  unfold gt
  by_cases h : t % 4 = 0 ∧ p.val < 256
  · rw [if_pos h, if_pos (by omega)]
    pointwise
    exact congrArg MOD (congrArg₂ ix2 (Fin.ext (by dsimp only; omega)) (Fin.ext (by dsimp only; omega)))
  · rw [if_neg h, if_neg (by omega)]
    pointwise
    exact congrArg MOD (congrArg₂ ix2 (Fin.ext (by dsimp only; omega)) (Fin.ext (by dsimp only; omega)))

theorem final (c : Dev nD) : (dats m 0 c).arrAt 6 (cfgs 0).N
    = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨p, q, rfl⟩ : ∃ (p : Fin 1088) (q : Fin 1024), y = ix2 p q := ⟨y 0, y 1, (ix2_eta y).symm⟩
  refine Eq.trans ?_ (congrArg _ (emb6 t p q)).symm
  refine Eq.trans ?_ (ref_at _ _ _ (row t p) q).symm
  blk_simp
  rw [after0_6]; frame_out
  refine (pay (grid0.coords t) _ _ _ _ _ _ p q).trans ?_
  rw [co0]
  refine fS_congr (fun e => b0 m c t p e) (fun e => b1 m c t e) (fun e => ?_) (fun e => ?_) q
  · refine Eq.trans (congrArg₂ (fun a b : EReal => if t.val % 4 = 0 ∧ p.val < 256 then a else b) (b3 m c t e) (b5 m c t e)) ?_
    exact gate _ t.val (lt16 t) p e 1 (row t p) rfl
  · refine Eq.trans (congrArg₂ (fun a b : EReal => if t.val % 4 = 0 ∧ p.val < 256 then a else b) (b2 m c t e) (b4 m c t e)) ?_
    exact gate _ t.val (lt16 t) p e 0 (row t p) rfl

end Cert.Kernel7Ideal.Nrm

end
-- ==== Proof.Claims7.lean ====
module

public import proofs.«01_k».proof.Defs
public import proofs.«01_k».proof.Proof.NormMod
public import proofs.«01_k».proof.Proof.Gen.Kernel7Ideal.Value
public import proofs.«01_k».proof.Proof.Gen.Reference7Ideal.Run
public import Idealize.ShloMosaic.Lib.Claim

@[expose] public section

set_option maxRecDepth 16384

noncomputable section

open Idealize.ShloMosaic Idealize.ShloMosaic.TcCoe Idealize.SL.Sem

namespace Cert.Proof

/-- The side conditions of `Kernel7`, from those of `Kernel7Ideal`, which has the same text. -/
instance facts7 : Cert.Kernel7.Facts :=
  have h := Cert.Kernel7Ideal.Gen.facts
  { bcast_S1024_S1x1024_1 := h.bcast_S1024_S1x1024_1
    shapeCasts_S8x6144_S48x1x1024 := h.shapeCasts_S8x6144_S48x1x1024
    inb_S1088x1024_S1088x1024_0_0 := h.inb_S1088x1024_S1088x1024_0_0
    h_S1088x1024 := h.h_S1088x1024
    iota_S1088x1_d0_w32 := h.iota_S1088x1_d0_w32
    reduces_S1088x1024_S1088 := h.reduces_S1088x1024_S1088
    shapeCasts_S1088_S1088x1 := h.shapeCasts_S1088_S1088x1
    broadcasts_S1088x1_S1088x1024 := h.broadcasts_S1088x1_S1088x1024
    inb_S1x1024_S1x1024_0_0 := h.inb_S1x1024_S1x1024_0_0
    h_S1x1024 := h.h_S1x1024
    shapeCasts_S1x1024_S1x1024 := h.shapeCasts_S1x1024_S1x1024
    broadcasts_S1x1024_S1088x1024 := h.broadcasts_S1x1024_S1088x1024
    inb_S1x1x1024_S1x1x1024_0_0_0 := h.inb_S1x1x1024_S1x1x1024_0_0_0
    h_S1x1x1024 := h.h_S1x1x1024
    shapeCasts_S1x1x1024_S1x1024 := h.shapeCasts_S1x1x1024_S1x1024
    shapeCasts_S1088x1_S1088x1 := h.shapeCasts_S1088x1_S1088x1
    bitsLt_bf16_f32 := h.bitsLt_bf16_f32
    packedbf16_S1088x1024_S1088x1024_0_0 := h.packedbf16_S1088x1024_S1088x1024_0_0
    hrank0 := h.hrank0
    hstage0_0 := h.hstage0_0
    nbuf0_0 := h.nbuf0_0
    hreads0_0 := h.hreads0_0
    hinb0_0 := h.hinb0_0
    hwx0_0 := h.hwx0_0
    hstage0_1 := h.hstage0_1
    nbuf0_1 := h.nbuf0_1
    hreads0_1 := h.hreads0_1
    hinb0_1 := h.hinb0_1
    hwx0_1 := h.hwx0_1
    hstage0_2 := h.hstage0_2
    nbuf0_2 := h.nbuf0_2
    hreads0_2 := h.hreads0_2
    hinb0_2 := h.hinb0_2
    hwx0_2 := h.hwx0_2
    hstage0_3 := h.hstage0_3
    nbuf0_3 := h.nbuf0_3
    hreads0_3 := h.hreads0_3
    hinb0_3 := h.hinb0_3
    hwx0_3 := h.hwx0_3
    hstage0_4 := h.hstage0_4
    nbuf0_4 := h.nbuf0_4
    hreads0_4 := h.hreads0_4
    hinb0_4 := h.hinb0_4
    hwx0_4 := h.hwx0_4
    hstage0_5 := h.hstage0_5
    nbuf0_5 := h.nbuf0_5
    hreads0_5 := h.hreads0_5
    hinb0_5 := h.hinb0_5
    hwx0_5 := h.hwx0_5
    hstage0_6 := h.hstage0_6
    nbuf0_6 := h.nbuf0_6
    hreads0_6 := h.hreads0_6
    hinb0_6 := h.hinb0_6
    hwx0_6 := h.hwx0_6 }

/-- The two programs have one text: their kernels' functions are the same, case by case. -/
theorem funs7 : Cert.Kernel7.defs₀ (F := Bits) = Cert.Kernel7Ideal.defs₀ (F := Bits) := by
  refine congrArg Defs.onTc (funext fun l => funext fun x => ?_)
  match l, x with
  | 0, (t, s) => rfl

theorem defs7 : Cert.Kernel7Ideal.defs (F := Bits) = Cert.Kernel7.defs (F := Bits) :=
  congrArg (Pipeline.defs Cert.Kernel7Ideal.pcfgs) funs7.symm

/-- `Kernel7` finishes with its arguments unchanged: the run of `Kernel7Ideal`'s text, at the bit-exact values. -/
theorem frame7 : Cert.quiescent_Kernel7 := fun m ρ _ => by
  have h := Cert.Kernel7Ideal.Gen.frame (F := Bits) m ρ
  rw [defs7] at h
  exact h

theorem frame7i : Cert.quiescent_Kernel7Ideal := fun m ρ _ => Cert.Kernel7Ideal.Gen.frame (F := Ideal) m ρ

/-- `Reference7Ideal`, a line of host operations without a counter, finishes with its arguments unchanged. -/
theorem frame7r : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- `Kernel7Ideal` and `Reference7Ideal` end with equal results from equal arguments. -/
theorem algebraic7 : Cert.algebraic_Kernel7Ideal_Reference7Ideal := by
  pair_intro
  · run_from Cert.Kernel7Ideal.Value.run_blocks m g
  · refine (θ_run Cert.Reference7Ideal.defs _ _).mono (fun r h c => ?_) (Cert.Reference7Ideal.Value.run (F := Ideal) m' g')
    obtain ⟨e0, e1, e2⟩ := hagree c
    obtain ⟨h0, ha⟩ := h c
    refine ⟨h0.trans ?_, ha⟩
    · refine Eq.trans (b := Cert.Kernel7Ideal.Nrm.REF (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2))) rfl ?_
      rw [e0, e1, e2]
      exact (Cert.Kernel7Ideal.Nrm.final m c).symm

end Cert.Proof

end
-- ==== Proof.Att8IdealRun.lean ====
module

public import proofs.«01_k».proof.Proof.Gen.Kernel8Ideal.Launch
public import proofs.«01_k».proof.Proof.Gen.Kernel8Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

/-! The attention's body on any staging memrefs: the table's word chooses one of its two branches, and each
   branch stores the whole output block once. -/

@[expose] public section

set_option maxRecDepth 16384

noncomputable section

namespace Cert.Kernel8Ideal.Att

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The prefetched word's memref as the body is handed it. -/
abbrev tm : Memref sig .tc .smem S1 .i32 := Memref.whole main_v10
abbrev htm : tm.IsWhole := Memref.isWhole_whole _
/-- What a buffer read through the word's memref holds on core `c`. -/
abbrev TBuf (c : Dev nD) {S : Shape} {e : EltTy} (M : Memref sig .tc .smem S e) : Type := Buf (Elt F) (M.view.loc (c : Thread nD τ))
/-- That buffer held at half the full share. -/
abbrev tHeld (c : Dev nD) {S : Shape} {e : EltTy} (M : Memref sig .tc .smem S e) (f : TBuf (F := F) c M) : sProp 𝕄 :=
  M.view.loc (c : Thread nD τ) ↦{fullShare.right} f

/-- What the branch without the running maximum stores. -/
def outU (l : FVec F S1x1 .f32) (q : FVec F S512x128 .bf16) (x2 : Vec F S1x256x128 .bf16) (x3 : Vec F S1x128x256 .bf16) (x4 : Vec F S128x1 .f32) : FVec F S1x256x128 .bf16 :=
  k0_pay1 (k0_pay3 l q x2 x3 x4)

/-- What the branch with the maximum subtracted stores. -/
def outP (l : FVec F S1x1 .f32) (q : FVec F S512x128 .bf16) (x2 : Vec F S1x256x128 .bf16) (x3 : Vec F S1x128x256 .bf16) (x4 : Vec F S128x1 .f32) : FVec F S1x256x128 .bf16 :=
  k0_pay2 (k0_pay4 l q x2 x2 x3) x4

/-- What the body stores: the table's word chooses the branch. -/
def out (w : BitVec 32) (x0 : Vec F S4x64 .f32) (x1 : Vec F S1x256x128 .f32) (x2 : Vec F S1x256x128 .bf16) (x3 : Vec F S1x128x256 .bf16) (x4 : Vec F S128x1 .f32) : Vec F S1x256x128 .bf16 :=
  if k0_cond1 w = 1#1 then outU (k0_pay5 x0) (k0_pay6 x1) x2 x3 x4 else outP (k0_pay5 x0) (k0_pay6 x1) x2 x3 x4

/-- The two branches' conditions are complementary. -/
theorem conds (w : BitVec 32) : k0_cond2 w = 1#1 ↔ ¬ k0_cond1 w = 1#1 := by
  unfold k0_cond1 k0_cond2
  by_cases h : w = 1#32
  · subst h; decide
  · have h1 : (w != 1#32) = true := by simpa using h
    have h2 : (w == 1#32) = false := by simpa using h
    simp only [Scalar.cmpi, Scalar.extui, IntOp.cmpi, h1, h2]; decide

/-- The word the body reads. -/
abbrev word (c : Dev nD) (xt : TBuf (F := F) c tm) : BitVec 32 :=
  (tm.view.readAt (Elt F) (Rect.unit (s := S1) ![0] S1.size inb_S1_S1_0).toLoadRect xt) (fun a => ⟨0, by revert a; decide⟩)

/-- One store of the whole block leaves its payload, whatever the buffer held. -/
theorem read_store {sig' : RefSig} {κ : Kind} {sp : Space} (v : View sig' κ sp S1x256x128 .bf16) (f : v.ty.Contents (Elt F)) (p : Vec F S1x256x128 .bf16) :
    v.read (Elt F) (v.writes (Elt F) f [⟨Rect.unit (s := S1x256x128) ![0, 0, 0] S1x256x128.size inb_S1x256x128_S1x256x128_0_0_0, p⟩]) = p :=
  (View.read_writes_of_cover v f v v.junk _ fun y => View.cover_of_tiledL _ S1x256x128.size (by sl_kernel_rfl) y).trans (by
    rw [View.read_writes_junk_eq_canon]; exact View.canon_cons_unit_lit' _ _ _ (by decide))

set_option maxHeartbeats 4000000 in
/-- The body's run: the input blocks and the word as they were, the output block at what its branch stores. -/
theorem run (c : Dev nD) (i : grid0.Coords) (a0 : Memref sig .tc .vmem S4x64 .f32) (h0 : a0.IsWhole) (a1 : Memref sig .tc .vmem S1x256x128 .f32) (h1 : a1.IsWhole) (a2 : Memref sig .tc .vmem S1x256x128 .bf16) (h2 : a2.IsWhole) (a3 : Memref sig .tc .vmem S1x128x256 .bf16) (h3 : a3.IsWhole) (a4 : Memref sig .tc .vmem S128x1 .f32) (h4 : a4.IsWhole) (a5 : Memref sig .tc .vmem S1x256x128 .bf16) (h5 : a5.IsWhole)
    (x0 : Vec F S4x64 .f32) (x1 : Vec F S1x256x128 .f32) (x2 : Vec F S1x256x128 .bf16) (x3 : Vec F S1x128x256 .bf16) (x4 : Vec F S128x1 .f32) (xt : TBuf (F := F) c tm) (E : Set ℕ) (K : PUnit → sProp 𝕄) :
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ tHeld c tm xt
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out (word c xt) x0 x1 x2 x3 x4) ∗ tHeld c tm xt) -∗ K ⟨⟩))
          ⊢ wp frame (wpE (defs₀ (F := F)) Variants.none c none) E (cc0_daattn i tm htm a0 h0 a1 h1 a2 h2 a3 h3 a4 h4 a5 h5) K := by
    simp only [cc0_daattn_eq_skeleton]; unfold cc0_daattn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT, Hk⟩
    obtain rfl := h0.eq_unread hf0; obtain rfl := h1.eq_unread hf1; obtain rfl := h2.eq_unread hf2; obtain rfl := h3.eq_unread hf3; obtain rfl := h4.eq_unread hf4
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr
      swap; · iexact H5
      ipureintro
      by_cases hw : k0_cond1 (run.sl.r c xt) = 1#1
      · rw [dif_neg (show ¬ k0_cond2 (run.sl.r_5 c xt) = 1#1 from fun h => (conds _).mp h hw), dif_pos hw]
        refine (read_store _ _ _).trans (Eq.trans ?_ (if_pos hw).symm)
        unfold outU
        frame_open
        simp (disch := decide) only [View.ld_unit_lit', View.readAt_eq_ld, Memref.IsWhole.read_unread]
      · rw [dif_pos (show k0_cond2 (run.sl.r_5 c xt) = 1#1 from (conds _).mpr hw)]
        refine (read_store _ _ _).trans (Eq.trans ?_ (if_neg hw).symm)
        unfold outP
        frame_open
        simp (disch := decide) only [View.ld_unit_lit', View.readAt_eq_ld, Memref.IsWhole.read_unread]
    iexact HT

end Cert.Kernel8Ideal.Att

end
-- ==== Proof.Att8IdealFrame.lean ====
module

public import proofs.«01_k».proof.Proof.Att8IdealRun

/-! The attention's frame: @main up to the kernel call, the pipeline's proof data, the body at every grid point, and the run
   of @main to its end. -/

@[expose] public section

set_option maxRecDepth 16384

noncomputable section

namespace Cert.Kernel8Ideal.Att

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel is called: the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem main_upTo : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ops_fresh main_chain

/-- A buffer that no host operation writes is at the call what it was at launch. -/
theorem V_of (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg4 (c : Dev nD) : V m c main_arg4 = m ((c : Thread nD τ).loc main_arg4) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg5 (c : Dev nD) : V m c main_arg5 = m ((c : Thread nD τ).loc main_arg5) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg6 (c : Dev nD) : V m c main_arg6 = m ((c : Thread nD τ).loc main_arg6) := V_of m c _ (by
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (by decide))

/-- The prefetched word's buffer at the call (the program runs on one device). -/
def words : pre0.Contents (Elt F) := fun j => V m (0 : Dev nD) (pre0.ref j)
theorem V_words (c : Dev nD) (j : Fin 1) : V m c (pre0.ref j) = words m j := by
  obtain rfl : c = 0 := Subsingleton.elim _ _; rfl
/-- No index map reads the word: every contents is admissible. -/
theorem allOk : ok0 (F := F) (words m) := by first | trivial | exact ⟨⟩ | decide
abbrev admT : (pcfg0 (F := F)).Adm := ⟨words m, allOk m⟩
abbrev cfgT : Pipeline.Cfg sig Λ₀ := cfg0 (admT m)

theorem tables_eq (c : Dev nD) : (Pipeline.ΦT pre0 (words m) c : sProp 𝕄) = iprop(tHeld c tm (words m 0)) := by
  unfold Pipeline.ΦT Pipeline.prefHeld
  rw [show (Finset.univ : Finset (Fin 1)) = {(0 : Fin 1)} from by decide, bigSep_singleton]
  rfl

/-- Window `w`'s block at point `t`. -/
def blkAt (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

abbrev st0 (t : Fin (cfgT m).N) : Memref sig .tc .vmem S4x64 .f32 := spec0_0.stage ((cfgT m).slots t 0)
abbrev hst0 (t : Fin (cfgT m).N) : (st0 m t).IsWhole := hstage0_0 (((cfgT m).slots t 0).cast nbuf0_0)
abbrev st1 (t : Fin (cfgT m).N) : Memref sig .tc .vmem S1x256x128 .f32 := spec0_1.stage ((cfgT m).slots t 1)
abbrev hst1 (t : Fin (cfgT m).N) : (st1 m t).IsWhole := hstage0_1 (((cfgT m).slots t 1).cast nbuf0_1)
abbrev st2 (t : Fin (cfgT m).N) : Memref sig .tc .vmem S1x256x128 .bf16 := spec0_2.stage ((cfgT m).slots t 2)
abbrev hst2 (t : Fin (cfgT m).N) : (st2 m t).IsWhole := hstage0_2 (((cfgT m).slots t 2).cast nbuf0_2)
abbrev st3 (t : Fin (cfgT m).N) : Memref sig .tc .vmem S1x128x256 .bf16 := spec0_3.stage ((cfgT m).slots t 3)
abbrev hst3 (t : Fin (cfgT m).N) : (st3 m t).IsWhole := hstage0_3 (((cfgT m).slots t 3).cast nbuf0_3)
abbrev st4 (t : Fin (cfgT m).N) : Memref sig .tc .vmem S128x1 .f32 := spec0_4.stage ((cfgT m).slots t 4)
abbrev hst4 (t : Fin (cfgT m).N) : (st4 m t).IsWhole := hstage0_4 (((cfgT m).slots t 4).cast nbuf0_4)
abbrev st5 (t : Fin (cfgT m).N) : Memref sig .tc .vmem S1x256x128 .bf16 := spec0_5.stage ((cfgT m).slots t 5)
abbrev hst5 (t : Fin (cfgT m).N) : (st5 m t).IsWhole := hstage0_5 (((cfgT m).slots t 5).cast nbuf0_5)

/-- What the output's staging buffer holds after point `t`. -/
def outAt (c : Dev nD) (t : Fin (cfgT m).N) : Vec F S1x256x128 .bf16 := out (word c (words m 0)) (blkAt m c 0 t) (blkAt m c 1 t) (blkAt m c 2 t) (blkAt m c 3 t) (blkAt m c 4 t)

/-- The pipeline's proof data. -/
def dat (_ : Fin 1) (c : Dev nD) : Dat τ (Elt F) Unit ℕ (UR sig nD τ) ℕ (cfgT m) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => outAt m c t
  Φ _ := iprop(Pipeline.ΦA spec0 c ∗ Pipeline.ΦT pre0 (words m) c)
  q w := Pipeline.shareOf spec0 w
  owed _ := 0

theorem dat_A (c : Dev nD) (w : Fin (cfgT m).W) : (dat m 0 c).A w = V m c (Pipeline.arrRef spec0 w) := by dsimp only [dat]

theorem after0 (c : Dev nD) (t : Fin (cfgT m).N) : (dat m 0 c).after 0 t = blkAt m c 0 t := by dsimp only [dat]; try rfl
theorem after1 (c : Dev nD) (t : Fin (cfgT m).N) : (dat m 0 c).after 1 t = blkAt m c 1 t := by dsimp only [dat]; try rfl
theorem after2 (c : Dev nD) (t : Fin (cfgT m).N) : (dat m 0 c).after 2 t = blkAt m c 2 t := by dsimp only [dat]; try rfl
theorem after3 (c : Dev nD) (t : Fin (cfgT m).N) : (dat m 0 c).after 3 t = blkAt m c 3 t := by dsimp only [dat]; try rfl
theorem after4 (c : Dev nD) (t : Fin (cfgT m).N) : (dat m 0 c).after 4 t = blkAt m c 4 t := by dsimp only [dat]; try rfl
theorem after5 (c : Dev nD) (t : Fin (cfgT m).N) : (dat m 0 c).after 5 t = outAt m c t := by dsimp only [dat]; try rfl

/-- An input window's buffer holds its block at every point, fetched there or not. -/
theorem before0 (c : Dev nD) (t : Fin (cfgT m).N) (d) : (dat m 0 c).before 0 t d = blkAt m c 0 t :=
  ((dat m 0 c).before_in_eq_fetched 0 rfl (fun _ => rfl) (fun _ _ _ => rfl) (fun t => by rw [after0]; unfold Dat.blockOf blkAt; rw [dat_A]; try rfl) t d).trans
    (by unfold Dat.fetched Dat.blockOf blkAt; rw [dat_A]; try rfl)
theorem before1 (c : Dev nD) (t : Fin (cfgT m).N) (d) : (dat m 0 c).before 1 t d = blkAt m c 1 t :=
  ((dat m 0 c).before_in_eq_fetched 1 rfl (fun _ => rfl) (fun _ _ _ => rfl) (fun t => by rw [after1]; unfold Dat.blockOf blkAt; rw [dat_A]; try rfl) t d).trans
    (by unfold Dat.fetched Dat.blockOf blkAt; rw [dat_A]; try rfl)
theorem before2 (c : Dev nD) (t : Fin (cfgT m).N) (d) : (dat m 0 c).before 2 t d = blkAt m c 2 t :=
  ((dat m 0 c).before_in_eq_fetched 2 rfl (fun _ => rfl) (fun _ _ _ => rfl) (fun t => by rw [after2]; unfold Dat.blockOf blkAt; rw [dat_A]; try rfl) t d).trans
    (by unfold Dat.fetched Dat.blockOf blkAt; rw [dat_A]; try rfl)
theorem before3 (c : Dev nD) (t : Fin (cfgT m).N) (d) : (dat m 0 c).before 3 t d = blkAt m c 3 t :=
  ((dat m 0 c).before_in_eq_fetched 3 rfl (fun _ => rfl) (fun _ _ _ => rfl) (fun t => by rw [after3]; unfold Dat.blockOf blkAt; rw [dat_A]; try rfl) t d).trans
    (by unfold Dat.fetched Dat.blockOf blkAt; rw [dat_A]; try rfl)
theorem before4 (c : Dev nD) (t : Fin (cfgT m).N) (d) : (dat m 0 c).before 4 t d = blkAt m c 4 t :=
  ((dat m 0 c).before_in_eq_fetched 4 rfl (fun _ => rfl) (fun _ _ _ => rfl) (fun t => by rw [after4]; unfold Dat.blockOf blkAt; rw [dat_A]; try rfl) t d).trans
    (by unfold Dat.fetched Dat.blockOf blkAt; rw [dat_A]; try rfl)

/-- The body at point `t`. -/
abbrev bodyT (t : Fin (cfgT m).N) : Prog (TpuEff nD τ sig (Elt F) Λ₀ .tc) PUnit := cc0_daattn (grid0.coords t) tm htm (st0 m t) (hst0 m t) (st1 m t) (hst1 m t) (st2 m t) (hst2 m t) (st3 m t) (hst3 m t) (st4 m t) (hst4 m t) (st5 m t) (hst5 m t)

set_option maxHeartbeats 1600000 in
/-- The body at any point, from the input blocks to the stored output block. -/
theorem body_at (c : Dev nD) (t : Fin (cfgT m).N) :
    iprop((dat m 0 c).Φ t.castSucc ∗ (dat m 0 c).owesAt () t.castSucc ∗ (∃ d, owns (c : Thread nD τ) (st0 m t) fullShare ((dat m 0 c).before 0 t d)) ∗ (∃ d, owns (c : Thread nD τ) (st1 m t) fullShare ((dat m 0 c).before 1 t d)) ∗ (∃ d, owns (c : Thread nD τ) (st2 m t) fullShare ((dat m 0 c).before 2 t d)) ∗ (∃ d, owns (c : Thread nD τ) (st3 m t) fullShare ((dat m 0 c).before 3 t d)) ∗ (∃ d, owns (c : Thread nD τ) (st4 m t) fullShare ((dat m 0 c).before 4 t d)) ∗ (∃ d, owns (c : Thread nD τ) (st5 m t) fullShare ((dat m 0 c).before 5 t d)))
      ⊢ wp frame (wpE (defs₀ (F := F)) Variants.none c none) Set.univ (bodyT m t) (fun _ =>
        iprop((dat m 0 c).Φ t.succ ∗ (dat m 0 c).owesAt () t.succ ∗ owns (c : Thread nD τ) (st0 m t) fullShare ((dat m 0 c).after 0 t) ∗ owns (c : Thread nD τ) (st1 m t) fullShare ((dat m 0 c).after 1 t) ∗ owns (c : Thread nD τ) (st2 m t) fullShare ((dat m 0 c).after 2 t) ∗ owns (c : Thread nD τ) (st3 m t) fullShare ((dat m 0 c).after 3 t) ∗ owns (c : Thread nD τ) (st4 m t) fullShare ((dat m 0 c).after 4 t) ∗ owns (c : Thread nD τ) (st5 m t) fullShare ((dat m 0 c).after 5 t))) := by
  unfold bodyT
  simp only [before0, before1, before2, before3, before4]
  rw [show (dat m 0 c).Φ t.succ = (dat m 0 c).Φ t.castSucc from rfl,
    show (dat m 0 c).owesAt () t.succ = (dat m 0 c).owesAt () t.castSucc from rfl,
    after0, after1, after2, after3, after4, after5]
  rw [show (dat m 0 c).Φ t.castSucc = iprop(Pipeline.ΦA spec0 c ∗ Pipeline.ΦT pre0 (words m) c) from rfl, tables_eq]
  unfold outAt
  iintro ⟨⟨HΦ, HT⟩, Ho, ⟨%d0, H0⟩, ⟨%d1, H1⟩, ⟨%d2, H2⟩, ⟨%d3, H3⟩, ⟨%d4, H4⟩, ⟨%d5, H5⟩⟩
  iapply (run c (grid0.coords t) (st0 m t) (hst0 m t) (st1 m t) (hst1 m t) (st2 m t) (hst2 m t) (st3 m t) (hst3 m t) (st4 m t) (hst4 m t) (st5 m t) (hst5 m t) (blkAt m c 0 t) (blkAt m c 1 t) (blkAt m c 2 t) (blkAt m c 3 t) (blkAt m c 4 t) (words m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, H5, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin (cfgT m).N) :
    defs₀ (F := F) .tc (cfgT m).body ((cfgT m).bodyArgs t ((cfgT m).slots t)) = bodyT m t := by
  unfold defs₀; rw [Defs.onTc_tc]

/-- The output is stored at every point: one of the two branches runs. -/
theorem live_word (w : BitVec 32) : (!(k0_cond1 w == 1#1) && !(k0_cond2 w == 1#1)) = false := by
  by_cases h : k0_cond1 w = 1#1
  · simp [h]
  · simp [(conds _).mpr h]
theorem live_any (pf : pre0.Contents (Elt F)) (i : grid0.Coords) : idle0 pf 5 i = false := live_word (pf.atD 0 ![0])
theorem live5 (a : (pcfg0 (F := F)).Adm) (i : grid0.Coords) : (cfg0 a).idle 5 i = false := live_any a.1 i

theorem leaves5 (a : (pcfg0 (F := F)).Adm) (c : Dev nD) (d : Dat τ (Elt F) Unit ℕ (UR sig nD τ) ℕ (cfg0 a) c) (t : Fin (cfg0 a).N) :
    owns (c : Thread nD τ) (((cfg0 a).win 5).stage ((cfg0 a).slots t 5)) fullShare (d.after 5 t) ⊢ (d.leavesExact 5 t : sProp 𝕄) := by
  unfold Dat.leavesExact
  rw [live5]

set_option maxHeartbeats 4000000 in
theorem body_ok (c : Dev nD) : BodyObligation (dat (F := F) m 0 c) (defs₀ (F := F)) Variants.none () Set.univ := fun t => by
  rw [bigSep_W0, bigSep_W0, row_eq m]
  exact triple_restated (body_at m c t) rfl .rfl fun _ =>
    sep_mono .rfl (sep_mono .rfl (sep_mono .rfl (sep_mono .rfl (sep_mono .rfl (sep_mono .rfl (sep_mono .rfl (leaves5 (admT m) c (dat m 0 c) t)))))))

set_option maxHeartbeats 4000000 in
set_option backward.isDefEq.respectTransparency.types false in
/-- @main runs to its end, every array of the call at what the proof data say and every other buffer as it was at the call,
    and every counter at zero again. -/
theorem runs_quiet : θ_run defs (onTc (τ := τ) (main (F := F))) (s₀ m ρ) (fun r => Pipeline.FramePost (Pipeline.pin pcfgs fun _ => admT m) (dat m) 0 (V m) r ∧ r.2.sem = fun _ => 0) :=
  Pipeline.θ_run_frameP_shared (Q' := _) pcfgs (fun _ => admT m) (dat m) (0 : Fin 1) launch0.to₀ defs₀ Variants.none m ρ main
    (hbody := fun c => (body_ok m c).loose) (hq := fun _ _ _ => rfl)
    (howed := fun _ _ => rfl) (V := V m) (hmain := main_upTo m) (hA := dat_A m) (hpf := V_words m)
    (hΦ := fun _ _ => rfl)

theorem runs : θ_run defs (onTc (τ := τ) (main (F := F))) (s₀ m ρ) (Pipeline.FramePost (Pipeline.pin pcfgs fun _ => admT m) (dat m) 0 (V m)) :=
  (θ_run defs _ _).mono (fun _ h => h.1) (runs_quiet m ρ)

/-- @main runs to its end, the output at what the proof data say and every argument as it was. -/
theorem runs_out : θ_run defs (onTc (τ := τ) (main (F := F))) ⟨m, fun _ => 0, ρ⟩ (fun r => ∀ c : Dev nD,
      r.2.mem ((c.tc : Thread nD τ).loc main_v13) = (dat m 0 c).arrAt 5 (cfgT m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 5,
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dat m 0 c).arrAt_in 0 rfl _).trans ((dat_A m c 0).trans (V_arg2 m c))),
      ((h c).1 1).trans (((dat m 0 c).arrAt_in 1 rfl _).trans ((dat_A m c 1).trans (V_arg3 m c))),
      ((h c).2 main_arg4 (by decide : main_arg4 ∈ Pipeline.restRefs sig spec0)).trans (V_arg4 m c),
      ((h c).2 main_arg5 (by decide : main_arg5 ∈ Pipeline.restRefs sig spec0)).trans (V_arg5 m c),
      ((h c).2 main_arg6 (by decide : main_arg6 ∈ Pipeline.restRefs sig spec0)).trans (V_arg6 m c)⟩) (runs m ρ)

/-- The frame: every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (runs_out m ρ)) ((θ_run defs _ _).mono (fun _ h => h.2) (runs_quiet m ρ))

end Cert.Kernel8Ideal.Att

end
-- ==== Proof.Att8Ref.lean ====
module

public import proofs.«01_k».proof.Proof.AttMath
public import proofs.«01_k».proof.Proof.Gen.Reference8Ideal.Run
public import Idealize.ShloMosaic.Lib.Pipeline.ValueKit
public import Idealize.ShloMosaic.Lib.Claim

/-! The reference's attention, in parts, and each part at a point. -/

@[expose] public section

set_option maxRecDepth 16384

noncomputable section

open Idealize.ShloMosaic Idealize.ShloMosaic.TcCoe Idealize.SL.Sem

namespace Cert.Reference8Ideal.Att

open Cert.Reference8Ideal Cert.Reference8Ideal.Gen

/-- The mixing weight, of its four vectors. -/
def LAM (L : FVec Ideal S4x64 .f32) : FVec Ideal S_ .f32 :=
  addf (subf (Host.exp (Host.reduceAdd (mulf (shapeCast S64 (extractStridedSlice S1x64 ![0, 0] L slices_S4x64_S1x64_0_0) shapeCasts_S1x64_S64) (shapeCast S64 (extractStridedSlice S1x64 ![1, 0] L slices_S4x64_S1x64_1_0) shapeCasts_S1x64_S64)) (constant S_ .f32 0x00000000#32) reducesTo_S64_S_d0 h_S_))
    (Host.exp (Host.reduceAdd (mulf (shapeCast S64 (extractStridedSlice S1x64 ![2, 0] L slices_S4x64_S1x64_2_0) shapeCasts_S1x64_S64) (shapeCast S64 (extractStridedSlice S1x64 ![3, 0] L slices_S4x64_S1x64_3_0) shapeCasts_S1x64_S64)) (constant S_ .f32 0x00000000#32) reducesTo_S64_S_d0 h_S_)))
    (constant S_ .f32 0x3EB60549#32)

/-- The scores. -/
def SC (Q K : FVec Ideal S4x4352x1024 .f32) : FVec Ideal S4x8x2x256x256 .f32 :=
  mulf (Host.dotGeneral dot_S4x256x8x2x64_S4x256x8x2x64_S4x8x2x256x256_4_4_1_1_023_023 none
    (shapeCast S4x256x8x2x64 (extractStridedSlice S4x256x1024 ![0, 0, 0] Q slices_S4x4352x1024_S4x256x1024_0_0_0) shapeCasts_S4x256x1024_S4x256x8x2x64)
    (shapeCast S4x256x8x2x64 (extractStridedSlice S4x256x1024 ![0, 0, 0] K slices_S4x4352x1024_S4x256x1024_0_0_0) shapeCasts_S4x256x1024_S4x256x8x2x64))
    (broadcastInDim S4x8x2x256x256 ![] bcast_S_S4x8x2x256x256 (constant S_ .f32 0x3E000000#32))

/-- Every row's maximum. -/
def MX (S : FVec Ideal S4x8x2x256x256 .f32) : FVec Ideal S4x8x2x256 .f32 :=
  maximumf (broadcastInDim S4x8x2x256 ![] bcast_S_S4x8x2x256 (constant S_ .f32 0xFF800000#32))
    (Host.reduce FloatOps.maximumf S (constant S_ .f32 0xFF800000#32) reducesTo_S4x8x2x256x256_S4x8x2x256_d4 h_S_)

/-- The weights before they are divided by their sum. -/
def EX (S : FVec Ideal S4x8x2x256x256 .f32) (M : FVec Ideal S4x8x2x256 .f32) : FVec Ideal S4x8x2x256x256 .f32 :=
  Host.exp (subf S (broadcastInDim S4x8x2x256x256 ![0, 1, 2, 3, 4] bcast_S4x8x2x256x1_S4x8x2x256x256_0_1_2_3_4 (broadcastInDim S4x8x2x256x1 ![0, 1, 2, 3] bcast_S4x8x2x256_S4x8x2x256x1_0_1_2_3 M)))

/-- The weights. -/
def PR (E : FVec Ideal S4x8x2x256x256 .f32) : FVec Ideal S4x8x2x256x256 .f32 :=
  Host.divf E (broadcastInDim S4x8x2x256x256 ![0, 1, 2, 3, 4] bcast_S4x8x2x256x1_S4x8x2x256x256_0_1_2_3_4 (broadcastInDim S4x8x2x256x1 ![0, 1, 2, 3] bcast_S4x8x2x256_S4x8x2x256x1_0_1_2_3 (Host.reduceAdd E (constant S_ .f32 0x00000000#32) reducesTo_S4x8x2x256x256_S4x8x2x256_d4 h_S_)))

/-- The first half's weights less the mixing weight times the second's. -/
def MIX (l : FVec Ideal S_ .f32) (P : FVec Ideal S4x8x2x256x256 .f32) : FVec Ideal S4x8x256x256 .f32 :=
  subf (shapeCast S4x8x256x256 (extractStridedSlice S4x8x1x256x256 ![0, 0, 0, 0, 0] P slices_S4x8x2x256x256_S4x8x1x256x256_0_0_0_0_0) shapeCasts_S4x8x1x256x256_S4x8x256x256)
    (mulf (broadcastInDim S4x8x256x256 ![] bcast_S_S4x8x256x256 l) (shapeCast S4x8x256x256 (extractStridedSlice S4x8x1x256x256 ![0, 0, 1, 0, 0] P slices_S4x8x2x256x256_S4x8x1x256x256_0_0_1_0_0) shapeCasts_S4x8x1x256x256_S4x8x256x256))

/-- The values, weighed. -/
def AV (V : FVec Ideal S4x4352x1024 .f32) (A : FVec Ideal S4x8x256x256 .f32) : FVec Ideal S4x256x8x128 .f32 :=
  transpose S4x256x8x128 [0, 3, 1, 2] (Host.dotGeneral dot_S4x256x8x128_S4x8x256x256_S4x8x128x256_1_3_3_2_02_01 none (shapeCast S4x256x8x128 (extractStridedSlice S4x256x1024 ![0, 0, 0] V slices_S4x4352x1024_S4x256x1024_0_0_0) shapeCasts_S4x256x1024_S4x256x8x128) A) transposes_S4x8x128x256_S4x256x8x128_0_3_1_2

/-- The norm over a head's lanes and the gain. -/
def NRM (o : FVec Ideal S4x256x8x128 .f32) (g : FVec Ideal S128 .f32) : FVec Ideal S4x256x8x128 .f32 :=
  mulf (mulf (mulf o (broadcastInDim S4x256x8x128 ![0, 1, 2, 3] bcast_S4x256x8x1_S4x256x8x128_0_1_2_3 (Host.rsqrt (addf (Host.divf (broadcastInDim S4x256x8x1 ![0, 1, 2] bcast_S4x256x8_S4x256x8x1_0_1_2 (Host.reduceAdd (mulf o o) (constant S_ .f32 0x00000000#32) reducesTo_S4x256x8x128_S4x256x8_d3 h_S_)) (broadcastInDim S4x256x8x1 ![] bcast_S_S4x256x8x1 (constant S_ .f32 0x43000000#32))) (broadcastInDim S4x256x8x1 ![] bcast_S_S4x256x8x1 (constant S_ .f32 0x358637BD#32))))))
    (broadcastInDim S4x256x8x128 ![0, 1, 2, 3] bcast_S1x1x1x128_S4x256x8x128_0_1_2_3 (broadcastInDim S1x1x1x128 ![3] bcast_S128_S1x1x1x128_3 g)))
    (broadcastInDim S4x256x8x128 ![] bcast_S_S4x256x8x128 (constant S_ .f32 0x3F24FD5C#32))

/-- The weights of a row of scores. -/
abbrev WT (Q K : FVec Ideal S4x4352x1024 .f32) : FVec Ideal S4x8x2x256x256 .f32 := EX (SC Q K) (MX (SC Q K))

/-- The reference's result, of its arguments. -/
def REF (L : FVec Ideal S4x64 .f32) (Q K V : FVec Ideal S4x4352x1024 .f32) (g : FVec Ideal S128 .f32) : FVec Ideal S4x256x1024 .bf16 :=
  truncf .bf16 (shapeCast S4x256x1024 (NRM (AV V (MIX (LAM L) (PR (WT Q K)))) g) shapeCasts_S4x256x8x128_S4x256x1024) bitsLt_bf16_f32

theorem res_eq (m : (ℓ : Loc nD τ sig) → Buf (Elt Ideal) ℓ) (c : Dev nD) :
    Cert.Reference8Ideal.Value.res_main_v61 m c = REF (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference8Ideal.Att

end
-- ==== Proof.Att8Pay.lean ====
module

public import proofs.«01_k».proof.Proof.AttMath
public import proofs.«01_k».proof.Proof.Att8IdealRun
public import Idealize.ShloMosaic.Lib.Pipeline.ValueKit

/-! What the attention's body stores, at a point, over the extended reals. -/

@[expose] public section

set_option maxRecDepth 16384

noncomputable section

open Idealize.ShloMosaic Idealize.ShloMosaic.TcCoe Idealize.SL.Sem

namespace Cert.Kernel8Ideal.Att

open Cert.Kernel8Ideal Cert.Kernel8Ideal.Gen

/-- The score of key `j` and stacked query `r`. -/
def sc (q : FVec Ideal S512x128 .bf16) (x2 : Vec Ideal S1x256x128 .bf16) (j : Fin 256) (r : Fin 512) : EReal :=
  ∑ d : Fin 128, x2 (ix3 0 j d) * q (ix2 r d)

/-- The two halves' averages and their difference, at lane `e` and query `r`, of the weights `w`. -/
def mixO (w : Fin 256 → Fin 512 → EReal) (l : EReal) (x3 : Vec Ideal S1x128x256 .bf16) (e : Fin 128) (r : Fin 256) : EReal :=
  Ideal.div (∑ j, x3 (ix3 0 e j) * w j ⟨r.val, by omega⟩) (∑ j, w j ⟨r.val, by omega⟩)
    - l * Ideal.div (∑ j, x3 (ix3 0 e j) * w j ⟨256 + r.val, by omega⟩) (∑ j, w j ⟨256 + r.val, by omega⟩)

/-- The norm over the lanes and the gain. -/
def fin (o : Fin 128 → Fin 256 → EReal) (x4 : Vec Ideal S128x1 .f32) (e : Fin 128) (r : Fin 256) : EReal :=
  o e r * Ideal.rsqrt (Ideal.div (∑ x, o x r * o x r) (Ideal.ofBits .f32 0x43000000#32) + Ideal.ofBits .f32 0x358637BD#32)
    * x4 (ix2 e 0) * Ideal.ofBits .f32 0x3F24FD5C#32

/-- The weights of the branch without the running maximum. -/
def wU (q : FVec Ideal S512x128 .bf16) (x2 : Vec Ideal S1x256x128 .bf16) (j : Fin 256) (r : Fin 512) : EReal :=
  FloatOps.exp2 (F := Ideal) (φ := .f32) (sc q x2 j r)

/-- The weights of the branch with the maximum subtracted. -/
def wP (q : FVec Ideal S512x128 .bf16) (x2 : Vec Ideal S1x256x128 .bf16) (mx : FVec Ideal S1x512 .f32) (j : Fin 256) (r : Fin 512) : EReal :=
  FloatOps.exp2 (F := Ideal) (φ := .f32) (sc q x2 j r - mx (ix2 0 r))

/-- The maximum of each stacked query's scores. -/
def mxK (q : FVec Ideal S512x128 .bf16) (x2 : Vec Ideal S1x256x128 .bf16) : FVec Ideal S1x512 .f32 :=
  maximumf (broadcast S1x512 (Scalar.ofBits .f32 0xFF800000#32))
    (shapeCast S1x512 (multiReduction (F := Ideal) .maximumf [0] S512 (matmul (F := Ideal) dot_S256x128_S512x128_S256x512_1_1_0_0_n_n none (shapeCast S256x128 x2 shapeCasts_S1x256x128_S256x128 : FVec Ideal S256x128 .bf16) q (constant S256x512 .f32 0x00000000#32 : FVec Ideal S256x512 .f32))
      0xFF800000#32 reduces_S256x512_S512 (.inl rfl) rfl) shapeCasts_S512_S1x512)

/-- The weights with the maximum subtracted, as an array. -/
def eP (q : FVec Ideal S512x128 .bf16) (mx : FVec Ideal S1x512 .f32) (x2 : Vec Ideal S1x256x128 .bf16) : FVec Ideal S256x512 .f32 :=
  exp2 (subf (matmul (F := Ideal) dot_S256x128_S512x128_S256x512_1_1_0_0_n_n none (shapeCast S256x128 x2 shapeCasts_S1x256x128_S256x128 : FVec Ideal S256x128 .bf16) q (constant S256x512 .f32 0x00000000#32 : FVec Ideal S256x512 .f32))
    (broadcastTo S256x512 mx broadcasts_S1x512_S256x512))

/-- The weights without it. -/
def eU (q : FVec Ideal S512x128 .bf16) (x2 : Vec Ideal S1x256x128 .bf16) : FVec Ideal S256x512 .f32 :=
  exp2 (matmul (F := Ideal) dot_S256x128_S512x128_S256x512_1_1_0_0_n_n none (shapeCast S256x128 x2 shapeCasts_S1x256x128_S256x128 : FVec Ideal S256x128 .bf16) q (constant S256x512 .f32 0x00000000#32 : FVec Ideal S256x512 .f32))

/-- The two halves' averages, at stacked query and lane. -/
def avg (p : FVec Ideal S256x512 .f32) (x3 : Vec Ideal S1x128x256 .bf16) : FVec Ideal S128x512 .f32 :=
  divf (addf (broadcast S128x512 (Scalar.ofBits .f32 0x00000000#32)) (matmul (F := Ideal) dot_S128x256_S256x512_S128x512_1_0_0_1_n_n none (shapeCast S128x256 x3 shapeCasts_S1x128x256_S128x256 : FVec Ideal S128x256 .bf16) (truncf .bf16 p bitsLt_bf16_f32) (constant S128x512 .f32 0x00000000#32 : FVec Ideal S128x512 .f32)))
    (broadcastTo S128x512 (addf (broadcast S1x512 (Scalar.ofBits .f32 0x00000000#32)) (shapeCast S1x512 (multiReduction (F := Ideal) .add [0] S512 p 0x00000000#32 reduces_S256x512_S512 (.inl rfl) rfl) shapeCasts_S512_S1x512)) broadcasts_S1x512_S128x512)

/-- Their difference. -/
def dif (l : FVec Ideal S1x1 .f32) (a : FVec Ideal S128x512 .f32) : FVec Ideal S128x256 .f32 :=
  subf (extractStridedSlice S128x256 ![0, 0] a slices_S128x512_o0_0_S128x256) (mulf (broadcastTo S128x256 l broadcasts_S1x1_S128x256) (extractStridedSlice S128x256 ![0, 256] a slices_S128x512_o0_256_S128x256))

/-- The difference, over its root mean square. -/
def nrm (o : FVec Ideal S128x256 .f32) : FVec Ideal S128x256 .f32 :=
  mulf o (broadcastTo S128x256 (rsqrt (addf (divf (shapeCast S1x256 (multiReduction (F := Ideal) .add [0] S256 (mulf o o) 0x00000000#32 reduces_S128x256_S256 (.inl rfl) rfl) shapeCasts_S256_S1x256) (broadcast S1x256 (Scalar.ofBits .f32 0x43000000#32))) (broadcast S1x256 (Scalar.ofBits .f32 0x358637BD#32)))) broadcasts_S1x256_S128x256)

theorem outU_def (l : FVec Ideal S1x1 .f32) (q : FVec Ideal S512x128 .bf16) (x2 : Vec Ideal S1x256x128 .bf16) (x3 : Vec Ideal S1x128x256 .bf16) (x4 : Vec Ideal S128x1 .f32) :
    outU l q x2 x3 x4 = k0_pay2 (F := Ideal) (nrm (dif l (avg (eU q x2) x3))) x4 := rfl

theorem outP_def (l : FVec Ideal S1x1 .f32) (q : FVec Ideal S512x128 .bf16) (x2 : Vec Ideal S1x256x128 .bf16) (x3 : Vec Ideal S1x128x256 .bf16) (x4 : Vec Ideal S128x1 .f32) :
    outP l q x2 x3 x4 = k0_pay2 (F := Ideal) (nrm (dif l (avg (eP q (mxK q x2) x2) x3))) x4 := rfl

theorem eP_at (q : FVec Ideal S512x128 .bf16) (mx : FVec Ideal S1x512 .f32) (x2 : Vec Ideal S1x256x128 .bf16) (j : Fin 256) (r : Fin 512) : eP q mx x2 (ix2 j r) = wP q x2 mx j r := by
  unfold wP sc
  pointwise [eP]

theorem eU_at (q : FVec Ideal S512x128 .bf16) (x2 : Vec Ideal S1x256x128 .bf16) (j : Fin 256) (r : Fin 512) : eU q x2 (ix2 j r) = wU q x2 j r := by
  unfold wU sc
  pointwise [eU]

theorem avg_at (p : FVec Ideal S256x512 .f32) (x3 : Vec Ideal S1x128x256 .bf16) (e : Fin 128) (r : Fin 512) :
    avg p x3 (ix2 e r) = Ideal.div (∑ j : Fin 256, x3 (ix3 0 e j) * p (ix2 j r)) (∑ j : Fin 256, p (ix2 j r)) := by
  pointwise [avg]

theorem dif_at (l : FVec Ideal S1x1 .f32) (a : FVec Ideal S128x512 .f32) (e : Fin 128) (r : Fin 256) :
    dif l a (ix2 e r) = a (ix2 e ⟨r.val, by omega⟩) - l (ix2 0 0) * a (ix2 e ⟨256 + r.val, by omega⟩) := by
  pointwise [dif]

theorem nrm_at (o : FVec Ideal S128x256 .f32) (e : Fin 128) (r : Fin 256) :
    nrm o (ix2 e r) = o (ix2 e r) * Ideal.rsqrt (Ideal.div (∑ x, o (ix2 x r) * o (ix2 x r)) (Ideal.ofBits .f32 0x43000000#32) + Ideal.ofBits .f32 0x358637BD#32) := by
  pointwise [nrm]

theorem pay2_at (o : FVec Ideal S128x256 .f32) (x4 : FVec Ideal S128x1 .f32) (r : Fin 256) (e : Fin 128) :
    k0_pay2 (F := Ideal) o x4 (ix3 0 r e) = o (ix2 e r) * x4 (ix2 e 0) * Ideal.ofBits .f32 0x3F24FD5C#32 := by
  pointwise [k0_pay2]

theorem fin_eq (w : Fin 256 → Fin 512 → EReal) (l : FVec Ideal S1x1 .f32) (p : FVec Ideal S256x512 .f32) (x3 : Vec Ideal S1x128x256 .bf16) (x4 : Vec Ideal S128x1 .f32) (r : Fin 256) (e : Fin 128)
    (h : ∀ j r, p (ix2 j r) = w j r) : k0_pay2 (F := Ideal) (nrm (dif l (avg p x3))) x4 (ix3 0 r e) = fin (mixO w (l (ix2 0 0)) x3) x4 e r := by
  have d : ∀ e, dif l (avg p x3) (ix2 e r) = mixO w (l (ix2 0 0)) x3 e r := fun e => by
    rw [dif_at, avg_at, avg_at]
    unfold mixO
    simp only [h]
  rw [pay2_at, nrm_at]
  unfold fin
  simp only [d]

theorem outU_at (l : FVec Ideal S1x1 .f32) (q : FVec Ideal S512x128 .bf16) (x2 : Vec Ideal S1x256x128 .bf16) (x3 : Vec Ideal S1x128x256 .bf16) (x4 : Vec Ideal S128x1 .f32) (r : Fin 256) (e : Fin 128) :
    outU l q x2 x3 x4 (ix3 0 r e) = fin (mixO (wU q x2) (l (ix2 0 0)) x3) x4 e r :=
  (congrFun (outU_def l q x2 x3 x4) _).trans (fin_eq _ _ _ _ _ _ _ fun j r => eU_at q x2 j r)

theorem outP_at (l : FVec Ideal S1x1 .f32) (q : FVec Ideal S512x128 .bf16) (x2 : Vec Ideal S1x256x128 .bf16) (x3 : Vec Ideal S1x128x256 .bf16) (x4 : Vec Ideal S128x1 .f32) (r : Fin 256) (e : Fin 128) :
    outP l q x2 x3 x4 (ix3 0 r e) = fin (mixO (wP q x2 (mxK q x2)) (l (ix2 0 0)) x3) x4 e r :=
  (congrFun (outP_def l q x2 x3 x4) _).trans (fin_eq _ _ _ _ _ _ _ fun j r => eP_at q _ x2 j r)

end Cert.Kernel8Ideal.Att

end
-- ==== Proof.Att8Max.lean ====
module

public import proofs.«01_k».proof.Proof.AttMax
public import proofs.«01_k».proof.Proof.Att8Ref
public import proofs.«01_k».proof.Proof.Att8Pay

/-! A maximum of real numbers, taken from minus infinity up, is a real number. -/

@[expose] public section

set_option maxRecDepth 16384

noncomputable section

open Idealize.ShloMosaic Idealize.ShloMosaic.TcCoe Idealize.SL.Sem

namespace Cert.Reference8Ideal.Att

open Cert.Reference8Ideal Cert.Reference8Ideal.Gen

theorem RD_real (S : FVec Ideal S4x8x2x256x256 .f32) (h : ∀ i, ∃ r : ℝ, S i = (r : EReal)) (j : S4x8x2x256.Idx) :
    ∃ r : ℝ, Host.reduce (FloatOps.maximumf (F := Ideal) (φ := .f32)) S (constant S_ .f32 0xFF800000#32) reducesTo_S4x8x2x256x256_S4x8x2x256_d4 h_S_ j = (r : EReal) :=
  Cert.Att.hostRed_real (n4 := 256) (Nat.succ_pos _) S (constant S_ .f32 0xFF800000#32) (fun _ => Cert.Att.neg_inf) reducesTo_S4x8x2x256x256_S4x8x2x256_d4 h_S_ h j

theorem MX_real (S : FVec Ideal S4x8x2x256x256 .f32) (h : ∀ i, ∃ r : ℝ, S i = (r : EReal)) (j : S4x8x2x256.Idx) : ∃ r : ℝ, MX S j = (r : EReal) := by
  unfold MX
  exact Cert.Att.max_at_real _ _ j (.inl Cert.Att.neg_inf) (RD_real S h j)

end Cert.Reference8Ideal.Att

namespace Cert.Kernel8Ideal.Att

open Cert.Kernel8Ideal Cert.Kernel8Ideal.Gen

theorem mm_at (q : FVec Ideal S512x128 .bf16) (k : Vec Ideal S1x256x128 .bf16) (i : S256x512.Idx) :
    matmul (F := Ideal) dot_S256x128_S512x128_S256x512_1_1_0_0_n_n none (shapeCast S256x128 k shapeCasts_S1x256x128_S256x128 : FVec Ideal S256x128 .bf16) q (constant S256x512 .f32 0x00000000#32 : FVec Ideal S256x512 .f32) i
      = sc q k (i 0) (i 1) := by
  pointwise [sc]

theorem red_real (v : FVec Ideal S256x512 .f32) (h : ∀ i, ∃ r : ℝ, v i = (r : EReal)) (j : S512.Idx) :
    ∃ r : ℝ, multiReduction (F := Ideal) .maximumf [0] S512 v 0xFF800000#32 reduces_S256x512_S512 (.inl rfl) rfl j = (r : EReal) :=
  Cert.Att.kernRed_real (Nat.succ_pos _) v reduces_S256x512_S512 h j

theorem mxK_real (q : FVec Ideal S512x128 .bf16) (x2 : Vec Ideal S1x256x128 .bf16) (h : ∀ j r, ∃ s : ℝ, sc q x2 j r = (s : EReal)) (y : S1x512.Idx) :
    ∃ s : ℝ, mxK q x2 y = (s : EReal) := by
  unfold mxK
  refine Cert.Att.max_at_real _ _ y (.inl Cert.Att.neg_inf) (red_real _ (fun i => ?_) _)
  obtain ⟨s, hs⟩ := h (i 0) (i 1)
  exact ⟨s, (mm_at q x2 i).trans hs⟩

end Cert.Kernel8Ideal.Att
end
-- ==== Proof.Att8Val.lean ====
module

public import proofs.«01_k».proof.Proof.Att8Max

/-! The attention's stored block over the real numbers, against the reference's weights. -/

@[expose] public section

set_option maxRecDepth 16384

noncomputable section

open Idealize.ShloMosaic Idealize.ShloMosaic.TcCoe Idealize.SL.Sem

namespace Cert.Reference8Ideal.Att

open Cert.Reference8Ideal Cert.Reference8Ideal.Gen

theorem SC_at (Q K : FVec Ideal S4x4352x1024 .f32) (b : Fin 4) (h : Fin 8) (c : Fin 2) (n : Fin 256) (j : Fin 256) :
    SC Q K (ix5 b h c n j) = (∑ x : Fin 64, Q (ix3 b ⟨n.val, by omega⟩ ⟨h.val * 128 + c.val * 64 + x.val, by omega⟩) * K (ix3 b ⟨j.val, by omega⟩ ⟨h.val * 128 + c.val * 64 + x.val, by omega⟩))
      * Ideal.ofBits .f32 0x3E000000#32 := by
  pointwise [SC]

theorem EX_at (S : FVec Ideal S4x8x2x256x256 .f32) (M : FVec Ideal S4x8x2x256 .f32) (b : Fin 4) (h : Fin 8) (c : Fin 2) (n : Fin 256) (j : Fin 256) :
    EX S M (ix5 b h c n j) = Ideal.exp (S (ix5 b h c n j) - M (ix4 b h c n)) := by
  pointwise [EX]

theorem PR_at (E : FVec Ideal S4x8x2x256x256 .f32) (b : Fin 4) (h : Fin 8) (c : Fin 2) (n : Fin 256) (j : Fin 256) :
    PR E (ix5 b h c n j) = Ideal.div (E (ix5 b h c n j)) (∑ x, E (ix5 b h c n x)) := by
  pointwise [PR]

theorem MIX_at (l : FVec Ideal S_ .f32) (P : FVec Ideal S4x8x2x256x256 .f32) (b : Fin 4) (h : Fin 8) (n : Fin 256) (j : Fin 256) :
    MIX l P (ix4 b h n j) = P (ix5 b h 0 n j) - l ix0 * P (ix5 b h 1 n j) := by
  pointwise [MIX]

theorem LAM_at (L : FVec Ideal S4x64 .f32) :
    LAM L ix0 = Ideal.exp (∑ x : Fin 64, L (ix2 0 x) * L (ix2 1 x)) - Ideal.exp (∑ x : Fin 64, L (ix2 2 x) * L (ix2 3 x)) + Ideal.ofBits .f32 0x3EB60549#32 := by
  pointwise [LAM]

theorem AV_at (V : FVec Ideal S4x4352x1024 .f32) (A : FVec Ideal S4x8x256x256 .f32) (b : Fin 4) (n : Fin 256) (h : Fin 8) (e : Fin 128) :
    AV V A (ix4 b n h e) = ∑ x : Fin 256, V (ix3 b ⟨x.val, by omega⟩ ⟨h.val * 128 + e.val, by omega⟩) * A (ix4 b h n x) := by
  pointwise [AV]

theorem NRM_at (o : FVec Ideal S4x256x8x128 .f32) (g : FVec Ideal S128 .f32) (b : Fin 4) (n : Fin 256) (h : Fin 8) (e : Fin 128) :
    NRM o g (ix4 b n h e) = o (ix4 b n h e) * Ideal.rsqrt (Ideal.div (∑ x, o (ix4 b n h x) * o (ix4 b n h x)) (Ideal.ofBits .f32 0x43000000#32) + Ideal.ofBits .f32 0x358637BD#32)
      * g (ix1 e) * Ideal.ofBits .f32 0x3F24FD5C#32 := by
  pointwise [NRM]

theorem REF_at (L : FVec Ideal S4x64 .f32) (Q K V : FVec Ideal S4x4352x1024 .f32) (g : FVec Ideal S128 .f32) (b : Fin 4) (n : Fin 256) (h : Fin 8) (e : Fin 128) :
    REF L Q K V g (ix3 b n ⟨h.val * 128 + e.val, by omega⟩) = NRM (AV V (MIX (LAM L) (PR (WT Q K)))) g (ix4 b n h e) := by
  unfold REF
  generalize NRM (AV V (MIX (LAM L) (PR (WT Q K)))) g = w
  pointwise []

/-- The score of query `n` and key `j` in half `c` of head `h`. -/
def SR (q k : S4x4352x1024.Idx → ℝ) (b : Fin 4) (h : Fin 8) (c : Fin 2) (n : Fin 256) (j : Fin 256) : ℝ :=
  (∑ x : Fin 64, q (ix3 b ⟨n.val, by omega⟩ ⟨h.val * 128 + c.val * 64 + x.val, by omega⟩) * k (ix3 b ⟨j.val, by omega⟩ ⟨h.val * 128 + c.val * 64 + x.val, by omega⟩)) * (1 / 8)

theorem SC_real (Q K : FVec Ideal S4x4352x1024 .f32) (q k : S4x4352x1024.Idx → ℝ) (hQ : ∀ i, Q i = (q i : EReal)) (hK : ∀ i, K i = (k i : EReal))
    (b : Fin 4) (h : Fin 8) (c : Fin 2) (n : Fin 256) (j : Fin 256) : SC Q K (ix5 b h c n j) = (SR q k b h c n j : EReal) := by
  refine (SC_at Q K b h c n j).trans ?_
  rw [Cert.Att.eighth]
  unfold SR
  rw [EReal.coe_mul, ← Cert.Att.sum_real]
  refine congrArg (· * _) (Finset.sum_congr rfl fun x _ => ?_)
  rw [hQ, hK, EReal.coe_mul]

theorem LAM_real (L : FVec Ideal S4x64 .f32) (l : S4x64.Idx → ℝ) (hL : ∀ i, L i = (l i : EReal)) : ∃ r : ℝ, LAM L ix0 = (r : EReal) := by
  obtain ⟨r, hr⟩ := Cert.Att.lam_real
  refine ⟨Real.exp (∑ x : Fin 64, l (ix2 0 x) * l (ix2 1 x)) - Real.exp (∑ x : Fin 64, l (ix2 2 x) * l (ix2 3 x)) + r, ?_⟩
  refine (LAM_at L).trans ?_
  rw [hr, EReal.coe_add, EReal.coe_sub, ← Ideal.exp_coe, ← Ideal.exp_coe, ← Cert.Att.sum_real, ← Cert.Att.sum_real]
  simp only [hL, EReal.coe_mul]

theorem AV_real (L : FVec Ideal S4x64 .f32) (Q K V : FVec Ideal S4x4352x1024 .f32) (q k : S4x4352x1024.Idx → ℝ) (hQ : ∀ i, Q i = (q i : EReal)) (hK : ∀ i, K i = (k i : EReal))
    (b : Fin 4) (n : Fin 256) (h : Fin 8) : ∃ M0 M1 : ℝ, ∀ e, AV V (MIX (LAM L) (PR (WT Q K))) (ix4 b n h e)
      = ∑ x : Fin 256, V (ix3 b ⟨x.val, by omega⟩ ⟨h.val * 128 + e.val, by omega⟩) * (Ideal.div ((Real.exp (SR q k b h 0 n x - M0) : ℝ) : EReal) (∑ y, ((Real.exp (SR q k b h 0 n y - M0) : ℝ) : EReal))
        - LAM L ix0 * Ideal.div ((Real.exp (SR q k b h 1 n x - M1) : ℝ) : EReal) (∑ y, ((Real.exp (SR q k b h 1 n y - M1) : ℝ) : EReal))) := by
  have hS : ∀ i, ∃ r : ℝ, SC Q K i = (r : EReal) := fun i => by
    obtain ⟨r, hr⟩ : ∃ r : ℝ, SC Q K (ix5 (i 0) (i 1) (i 2) (i 3) (i 4)) = (r : EReal) := ⟨_, SC_real Q K q k hQ hK (i 0) (i 1) (i 2) (i 3) (i 4)⟩
    exact ⟨r, (congrArg (SC Q K) (ix5_eta i)).symm.trans hr⟩
  obtain ⟨M0, h0⟩ := MX_real (SC Q K) hS (ix4 b h 0 n)
  obtain ⟨M1, h1⟩ := MX_real (SC Q K) hS (ix4 b h 1 n)
  have w0 : ∀ x, WT Q K (ix5 b h 0 n x) = ((Real.exp (SR q k b h 0 n x - M0) : ℝ) : EReal) := fun x =>
    (EX_at _ _ b h 0 n x).trans (by rw [h0, SC_real Q K q k hQ hK, ← EReal.coe_sub, Ideal.exp_coe])
  have w1 : ∀ x, WT Q K (ix5 b h 1 n x) = ((Real.exp (SR q k b h 1 n x - M1) : ℝ) : EReal) := fun x =>
    (EX_at _ _ b h 1 n x).trans (by rw [h1, SC_real Q K q k hQ hK, ← EReal.coe_sub, Ideal.exp_coe])
  refine ⟨M0, M1, fun e => (AV_at V _ b n h e).trans (Finset.sum_congr rfl fun x _ => congrArg (_ * ·) ?_)⟩
  refine (MIX_at _ _ b h n x).trans ?_
  rw [PR_at, PR_at]
  simp only [w0, w1]

end Cert.Reference8Ideal.Att

namespace Cert.Kernel8Ideal.Att

open Cert.Kernel8Ideal Cert.Kernel8Ideal.Gen

/-- The two halves' averages and their difference, at weights that are powers of two of the scores less a number of each row. -/
theorem mixO_eq (w : Fin 256 → Fin 512 → EReal) (l : ℝ) (x3 : Vec Ideal S1x128x256 .bf16) (e : Fin 128) (r : Fin 256) (v s0 s1 : Fin 256 → ℝ) (M0 M1 m0 m1 : ℝ)
    (hv : ∀ j, x3 (ix3 0 e j) = (v j : EReal))
    (h0 : ∀ j, w j ⟨r.val, by omega⟩ = ((Real.rpow 2 (s0 j * (Real.log 2)⁻¹ - m0) : ℝ) : EReal))
    (h1 : ∀ j, w j ⟨256 + r.val, by omega⟩ = ((Real.rpow 2 (s1 j * (Real.log 2)⁻¹ - m1) : ℝ) : EReal)) :
    mixO w (l : EReal) x3 e r = ∑ j, (v j : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal))) := by
  haveI : Nonempty (Fin 256) := ⟨0⟩
  unfold mixO
  simp only [hv, h0, h1]
  exact Cert.Att.mixed v l _ _ _ _ _ _ (Real.exp_pos (M0 - m0 * Real.log 2)) (Real.exp_pos (M1 - m1 * Real.log 2)) (fun _ => Real.exp_pos _) (fun _ => Real.exp_pos _)
    (fun j => Cert.Att.two_pow (s0 j) m0 M0) (fun j => Cert.Att.two_pow (s1 j) m1 M1)

/-- The number the scale of the queries is named. -/
theorem kappa : (Named.named (F := Ideal) κ "score_scale" (φ := .f32) 0x3E38AA3B#32 : EReal) = (((8 * Real.log 2)⁻¹ : ℝ) : EReal) := rfl

theorem lt64 : ∀ d : Fin 128, IntOp.cmpi .slt (BitVec.ofNat 32 d.val) 64#32 = if d.val < 64 then 1#1 else 0#1 := by decide +kernel

theorem qcat_lo (x1 : Vec Ideal S1x256x128 .f32) (r : Fin 256) (d : Fin 128) :
    k0_pay6 (F := Ideal) x1 (ix2 ⟨r.val, by omega⟩ d) = if d.val < 64 then x1 (ix3 0 r d) * (((8 * Real.log 2)⁻¹ : ℝ) : EReal) else 0 := by
  have hr := r.isLt
  rw [← kappa]
  pointwise [k0_pay6]
  rw [lt64]
  by_cases h : d.val < 64
  · rw [if_pos h, if_pos h]; rfl
  · rw [if_neg h, if_neg h]; rfl

theorem qcat_hi (x1 : Vec Ideal S1x256x128 .f32) (r : Fin 256) (d : Fin 128) :
    k0_pay6 (F := Ideal) x1 (ix2 ⟨256 + r.val, by omega⟩ d) = if d.val < 64 then 0 else x1 (ix3 0 r d) * (((8 * Real.log 2)⁻¹ : ℝ) : EReal) := by
  have hr := r.isLt
  rw [← kappa]
  pointwise [k0_pay6]
  rw [lt64]
  by_cases h : d.val < 64
  · rw [if_pos h, if_pos h]; rfl
  · rw [if_neg h, if_neg h]; rfl

theorem half (f : Fin 128 → EReal) : ∑ d, f d = (∑ x : Fin 64, f ⟨x.val, by omega⟩) + ∑ x : Fin 64, f ⟨64 + x.val, by omega⟩ :=
  Fin.sum_univ_add (a := 64) (b := 64) f

theorem scale_real (a b : Fin 64 → ℝ) : (∑ x, (b x : EReal) * ((a x : EReal) * (((8 * Real.log 2)⁻¹ : ℝ) : EReal)))
    = ((((∑ x, a x * b x) * (1 / 8)) * (Real.log 2)⁻¹ : ℝ) : EReal) := by
  have e : ((∑ x, a x * b x) * (1 / 8)) * (Real.log 2)⁻¹ = ∑ x, b x * (a x * (8 * Real.log 2)⁻¹) := by
    rw [mul_assoc, Finset.sum_mul]
    refine Finset.sum_congr rfl fun x _ => ?_
    rw [mul_inv]; ring
  rw [e, ← Cert.Att.sum_real]
  refine Finset.sum_congr rfl fun x _ => ?_
  rw [EReal.coe_mul, EReal.coe_mul]

theorem sc_lo (x1 : Vec Ideal S1x256x128 .f32) (x2 : Vec Ideal S1x256x128 .bf16) (j : Fin 256) (r : Fin 256) (q k : Fin 128 → ℝ)
    (hq : ∀ d, x1 (ix3 0 r d) = (q d : EReal)) (hk : ∀ d, x2 (ix3 0 j d) = (k d : EReal)) :
    sc (k0_pay6 (F := Ideal) x1) x2 j ⟨r.val, by omega⟩
      = ((((∑ x : Fin 64, q ⟨x.val, by omega⟩ * k ⟨x.val, by omega⟩) * (1 / 8)) * (Real.log 2)⁻¹ : ℝ) : EReal) := by
  unfold sc
  rw [half, ← scale_real, ← add_zero (∑ x : Fin 64, _ * (_ * _))]
  refine congrArg₂ (· + ·) (Finset.sum_congr rfl fun x _ => ?_) (Finset.sum_eq_zero fun x _ => ?_)
  · rw [hk, qcat_lo, if_pos x.isLt, hq]
  · rw [qcat_lo, if_neg (by simp), mul_zero]

theorem sc_hi (x1 : Vec Ideal S1x256x128 .f32) (x2 : Vec Ideal S1x256x128 .bf16) (j : Fin 256) (r : Fin 256) (q k : Fin 128 → ℝ)
    (hq : ∀ d, x1 (ix3 0 r d) = (q d : EReal)) (hk : ∀ d, x2 (ix3 0 j d) = (k d : EReal)) :
    sc (k0_pay6 (F := Ideal) x1) x2 j ⟨256 + r.val, by omega⟩
      = ((((∑ x : Fin 64, q ⟨64 + x.val, by omega⟩ * k ⟨64 + x.val, by omega⟩) * (1 / 8)) * (Real.log 2)⁻¹ : ℝ) : EReal) := by
  unfold sc
  rw [half, ← scale_real, ← zero_add (∑ x : Fin 64, _ * (_ * _))]
  refine congrArg₂ (· + ·) (Finset.sum_eq_zero fun x _ => ?_) (Finset.sum_congr rfl fun x _ => ?_)
  · rw [qcat_hi, if_pos x.isLt, mul_zero]
  · rw [hk, qcat_hi, if_neg (by simp), hq]

theorem fin_congr (o o' : Fin 128 → Fin 256 → EReal) (x4 : Vec Ideal S128x1 .f32) (e : Fin 128) (r : Fin 256) (h : ∀ e, o e r = o' e r) : fin o x4 e r = fin o' x4 e r := by
  unfold fin
  simp only [h]

theorem wU_eq (q : FVec Ideal S512x128 .bf16) (x2 : Vec Ideal S1x256x128 .bf16) (j : Fin 256) (r : Fin 512) (s : ℝ) (h : sc q x2 j r = (s : EReal)) :
    wU q x2 j r = ((Real.rpow 2 (s - 0) : ℝ) : EReal) := by
  unfold wU
  rw [h, sub_zero]
  exact Ideal.exp2_coe _

theorem wP_eq (q : FVec Ideal S512x128 .bf16) (x2 : Vec Ideal S1x256x128 .bf16) (mx : FVec Ideal S1x512 .f32) (j : Fin 256) (r : Fin 512) (s m : ℝ) (h : sc q x2 j r = (s : EReal)) (hm : mx (ix2 0 r) = (m : EReal)) :
    wP q x2 mx j r = ((Real.rpow 2 (s - m) : ℝ) : EReal) := by
  unfold wP
  rw [h, hm, ← EReal.coe_sub]
  exact Ideal.exp2_coe _

/-- The block a grid point stores, over the real numbers: whichever branch runs, it is the norm of the reference's difference of averages. -/
theorem out_eq (w : BitVec 32) (x0 : Vec Ideal S4x64 .f32) (x1 : Vec Ideal S1x256x128 .f32) (x2 : Vec Ideal S1x256x128 .bf16) (x3 : Vec Ideal S1x128x256 .bf16) (x4 : Vec Ideal S128x1 .f32)
    (l : ℝ) (q : Fin 256 → Fin 128 → ℝ) (k v : Fin 256 → Fin 128 → ℝ) (hl : k0_pay5 (F := Ideal) x0 (ix2 0 0) = (l : EReal))
    (hq : ∀ r d, x1 (ix3 0 r d) = (q r d : EReal)) (hk : ∀ j d, x2 (ix3 0 j d) = (k j d : EReal)) (hv : ∀ e j, x3 (ix3 0 e j) = (v j e : EReal))
    (r : Fin 256) (e : Fin 128) (s0 s1 : Fin 256 → ℝ)
    (h0 : ∀ j, s0 j = (∑ x : Fin 64, q r ⟨x.val, by omega⟩ * k j ⟨x.val, by omega⟩) * (1 / 8))
    (h1 : ∀ j, s1 j = (∑ x : Fin 64, q r ⟨64 + x.val, by omega⟩ * k j ⟨64 + x.val, by omega⟩) * (1 / 8)) (M0 M1 : ℝ) :
    out (F := Ideal) w x0 x1 x2 x3 x4 (ix3 0 r e) = fin (fun e _ => ∑ j, (v j e : EReal) * (Ideal.div ((Real.exp (s0 j - M0) : ℝ) : EReal) (∑ y, ((Real.exp (s0 y - M0) : ℝ) : EReal))
        - (l : EReal) * Ideal.div ((Real.exp (s1 j - M1) : ℝ) : EReal) (∑ y, ((Real.exp (s1 y - M1) : ℝ) : EReal)))) x4 e r := by
  have c0 : ∀ j, sc (k0_pay6 (F := Ideal) x1) x2 j ⟨r.val, by omega⟩ = ((s0 j * (Real.log 2)⁻¹ : ℝ) : EReal) := fun j => by
    rw [h0]; exact sc_lo x1 x2 j r (q r) (k j) (hq r) (hk j)
  have c1 : ∀ j, sc (k0_pay6 (F := Ideal) x1) x2 j ⟨256 + r.val, by omega⟩ = ((s1 j * (Real.log 2)⁻¹ : ℝ) : EReal) := fun j => by
    rw [h1]; exact sc_hi x1 x2 j r (q r) (k j) (hq r) (hk j)
  unfold out
  by_cases hw : k0_cond1 w = 1#1
  · rw [if_pos hw]
    refine (outU_at _ _ x2 x3 x4 r e).trans (fin_congr _ _ x4 e r fun e => ?_)
    rw [hl]
    exact mixO_eq _ l x3 e r (fun j => v j e) s0 s1 M0 M1 0 0 (hv e) (fun j => wU_eq _ x2 j _ _ (c0 j)) (fun j => wU_eq _ x2 j _ _ (c1 j))
  · rw [if_neg hw]
    have hS : ∀ j r', ∃ s : ℝ, sc (k0_pay6 (F := Ideal) x1) x2 j r' = (s : EReal) := fun j r' => by
      by_cases h : r'.val < 256
      · exact ⟨_, sc_lo x1 x2 j ⟨r'.val, h⟩ (q _) (k j) (hq _) (hk j)⟩
      · have e : r' = ⟨256 + (r'.val - 256), by omega⟩ := Fin.ext (by simp; omega)
        rw [e]
        exact ⟨_, sc_hi x1 x2 j ⟨r'.val - 256, by omega⟩ (q _) (k j) (hq _) (hk j)⟩
    obtain ⟨m0, hm0⟩ := mxK_real _ x2 hS (ix2 0 ⟨r.val, by omega⟩)
    obtain ⟨m1, hm1⟩ := mxK_real _ x2 hS (ix2 0 ⟨256 + r.val, by omega⟩)
    refine (outP_at _ _ x2 x3 x4 r e).trans (fin_congr _ _ x4 e r fun e => ?_)
    rw [hl]
    exact mixO_eq _ l x3 e r (fun j => v j e) s0 s1 M0 M1 m0 m1 (hv e) (fun j => wP_eq _ x2 _ j _ _ _ (c0 j) hm0) (fun j => wP_eq _ x2 _ j _ _ _ (c1 j) hm1)

theorem lam_eq (x0 : Vec Ideal S4x64 .f32) (L : FVec Ideal Cert.Reference8Ideal.S4x64 .f32) (h : ∀ i, x0 i = L i) : k0_pay5 (F := Ideal) x0 (ix2 0 0) = Cert.Reference8Ideal.Att.LAM L Idealize.ShloMosaic.ix0 := by
  refine Eq.trans ?_ (Cert.Reference8Ideal.Att.LAM_at L).symm
  obtain rfl : x0 = L := funext h
  pointwise [k0_pay5]
  simp only [Fin.sum_univ_one]

end Cert.Kernel8Ideal.Att

end
-- ==== Proof.Att8Final.lean ====
module

public import proofs.«01_k».proof.Proof.Att8Val
public import proofs.«01_k».proof.Proof.Att8IdealFrame

/-! The attention's result array against the reference's. -/

@[expose] public section

set_option maxRecDepth 16384

noncomputable section

open Idealize.ShloMosaic Idealize.ShloMosaic.TcCoe Idealize.SL.Sem
open Idealize.ShloMosaic.Pipeline (Dat Cfg Window)

namespace Cert.Kernel8Ideal.Att

open Cert.Kernel8Ideal Cert.Kernel8Ideal.Gen

theorem idxs : ∀ t : Fin grid0.N, cc0_transform_0 (grid0.coords t) = ![0, 0]
    ∧ cc0_transform_1 (grid0.coords t) = ![t.val / 8, 0, t.val % 8]
    ∧ cc0_transform_2 (grid0.coords t) = ![t.val / 8, 0, t.val % 8]
    ∧ cc0_transform_3 (grid0.coords t) = ![t.val / 8, t.val % 8, 0]
    ∧ cc0_transform_4 (grid0.coords t) = ![0, 0]
    ∧ cc0_transform_5 (grid0.coords t) = ![t.val / 8, 0, t.val % 8] := by decide +kernel

/-- No index map reads the word: the blocks are those of any word. -/
abbrev adm0 : (pcfg0 (F := Ideal)).Adm := ⟨fun | ⟨0, _⟩ => fun _ => (0#32 : BitVec 32) | ⟨_ + 1, h⟩ => absurd h (Nat.not_lt.2 (Nat.le_add_left _ _)), by first | trivial | exact ⟨⟩ | decide⟩

theorem covers0 : ((cfg0 adm0).win 5).Covers := by decide +kernel

theorem covers (a : (pcfg0 (F := Ideal)).Adm) : ((cfg0 a).win 5).Covers := covers0

variable (m : (ℓ : Loc nD τ sig) → Buf (Elt Ideal) ℓ)

theorem idx (t : Fin (cfgT m).N) : ((cfgT m).win 0).index t = ![0, 0]
    ∧ ((cfgT m).win 1).index t = ![t.val / 8, 0, t.val % 8]
    ∧ ((cfgT m).win 2).index t = ![t.val / 8, 0, t.val % 8]
    ∧ ((cfgT m).win 3).index t = ![t.val / 8, t.val % 8, 0]
    ∧ ((cfgT m).win 4).index t = ![0, 0]
    ∧ ((cfgT m).win 5).index t = ![t.val / 8, 0, t.val % 8] := idxs t

theorem entry11 (c : Dev nD) : V m c main_v11 = (truncf .bf16 (m ((c : Thread nD τ).loc main_arg4) : FVec Ideal S4x4352x1024 .f32) bitsLt_bf16_f32 : FVec Ideal S4x4352x1024 .bf16) := by
  entry_read
  rfl

theorem entry1 (c : Dev nD) (y : S4x1024x4352.Idx) : V m c main_v1 y = m ((c : Thread nD τ).loc main_arg5) (ix3 (y 0) (y 2) (y 1)) := by
  entry_read
  pointwise []

theorem entry12 (c : Dev nD) (y : S128x1.Idx) : V m c main_v12 y = m ((c : Thread nD τ).loc main_arg6) (ix1 (y 0)) := by
  entry_read
  pointwise []

theorem blk0 (c : Dev nD) (t : Fin (cfgT m).N) (i : S4x64.Idx) : blkAt m c 0 t i = m ((c : Thread nD τ).loc main_arg2) i := by
  rw [← V_arg2 m c]
  blk_ext [blkAt, idx m t]

theorem blk1 (c : Dev nD) (t : Fin (cfgT m).N) (r : Fin 256) (d : Fin 128) : blkAt m c 1 t (ix3 0 r d)
    = m ((c : Thread nD τ).loc main_arg3) (ix3 ⟨t.val / 8, by have := t.isLt; change _ < 32 at this; omega⟩ ⟨r.val, by omega⟩ ⟨t.val % 8 * 128 + d.val, by omega⟩) := by
  rw [← V_arg3 m c]
  blk_ext [blkAt, idx m t]

theorem blk2 (c : Dev nD) (t : Fin (cfgT m).N) (j : Fin 256) (d : Fin 128) : blkAt m c 2 t (ix3 0 j d)
    = m ((c : Thread nD τ).loc main_arg4) (ix3 ⟨t.val / 8, by have := t.isLt; change _ < 32 at this; omega⟩ ⟨j.val, by omega⟩ ⟨t.val % 8 * 128 + d.val, by omega⟩) := by
  have h : blkAt m c 2 t (ix3 0 j d) = V m c main_v11 (ix3 ⟨t.val / 8, by have := t.isLt; change _ < 32 at this; omega⟩ ⟨j.val, by omega⟩ ⟨t.val % 8 * 128 + d.val, by omega⟩) := by
    blk_ext [blkAt, idx m t]
  exact h.trans (congrFun (entry11 m c) _)

theorem blk3 (c : Dev nD) (t : Fin (cfgT m).N) (e : Fin 128) (j : Fin 256) : blkAt m c 3 t (ix3 0 e j)
    = m ((c : Thread nD τ).loc main_arg5) (ix3 ⟨t.val / 8, by have := t.isLt; change _ < 32 at this; omega⟩ ⟨j.val, by omega⟩ ⟨t.val % 8 * 128 + e.val, by omega⟩) := by
  have h : blkAt m c 3 t (ix3 0 e j) = V m c main_v1 (ix3 ⟨t.val / 8, by have := t.isLt; change _ < 32 at this; omega⟩ ⟨t.val % 8 * 128 + e.val, by omega⟩ ⟨j.val, by omega⟩) := by
    blk_ext [blkAt, idx m t]
  exact h.trans (entry1 m c _)

theorem blk4 (c : Dev nD) (t : Fin (cfgT m).N) (e : Fin 128) : blkAt m c 4 t (ix2 e 0) = m ((c : Thread nD τ).loc main_arg6) (ix1 e) := by
  have h : blkAt m c 4 t (ix2 e 0) = V m c main_v12 (ix2 e 0) := by
    blk_ext [blkAt, idx m t]
  exact h.trans (entry12 m c _)

/-- Where the output's block puts row `r` and lane `e`. -/
theorem emb5 (t : Fin (cfgT m).N) (r : Fin 256) (e : Fin 128) (G : FVec Ideal S4x256x1024 .bf16) :
    G ((((cfgT m).win 5).blk t).view.emb (ix3 0 r e)) = G (ix3 ⟨t.val / 8, by have := t.isLt; change _ < 32 at this; omega⟩ r ⟨t.val % 8 * 128 + e.val, by omega⟩) := by
  blk_ext [idx m t]

theorem point (c : Dev nD) (l : S4x64.Idx → ℝ) (q k v : S4x4352x1024.Idx → ℝ)
    (hL : ∀ i, m ((c : Thread nD τ).loc main_arg2) i = (l i : EReal)) (hQ : ∀ i, m ((c : Thread nD τ).loc main_arg3) i = (q i : EReal))
    (hK : ∀ i, m ((c : Thread nD τ).loc main_arg4) i = (k i : EReal)) (hV : ∀ i, m ((c : Thread nD τ).loc main_arg5) i = (v i : EReal))
    (t : Fin (cfgT m).N) (r : Fin 256) (e : Fin 128) : outAt m c t (ix3 0 r e)
      = Cert.Reference8Ideal.Att.REF (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 8, by have := t.isLt; change _ < 32 at this; omega⟩ r ⟨t.val % 8 * 128 + e.val, by omega⟩) := by
  have ht : t.val < 32 := t.isLt
  obtain ⟨lam, hlam⟩ := Cert.Reference8Ideal.Att.LAM_real (m ((c : Thread nD τ).loc main_arg2)) l hL
  obtain ⟨M0, M1, hAV⟩ := Cert.Reference8Ideal.Att.AV_real (m ((c : Thread nD τ).loc main_arg2)) (m ((c : Thread nD τ).loc main_arg3)) (m ((c : Thread nD τ).loc main_arg4)) (m ((c : Thread nD τ).loc main_arg5)) q k hQ hK ⟨t.val / 8, by omega⟩ r ⟨t.val % 8, by omega⟩
  refine (out_eq _ _ _ _ _ _ lam (fun r d => q (ix3 ⟨t.val / 8, by have := t.isLt; change _ < 32 at this; omega⟩ ⟨r.val, by omega⟩ ⟨t.val % 8 * 128 + d.val, by omega⟩))
    (fun j d => k (ix3 ⟨t.val / 8, by have := t.isLt; change _ < 32 at this; omega⟩ ⟨j.val, by omega⟩ ⟨t.val % 8 * 128 + d.val, by omega⟩)) (fun j e => v (ix3 ⟨t.val / 8, by have := t.isLt; change _ < 32 at this; omega⟩ ⟨j.val, by omega⟩ ⟨t.val % 8 * 128 + e.val, by omega⟩))
    ((lam_eq _ _ (blk0 m c t)).trans hlam) (fun r d => (blk1 m c t r d).trans (hQ _)) (fun j d => (blk2 m c t j d).trans (hK _)) (fun e j => (blk3 m c t e j).trans (hV _))
    r e (Cert.Reference8Ideal.Att.SR q k ⟨t.val / 8, by omega⟩ ⟨t.val % 8, by omega⟩ 0 r) (Cert.Reference8Ideal.Att.SR q k ⟨t.val / 8, by omega⟩ ⟨t.val % 8, by omega⟩ 1 r) (fun j => ?_) (fun j => ?_) M0 M1).trans ?_
  · unfold Cert.Reference8Ideal.Att.SR
    simp
  · unfold Cert.Reference8Ideal.Att.SR
    simp [Nat.add_assoc]
  · refine Eq.trans ?_ (Cert.Reference8Ideal.Att.REF_at _ _ _ _ _ _ _ ⟨t.val % 8, by omega⟩ e).symm
    refine Eq.trans ?_ (Cert.Reference8Ideal.Att.NRM_at _ _ _ _ _ e).symm
    unfold fin
    simp only [hAV, hlam, hV, blk4 m c t e]

/-- An index of an output block is a row and a lane. -/
theorem rows (y : S1x256x128.Idx) : ∃ (r : Fin 256) (e : Fin 128), y = ix3 0 r e :=
  ⟨y 1, y 2, (ix3_eta y).symm.trans (congrArg (fun p => ix3 p (y 1) (y 2)) (Subsingleton.elim (α := Fin 1) _ _))⟩

theorem final (c : Dev nD) (hL : ∀ i, ∃ r : ℝ, m ((c : Thread nD τ).loc main_arg2) i = (r : EReal)) (hQ : ∀ i, ∃ r : ℝ, m ((c : Thread nD τ).loc main_arg3) i = (r : EReal))
    (hK : ∀ i, ∃ r : ℝ, m ((c : Thread nD τ).loc main_arg4) i = (r : EReal)) (hV : ∀ i, ∃ r : ℝ, m ((c : Thread nD τ).loc main_arg5) i = (r : EReal)) :
    (dat m 0 c).arrAt 5 (cfgT m).N
      = Cert.Reference8Ideal.Att.REF (m ((c : Thread nD τ).loc main_arg2)) (m ((c : Thread nD τ).loc main_arg3)) (m ((c : Thread nD τ).loc main_arg4)) (m ((c : Thread nD τ).loc main_arg5)) (m ((c : Thread nD τ).loc main_arg6)) := by
  choose l hl using hL
  choose q hq using hQ
  choose k hk using hK
  choose v hv using hV
  refine (dat m 0 c).arrAt_eq_of_covers 5 _ (covers (admT m)) fun t _ y => ?_
  obtain ⟨r, e, rfl⟩ := rows y
  refine Eq.trans ?_ (emb5 m t r e _).symm
  blk_simp
  rw [after5]
  exact point m c l q k v hl hq hk hv t r e

end Cert.Kernel8Ideal.Att

end
-- ==== Proof.Claims8.lean ====
module

public import proofs.«01_k».proof.Defs
public import proofs.«01_k».proof.Proof.Att8Frame
public import proofs.«01_k».proof.Proof.Att8IdealFrame
public import proofs.«01_k».proof.Proof.Claims1
public import proofs.«01_k».proof.Proof.Att8Final
public import proofs.«01_k».proof.Proof.Gen.Reference8Ideal.Run
public import Idealize.ShloMosaic.Lib.Claim

@[expose] public section

set_option maxRecDepth 16384

noncomputable section

open Idealize.ShloMosaic Idealize.ShloMosaic.TcCoe Idealize.SL.Sem

namespace Cert.Proof

/-- The context's attention finishes with its arguments unchanged, at the bit-exact values. -/
theorem frame8 : Cert.quiescent_Kernel8 := fun m ρ _ => Cert.Kernel8.Att.frame (F := Bits) m ρ

/-- The context's attention over the reals finishes with its arguments unchanged. -/
theorem frame8i : Cert.quiescent_Kernel8Ideal := fun m ρ _ => Cert.Kernel8Ideal.Att.frame (F := Ideal) m ρ

theorem frame8ip : Cert.quiescent_Kernel8Ideal_pre_finite := fun m ρ _ => Cert.Kernel8Ideal.Att.frame (F := Ideal) m ρ

/-- `Reference8Ideal`, a line of host operations without a counter, finishes with its arguments unchanged. -/
theorem frame8r : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame8rp : Cert.quiescent_Reference8Ideal_pre_finite := fun m ρ _ => frame8r m ρ trivial

/-- The one constant that is read as a real number is that number, rounded. -/
theorem preserves8 : Cert.preserves_Kernel8_Kernel8Ideal :=
  IdealRules.named_const.statement Cert.Kernel8Ideal.κ "score_scale" .f32 0x3E38AA3B#32 (((8 * (Real.log 2))⁻¹ : ℝ) : EReal) rfl

/-- On finite arguments the context's attention and its reference end with equal results. -/
theorem algebraic8 : Cert.algebraic_Kernel8Ideal_Reference8Ideal_pre_finite := by
  intro m g m' g' hpre hagree
  refine ⟨fun c => (Cert.Kernel8Ideal.Att.dat m 0 c).arrAt 5 (Cert.Kernel8Ideal.Att.cfgT m).N, Cert.Kernel8Ideal.Att.runs_out m g, ?_⟩
  refine (θ_run Cert.Reference8Ideal.defs _ _).mono (fun r h c => ?_) (Cert.Reference8Ideal.Value.run (F := Ideal) m' g')
  obtain ⟨e0, e1, e2, e3, e4, e5, e6⟩ := hagree c
  obtain ⟨h0, ha⟩ := h c
  obtain ⟨hL, hQ, hK, hV⟩ := Cert.Att.reals _ _ _ _ _ _ _ (hpre c)
  refine ⟨h0.trans ?_, ha⟩
  refine (Cert.Reference8Ideal.Att.res_eq m' c).trans ?_
  rw [e2, e3, e4, e5, e6]
  exact (Cert.Kernel8Ideal.Att.final m c hL hQ hK hV).symm

end Cert.Proof

end
-- ==== Proof.lean ====
module

public import proofs.«01_k».proof.Defs
public import proofs.«01_k».proof.Proof.Gen.Kernel.Launch
public import proofs.«01_k».proof.Proof.Gen.Kernel.Skeleton
public import proofs.«01_k».proof.Proof.Gen.KernelIdeal.Launch
public import proofs.«01_k».proof.Proof.Gen.KernelIdeal.Skeleton
public import proofs.«01_k».proof.Proof.Gen.ReferenceIdeal.Run
public import proofs.«01_k».proof.Proof.Gen.Kernel5.Launch
public import proofs.«01_k».proof.Proof.Gen.Kernel5.Skeleton
public import proofs.«01_k».proof.Proof.Gen.Kernel5Ideal.Launch
public import proofs.«01_k».proof.Proof.Gen.Kernel5Ideal.Skeleton
public import proofs.«01_k».proof.Proof.Gen.Reference5Ideal.Run
public import proofs.«01_k».proof.Proof.Gen.Kernel8.Launch
public import proofs.«01_k».proof.Proof.Gen.Kernel8.Skeleton
public import proofs.«01_k».proof.Proof.Gen.Kernel8Ideal.Launch
public import proofs.«01_k».proof.Proof.Gen.Kernel8Ideal.Skeleton
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Kernel6Ideal.Value
public import proofs.«01_k».proof.Proof.Gen.Kernel7Ideal.Value
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8

@[expose] public section

open Cert.Proof in
/-- Every claim of the certificate: twenty-four frames (six of them once more under the precondition), and for each kernel
    what its real reading changes and that it agrees with its reference. -/
theorem Cert.Proof.claim : Cert.Claim :=
  ⟨Cert.Kernel.Gen.facts, Cert.KernelIdeal.Gen.facts, Cert.ReferenceIdeal.Gen.facts,
    facts2, Cert.Kernel2Ideal.Gen.facts, Cert.Reference2Ideal.Gen.facts, facts3, Cert.Kernel3Ideal.Gen.facts, Cert.Reference3Ideal.Gen.facts,
    facts4, Cert.Kernel4Ideal.Gen.facts, Cert.Reference4Ideal.Gen.facts,
    Cert.Kernel5.Gen.facts, Cert.Kernel5Ideal.Gen.facts, Cert.Reference5Ideal.Gen.facts,
    facts6, Cert.Kernel6Ideal.Gen.facts, Cert.Reference6Ideal.Gen.facts, facts7, Cert.Kernel7Ideal.Gen.facts, Cert.Reference7Ideal.Gen.facts,
    Cert.Kernel8.Gen.facts, Cert.Kernel8Ideal.Gen.facts, Cert.Reference8Ideal.Gen.facts, factsP,
    frame1, frame1i, frame1ip, frame1r, frame1rp,
    frame2, frame2i, frame2r, frame3, frame3i, frame3r, frame4, frame4i, frame4r, frame5, frame5i, frame5ip, frame5r, frame5rp,
    frame6, frame6i, frame6r, frame7, frame7i, frame7r, frame8, frame8i, frame8ip, frame8r, frame8rp,
    preserves1, algebraic1, trivial, algebraic2, trivial, algebraic3, trivial, algebraic4, preserves5, algebraic5, trivial, algebraic6, trivial, algebraic7,
    preserves8, algebraic8⟩

end
